-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Up [hPre_counts : Cert.Pre_counts.Facts] (m : (ℓ : Loc Cert.Up.nD Cert.Up.τ Cert.Up.sig) → Buf (Elt Bits) ℓ) : Prop :=
  ∀ c : Dev Cert.Up.nD,
    (Cert.Pre_counts.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3))) = (fun _ => 1#1)

def Pre_UpIdeal [hPre_counts : Cert.Pre_counts.Facts] (m : (ℓ : Loc Cert.UpIdeal.nD Cert.UpIdeal.τ Cert.UpIdeal.sig) → Buf (Elt Ideal) ℓ) : Prop :=
  ∀ c : Dev Cert.UpIdeal.nD,
    (Cert.Pre_counts.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3))) = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_counts [hPre_counts : Cert.Pre_counts.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_counts.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3))) = (fun _ => 1#1)

def Pre_Down [hPre_counts_down : Cert.Pre_counts_down.Facts] (m : (ℓ : Loc Cert.Down.nD Cert.Down.τ Cert.Down.sig) → Buf (Elt Bits) ℓ) : Prop :=
  ∀ c : Dev Cert.Down.nD,
    (Cert.Pre_counts_down.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3))) = (fun _ => 1#1)

def Pre_DownIdeal [hPre_counts_down : Cert.Pre_counts_down.Facts] (m : (ℓ : Loc Cert.DownIdeal.nD Cert.DownIdeal.τ Cert.DownIdeal.sig) → Buf (Elt Ideal) ℓ) : Prop :=
  ∀ c : Dev Cert.DownIdeal.nD,
    (Cert.Pre_counts_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))) = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_counts_down [hPre_counts_down : Cert.Pre_counts_down.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_counts_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpRefIdeal (m : (ℓ : Loc Cert.GmlpRefIdeal.nD Cert.GmlpRefIdeal.τ Cert.GmlpRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5)
      ∧ r.2.mem ((c.tc : Thread Cert.OutprojRefIdeal.nD Cert.OutprojRefIdeal.τ).loc Cert.OutprojRefIdeal.main_arg6) = m ((c.tc : Thread Cert.OutprojRefIdeal.nD Cert.OutprojRefIdeal.τ).loc Cert.OutprojRefIdeal.main_arg6))
      ∧ r.2.sem = fun _ => 0)

def quiescent_Up [hUp : Cert.Up.Facts] [hPre_counts : Cert.Pre_counts.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] [hPre_counts : Cert.Pre_counts.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_UpRefIdeal_pre_counts [hUpRefIdeal : Cert.UpRefIdeal.Facts] [hPre_counts : Cert.Pre_counts.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_counts m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_Down [hDown : Cert.Down.Facts] [hPre_counts_down : Cert.Pre_counts_down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] [hPre_counts_down : Cert.Pre_counts_down.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_DownRefIdeal_pre_counts_down [hDownRefIdeal : Cert.DownRefIdeal.Facts] [hPre_counts_down : Cert.Pre_counts_down.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_counts_down m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)
      ∧ m' ((c.tc : Thread Cert.OutprojRefIdeal.nD Cert.OutprojRefIdeal.τ).loc Cert.OutprojRefIdeal.main_arg5) = m ((c.tc : Thread Cert.OutprojIdeal.nD Cert.OutprojIdeal.τ).loc Cert.OutprojIdeal.main_arg5)
      ∧ m' ((c.tc : Thread Cert.OutprojRefIdeal.nD Cert.OutprojRefIdeal.τ).loc Cert.OutprojRefIdeal.main_arg6) = m ((c.tc : Thread Cert.OutprojIdeal.nD Cert.OutprojIdeal.τ).loc Cert.OutprojIdeal.main_arg6)) →
    ∃ (v0 : (c : Dev Cert.OutprojIdeal.nD) → Buf (Elt Ideal) ((c.tc : Thread Cert.OutprojIdeal.nD Cert.OutprojIdeal.τ).loc Cert.OutprojIdeal.main_v3)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v3) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v18) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4)
          ∧ r.2.mem ((c.tc : Thread Cert.OutprojRefIdeal.nD Cert.OutprojRefIdeal.τ).loc Cert.OutprojRefIdeal.main_arg5) = m' ((c.tc : Thread Cert.OutprojRefIdeal.nD Cert.OutprojRefIdeal.τ).loc Cert.OutprojRefIdeal.main_arg5)
          ∧ r.2.mem ((c.tc : Thread Cert.OutprojRefIdeal.nD Cert.OutprojRefIdeal.τ).loc Cert.OutprojRefIdeal.main_arg6) = m' ((c.tc : Thread Cert.OutprojRefIdeal.nD Cert.OutprojRefIdeal.τ).loc Cert.OutprojRefIdeal.main_arg6))

def preserves_Up_UpIdeal : Prop :=
  True

def algebraic_UpIdeal_UpRefIdeal [hUpIdeal : Cert.UpIdeal.Facts] [hUpRefIdeal : Cert.UpRefIdeal.Facts] [hPre_counts : Cert.Pre_counts.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v31)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v31) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v48) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3))

def preserves_Down_DownIdeal : Prop :=
  True

def algebraic_DownIdeal_DownRefIdeal [hDownIdeal : Cert.DownIdeal.Facts] [hDownRefIdeal : Cert.DownRefIdeal.Facts] [hPre_counts_down : Cert.Pre_counts_down.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v31)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v31) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v31) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v12)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v12) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v41) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_Gmlp_GmlpIdeal : Prop :=
  True

def algebraic_GmlpIdeal_GmlpRefIdeal [hGmlpIdeal : Cert.GmlpIdeal.Facts] [hGmlpRefIdeal : Cert.GmlpRefIdeal.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpIdeal m →
    (∀ c : Dev Cert.GmlpIdeal.nD,
      m' ((c.tc : Thread Cert.GmlpRefIdeal.nD Cert.GmlpRefIdeal.τ).loc Cert.GmlpRefIdeal.main_arg0) = m ((c.tc : Thread Cert.GmlpIdeal.nD Cert.GmlpIdeal.τ).loc Cert.GmlpIdeal.main_arg0)
      ∧ m' ((c.tc : Thread Cert.GmlpRefIdeal.nD Cert.GmlpRefIdeal.τ).loc Cert.GmlpRefIdeal.main_arg1) = m ((c.tc : Thread Cert.GmlpIdeal.nD Cert.GmlpIdeal.τ).loc Cert.GmlpIdeal.main_arg1)
      ∧ m' ((c.tc : Thread Cert.GmlpRefIdeal.nD Cert.GmlpRefIdeal.τ).loc Cert.GmlpRefIdeal.main_arg2) = m ((c.tc : Thread Cert.GmlpIdeal.nD Cert.GmlpIdeal.τ).loc Cert.GmlpIdeal.main_arg2)
      ∧ m' ((c.tc : Thread Cert.GmlpRefIdeal.nD Cert.GmlpRefIdeal.τ).loc Cert.GmlpRefIdeal.main_arg3) = m ((c.tc : Thread Cert.GmlpIdeal.nD Cert.GmlpIdeal.τ).loc Cert.GmlpIdeal.main_arg3)) →
    ∃ (v0 : (c : Dev Cert.GmlpIdeal.nD) → Buf (Elt Ideal) ((c.tc : Thread Cert.GmlpIdeal.nD Cert.GmlpIdeal.τ).loc Cert.GmlpIdeal.main_v9)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v9) = v0 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          r.2.mem ((c.tc : Thread Cert.GmlpRefIdeal.nD Cert.GmlpRefIdeal.τ).loc Cert.GmlpRefIdeal.main_v34) = v0 c
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2)
          ∧ r.2.mem ((c.tc : Thread Cert.GmlpRefIdeal.nD Cert.GmlpRefIdeal.τ).loc Cert.GmlpRefIdeal.main_arg3) = m' ((c.tc : Thread Cert.GmlpRefIdeal.nD Cert.GmlpRefIdeal.τ).loc Cert.GmlpRefIdeal.main_arg3))

def Claim : Prop :=
  ∃ (hKernel : Cert.Kernel.Facts) (hKernelIdeal : Cert.KernelIdeal.Facts) (hReferenceIdeal : Cert.ReferenceIdeal.Facts) (hOutproj : Cert.Outproj.Facts) (hOutprojIdeal : Cert.OutprojIdeal.Facts) (hOutprojRefIdeal : Cert.OutprojRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hInproj : Cert.Inproj.Facts) (hInprojIdeal : Cert.InprojIdeal.Facts) (hInprojRefIdeal : Cert.InprojRefIdeal.Facts) (hGmlp : Cert.Gmlp.Facts) (hGmlpIdeal : Cert.GmlpIdeal.Facts) (hGmlpRefIdeal : Cert.GmlpRefIdeal.Facts) (hPre_finite : Cert.Pre_finite.Facts) (hPre_counts : Cert.Pre_counts.Facts) (hPre_counts_down : Cert.Pre_counts_down.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Up (hUp := hUp) (hPre_counts := hPre_counts)
    ∧ quiescent_UpIdeal (hUpIdeal := hUpIdeal) (hPre_counts := hPre_counts)
    ∧ quiescent_UpRefIdeal (hUpRefIdeal := hUpRefIdeal)
    ∧ quiescent_UpRefIdeal_pre_counts (hUpRefIdeal := hUpRefIdeal) (hPre_counts := hPre_counts)
    ∧ quiescent_Down (hDown := hDown) (hPre_counts_down := hPre_counts_down)
    ∧ quiescent_DownIdeal (hDownIdeal := hDownIdeal) (hPre_counts_down := hPre_counts_down)
    ∧ quiescent_DownRefIdeal (hDownRefIdeal := hDownRefIdeal)
    ∧ quiescent_DownRefIdeal_pre_counts_down (hDownRefIdeal := hDownRefIdeal) (hPre_counts_down := hPre_counts_down)
    ∧ quiescent_Inproj (hInproj := hInproj)
    ∧ quiescent_InprojIdeal (hInprojIdeal := hInprojIdeal)
    ∧ quiescent_InprojRefIdeal (hInprojRefIdeal := hInprojRefIdeal)
    ∧ quiescent_Gmlp (hGmlp := hGmlp)
    ∧ quiescent_GmlpIdeal (hGmlpIdeal := hGmlpIdeal)
    ∧ quiescent_GmlpRefIdeal (hGmlpRefIdeal := hGmlpRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Outproj_OutprojIdeal
    ∧ algebraic_OutprojIdeal_OutprojRefIdeal (hOutprojIdeal := hOutprojIdeal) (hOutprojRefIdeal := hOutprojRefIdeal)
    ∧ preserves_Up_UpIdeal
    ∧ algebraic_UpIdeal_UpRefIdeal (hUpIdeal := hUpIdeal) (hUpRefIdeal := hUpRefIdeal) (hPre_counts := hPre_counts)
    ∧ preserves_Down_DownIdeal
    ∧ algebraic_DownIdeal_DownRefIdeal (hDownIdeal := hDownIdeal) (hDownRefIdeal := hDownRefIdeal) (hPre_counts_down := hPre_counts_down)
    ∧ preserves_Inproj_InprojIdeal
    ∧ algebraic_InprojIdeal_InprojRefIdeal (hInprojIdeal := hInprojIdeal) (hInprojRefIdeal := hInprojRefIdeal)
    ∧ preserves_Gmlp_GmlpIdeal
    ∧ algebraic_GmlpIdeal_GmlpRefIdeal (hGmlpIdeal := hGmlpIdeal) (hGmlpRefIdeal := hGmlpRefIdeal)
-- ==== Pre_counts.lean ====
abbrev S8x128 : Shape := ⟨2, ![8, 128]⟩
abbrev S33792x1x4096 : Shape := ⟨3, ![33792, 1, 4096]⟩
abbrev S2x32x4096x1024 : Shape := ⟨4, ![2, 32, 4096, 1024]⟩
abbrev S2x32x1024 : Shape := ⟨3, ![2, 32, 1024]⟩
abbrev S1x32 : Shape := ⟨2, ![1, 32]⟩
abbrev S32 : Shape := ⟨1, ![32]⟩
abbrev S_ : Shape := ⟨0, ![]⟩

class Facts : Prop where
  slices_S8x128_S1x32_0_0 : S8x128.Slices ![0, 0] S1x32
  shapeCasts_S1x32_S32 : S1x32.ShapeCasts S32
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : IVec S8x128 32) (main_arg1 : FVec F S33792x1x4096 .f32) (main_arg2 : FVec F S2x32x4096x1024 .f32) (main_arg3 : FVec F S2x32x1024 .f32) : IVec S_ 1 :=
  let main_v0 : IVec S1x32 32 := (extractStridedSlice S1x32 ![0, 0] · slices_S8x128_S1x32_0_0) main_arg0
  let main_v1 : IVec S32 32 := shapeCast S32 main_v0 shapeCasts_S1x32_S32
  let main_c : IVec S_ 32 := constantI S_ 32 0#32
  let main_v2 : IVec S32 32 := broadcastInDim S32 ![] bcast_S_S32 main_c
  let main_v3 : IVec S32 1 := cmpi .sge main_v1 main_v2
  let main_c_0 : IVec S_ 1 := constantI S_ 1 1#1
  let main_v4 : IVec S_ 1 := (fun x v => Host.reduce IntOp.andi x v reducesTo_S32_S_d0 h_S_) main_v3 main_c_0
  let main_c_1 : IVec S_ 32 := constantI S_ 32 33792#32
  let main_v5 : IVec S32 32 := broadcastInDim S32 ![] bcast_S_S32 main_c_1
  let main_v6 : IVec S32 1 := cmpi .sle main_v1 main_v5
  let main_c_2 : IVec S_ 1 := constantI S_ 1 1#1
  let main_v7 : IVec S_ 1 := (fun x v => Host.reduce IntOp.andi x v reducesTo_S32_S_d0 h_S_) main_v6 main_c_2
  let main_v8 : IVec S_ 1 := andi main_v4 main_v7
  main_v8
-- ==== Pre_counts_down.lean ====
abbrev S8x128 : Shape := ⟨2, ![8, 128]⟩
abbrev S33792x512 : Shape := ⟨2, ![33792, 512]⟩
abbrev S2x32x512x4096 : Shape := ⟨4, ![2, 32, 512, 4096]⟩
abbrev S2x32x4096 : Shape := ⟨3, ![2, 32, 4096]⟩
abbrev S1x32 : Shape := ⟨2, ![1, 32]⟩
abbrev S32 : Shape := ⟨1, ![32]⟩
abbrev S_ : Shape := ⟨0, ![]⟩

class Facts : Prop where
  slices_S8x128_S1x32_0_0 : S8x128.Slices ![0, 0] S1x32
  shapeCasts_S1x32_S32 : S1x32.ShapeCasts S32
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : IVec S8x128 32) (main_arg1 : FVec F S33792x512 .bf16) (main_arg2 : FVec F S2x32x512x4096 .f32) (main_arg3 : FVec F S2x32x4096 .f32) : IVec S_ 1 :=
  let main_v0 : IVec S1x32 32 := (extractStridedSlice S1x32 ![0, 0] · slices_S8x128_S1x32_0_0) main_arg0
  let main_v1 : IVec S32 32 := shapeCast S32 main_v0 shapeCasts_S1x32_S32
  let main_c : IVec S_ 32 := constantI S_ 32 0#32
  let main_v2 : IVec S32 32 := broadcastInDim S32 ![] bcast_S_S32 main_c
  let main_v3 : IVec S32 1 := cmpi .sge main_v1 main_v2
  let main_c_0 : IVec S_ 1 := constantI S_ 1 1#1
  let main_v4 : IVec S_ 1 := (fun x v => Host.reduce IntOp.andi x v reducesTo_S32_S_d0 h_S_) main_v3 main_c_0
  let main_c_1 : IVec S_ 32 := constantI S_ 32 33792#32
  let main_v5 : IVec S32 32 := broadcastInDim S32 ![] bcast_S_S32 main_c_1
  let main_v6 : IVec S32 1 := cmpi .sle main_v1 main_v5
  let main_c_2 : IVec S_ 1 := constantI S_ 1 1#1
  let main_v7 : IVec S_ 1 := (fun x v => Host.reduce IntOp.andi x v reducesTo_S32_S_d0 h_S_) main_v6 main_c_2
  let main_v8 : IVec S_ 1 := andi main_v4 main_v7
  main_v8
-- ==== Pre_finite.lean ====
abbrev S8x8448x256 : Shape := ⟨3, ![8, 8448, 256]⟩
abbrev S8x8448x128 : Shape := ⟨3, ![8, 8448, 128]⟩
abbrev S_ : Shape := ⟨0, ![]⟩

class Facts : Prop where
  bcast_S_S8x8448x256 : S_.BroadcastsInDim S8x8448x256 (![] : Fin 0 → Fin S8x8448x256.rank)
  reducesTo_S8x8448x256_S_d0_1_2 : S8x8448x256.ReducesTo [0, 1, 2] S_
  h_S_ : 0 < S_.numel

variable [Facts]

def fn {F : FTy → Type} [FloatOps F] (main_arg0 : FVec F S8x8448x256 .bf16) (main_arg1 : FVec F S8x8448x256 .bf16) (main_arg2 : FVec F S8x8448x128 .bf16) : IVec S_ 1 :=
  let main_v0 : FVec F S8x8448x256 .bf16 := Host.absf main_arg0
  let main_cst : FVec F S_ .bf16 := constant S_ .bf16 0x7F80#16
  let main_v1 : FVec F S8x8448x256 .bf16 := broadcastInDim S8x8448x256 ![] bcast_S_S8x8448x256 main_cst
  let main_v2 : IVec S8x8448x256 1 := cmpf .olt main_v0 main_v1
  let main_c : IVec S_ 1 := constantI S_ 1 1#1
  let main_v3 : IVec S_ 1 := (fun x v => Host.reduce IntOp.andi x v reducesTo_S8x8448x256_S_d0_1_2 h_S_) main_v2 main_c
  let main_v4 : FVec F S8x8448x256 .bf16 := Host.absf main_arg1
  let main_cst_0 : FVec F S_ .bf16 := constant S_ .bf16 0x7F80#16
  let main_v5 : FVec F S8x8448x256 .bf16 := broadcastInDim S8x8448x256 ![] bcast_S_S8x8448x256 main_cst_0
  let main_v6 : IVec S8x8448x256 1 := cmpf .olt main_v4 main_v5
  let main_c_1 : IVec S_ 1 := constantI S_ 1 1#1
  let main_v7 : IVec S_ 1 := (fun x v => Host.reduce IntOp.andi x v reducesTo_S8x8448x256_S_d0_1_2 h_S_) main_v6 main_c_1
  let main_v8 : IVec S_ 1 := andi main_v3 main_v7
  main_v8
-- ==== Kernel.lean ====
abbrev S8x8448x256 : Shape := ⟨3, ![8, 8448, 256]⟩
abbrev S8x8448x128 : Shape := ⟨3, ![8, 8448, 128]⟩
abbrev S8448x1024 : Shape := ⟨2, ![8448, 1024]⟩
abbrev S1x256x256 : Shape := ⟨3, ![1, 256, 256]⟩
abbrev S1x8448x256 : Shape := ⟨3, ![1, 8448, 256]⟩
abbrev S1x8448x128 : Shape := ⟨3, ![1, 8448, 128]⟩
abbrev S256x128 : Shape := ⟨2, ![256, 128]⟩
abbrev S256x256 : Shape := ⟨2, ![256, 256]⟩
abbrev S256x1 : Shape := ⟨2, ![256, 1]⟩
abbrev S1x256x128 : Shape := ⟨3, ![1, 256, 128]⟩
abbrev S256 : Shape := ⟨1, ![256]⟩

abbrev nBuf : Space → Nat
  | .hbm => 4
  | .vmem => 8
  | .smem => 0
  | _ => 0

abbrev bufTy : (tb : Table) → Fin (tcTables nBuf tb) → BufTy
  | .hbm, ⟨0, _⟩ => ⟨S8x8448x256, .bf16⟩
  | .hbm, ⟨1, _⟩ => ⟨S8x8448x256, .bf16⟩
  | .hbm, ⟨2, _⟩ => ⟨S8x8448x128, .bf16⟩
  | .hbm, ⟨3, _⟩ => ⟨S8448x1024, .bf16⟩
  | .local _ .vmem, ⟨0, _⟩ => ⟨S1x256x256, .bf16⟩
  | .local _ .vmem, ⟨1, _⟩ => ⟨S1x256x256, .bf16⟩
  | .local _ .vmem, ⟨2, _⟩ => ⟨S1x8448x256, .bf16⟩
  | .local _ .vmem, ⟨3, _⟩ => ⟨S1x8448x256, .bf16⟩
  | .local _ .vmem, ⟨4, _⟩ => ⟨S1x8448x128, .bf16⟩
  | .local _ .vmem, ⟨5, _⟩ => ⟨S1x8448x128, .bf16⟩
  | .local _ .vmem, ⟨6, _⟩ => ⟨S256x128, .bf16⟩
  | .local _ .vmem, ⟨7, _⟩ => ⟨S256x128, .bf16⟩
  | _, _ => ⟨S8x8448x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 33], ![false, false]⟩

@[reducible] def k0_t1_loop (i : grid0.Coords) : Scf.Loop 32 :=
  let c0_i32_4 : BitVec 32 := 0#32
  let arg1 : BitVec 32 := BitVec.ofNat 32 (i 1).val
  let c0_i32 : BitVec 32 := 0#32
  let v2 : BitVec 1 := Scalar.cmpi .eq arg1 c0_i32
  let c1_i32 : BitVec 32 := 1#32
  let c33_i32 : BitVec 32 := 33#32
  let v3 : BitVec 32 := Scalar.select v2 c1_i32 c33_i32
  let v7 : BitVec 32 := Scalar.subi v3 c0_i32_4
  let c1_i32_5 : BitVec 32 := 1#32
  let v9 : BitVec 32 := Scalar.divsi v7 c1_i32_5
  let v10 : BitVec 32 := Scalar.muli v9 c1_i32_5
  let v11 : BitVec 32 := Scalar.addi c0_i32_4 v10
  let c1_i32_6 : BitVec 32 := 1#32
  ⟨c0_i32_4, v11, c1_i32_6⟩
def k0_mult1 (i : grid0.Coords) (k0_t1 : Fin (k0_t1_loop i).trips) : BitVec 32 :=
  let c0_i32_4 : BitVec 32 := 0#32
  let c1_i32_6 : BitVec 32 := 1#32
  let arg6 : BitVec 32 := Scf.iv c0_i32_4 c1_i32_6 k0_t1
  let c256_i32 : BitVec 32 := 256#32
  let v18 : BitVec 32 := Scalar.muli arg6 c256_i32
  v18
def k0_off1 (i : grid0.Coords) (k0_t1 : Fin (k0_t1_loop i).trips) : Fin 3 → Nat :=
  let c0_10 : Index := 0#32
  let c0_i32_4 : BitVec 32 := 0#32
  let c1_i32_6 : BitVec 32 := 1#32
  let arg6 : BitVec 32 := Scf.iv c0_i32_4 c1_i32_6 k0_t1
  let c256_i32 : BitVec 32 := 256#32
  let v18 : BitVec 32 := Scalar.muli arg6 c256_i32
  let v19 : BitVec 32 := v18
  let v20 : Index := Scalar.indexCast v19
  let c0_11 : Index := 0#32
  ![0, v20.toNat, 0]
def k0_off2 (i : grid0.Coords) (k0_t1 : Fin (k0_t1_loop i).trips) : Fin 3 → Nat :=
  let c0_12 : Index := 0#32
  let c0_i32_4 : BitVec 32 := 0#32
  let c1_i32_6 : BitVec 32 := 1#32
  let arg6 : BitVec 32 := Scf.iv c0_i32_4 c1_i32_6 k0_t1
  let c256_i32 : BitVec 32 := 256#32
  let v18 : BitVec 32 := Scalar.muli arg6 c256_i32
  let v19 : BitVec 32 := v18
  let v23 : Index := Scalar.indexCast v19
  let c0_13 : Index := 0#32
  ![0, v23.toNat, 0]
@[reducible] def k0_t2_loop (i : grid0.Coords) : Scf.Loop 32 :=
  let c0_i32_4 : BitVec 32 := 0#32
  let arg1 : BitVec 32 := BitVec.ofNat 32 (i 1).val
  let c0_i32 : BitVec 32 := 0#32
  let v2 : BitVec 1 := Scalar.cmpi .eq arg1 c0_i32
  let c1_i32 : BitVec 32 := 1#32
  let c33_i32 : BitVec 32 := 33#32
  let v3 : BitVec 32 := Scalar.select v2 c1_i32 c33_i32
  let v7 : BitVec 32 := Scalar.subi v3 c0_i32_4
  let c1_i32_5 : BitVec 32 := 1#32
  let v9 : BitVec 32 := Scalar.divsi v7 c1_i32_5
  let v10 : BitVec 32 := Scalar.muli v9 c1_i32_5
  let v11 : BitVec 32 := Scalar.addi c0_i32_4 v10
  let v8 : BitVec 32 := Scalar.addi c0_i32_4 v7
  let c1_i32_7 : BitVec 32 := 1#32
  ⟨v11, v8, c1_i32_7⟩
def k0_mult2 (i : grid0.Coords) (k0_t2 : Fin (k0_t2_loop i).trips) : BitVec 32 :=
  let c0_i32_4 : BitVec 32 := 0#32
  let arg1 : BitVec 32 := BitVec.ofNat 32 (i 1).val
  let c0_i32 : BitVec 32 := 0#32
  let v2 : BitVec 1 := Scalar.cmpi .eq arg1 c0_i32
  let c1_i32 : BitVec 32 := 1#32
  let c33_i32 : BitVec 32 := 33#32
  let v3 : BitVec 32 := Scalar.select v2 c1_i32 c33_i32
  let v7 : BitVec 32 := Scalar.subi v3 c0_i32_4
  let c1_i32_5 : BitVec 32 := 1#32
  let v9 : BitVec 32 := Scalar.divsi v7 c1_i32_5
  let v10 : BitVec 32 := Scalar.muli v9 c1_i32_5
  let v11 : BitVec 32 := Scalar.addi c0_i32_4 v10
  let c1_i32_7 : BitVec 32 := 1#32
  let arg6 : BitVec 32 := Scf.iv v11 c1_i32_7 k0_t2
  let c256_i32 : BitVec 32 := 256#32
  let v18 : BitVec 32 := Scalar.muli arg6 c256_i32
  v18
def k0_off3 (i : grid0.Coords) (k0_t2 : Fin (k0_t2_loop i).trips) : Fin 3 → Nat :=
  let c0_10 : Index := 0#32
  let c0_i32_4 : BitVec 32 := 0#32
  let arg1 : BitVec 32 := BitVec.ofNat 32 (i 1).val
  let c0_i32 : BitVec 32 := 0#32
  let v2 : BitVec 1 := Scalar.cmpi .eq arg1 c0_i32
  let c1_i32 : BitVec 32 := 1#32
  let c33_i32 : BitVec 32 := 33#32
  let v3 : BitVec 32 := Scalar.select v2 c1_i32 c33_i32
  let v7 : BitVec 32 := Scalar.subi v3 c0_i32_4
  let c1_i32_5 : BitVec 32 := 1#32
  let v9 : BitVec 32 := Scalar.divsi v7 c1_i32_5
  let v10 : BitVec 32 := Scalar.muli v9 c1_i32_5
  let v11 : BitVec 32 := Scalar.addi c0_i32_4 v10
  let c1_i32_7 : BitVec 32 := 1#32
  let arg6 : BitVec 32 := Scf.iv v11 c1_i32_7 k0_t2
  let c256_i32 : BitVec 32 := 256#32
  let v18 : BitVec 32 := Scalar.muli arg6 c256_i32
  let v19 : BitVec 32 := v18
  let v20 : Index := Scalar.indexCast v19
  let c0_11 : Index := 0#32
  ![0, v20.toNat, 0]
def k0_off4 (i : grid0.Coords) (k0_t2 : Fin (k0_t2_loop i).trips) : Fin 3 → Nat :=
  let c0_12 : Index := 0#32
  let c0_i32_4 : BitVec 32 := 0#32
  let arg1 : BitVec 32 := BitVec.ofNat 32 (i 1).val
  let c0_i32 : BitVec 32 := 0#32
  let v2 : BitVec 1 := Scalar.cmpi .eq arg1 c0_i32
  let c1_i32 : BitVec 32 := 1#32
  let c33_i32 : BitVec 32 := 33#32
  let v3 : BitVec 32 := Scalar.select v2 c1_i32 c33_i32
  let v7 : BitVec 32 := Scalar.subi v3 c0_i32_4
  let c1_i32_5 : BitVec 32 := 1#32
  let v9 : BitVec 32 := Scalar.divsi v7 c1_i32_5
  let v10 : BitVec 32 := Scalar.muli v9 c1_i32_5
  let v11 : BitVec 32 := Scalar.addi c0_i32_4 v10
  let c1_i32_7 : BitVec 32 := 1#32
  let arg6 : BitVec 32 := Scf.iv v11 c1_i32_7 k0_t2
  let c256_i32 : BitVec 32 := 256#32
  let v18 : BitVec 32 := Scalar.muli arg6 c256_i32
  let v19 : BitVec 32 := v18
  let v23 : Index := Scalar.indexCast v19
  let c0_13 : Index := 0#32
  ![0, v23.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8448x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x8448x256 : Shape := ⟨3, ![8, 8448, 256]⟩
abbrev S8x8448x128 : Shape := ⟨3, ![8, 8448, 128]⟩
abbrev S8x256x256 : Shape := ⟨3, ![8, 256, 256]⟩
abbrev S8x256x128 : Shape := ⟨3, ![8, 256, 128]⟩
abbrev S_ : Shape := ⟨0, ![]⟩
abbrev S8x256 : Shape := ⟨2, ![8, 256]⟩
abbrev S8x256x1 : Shape := ⟨3, ![8, 256, 1]⟩
abbrev S8x128x256 : Shape := ⟨3, ![8, 128, 256]⟩
abbrev S256x8x128 : Shape := ⟨3, ![256, 8, 128]⟩
abbrev S256x1024 : Shape := ⟨2, ![256, 1024]⟩
abbrev S8x8192x256 : Shape := ⟨3, ![8, 8192, 256]⟩
abbrev S8x8192x8448 : Shape := ⟨3, ![8, 8192, 8448]⟩
abbrev S8x8192 : Shape := ⟨2, ![8, 8192]⟩
abbrev S8x8192x1 : Shape := ⟨3, ![8, 8192, 1]⟩
abbrev S8x128x8192 : Shape := ⟨3, ![8, 128, 8192]⟩
abbrev S8192x8x128 : Shape := ⟨3, ![8192, 8, 128]⟩
abbrev S8192x1024 : Shape := ⟨2, ![8192, 1024]⟩
abbrev S8448x1024 : Shape := ⟨2, ![8448, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8x8448x256, .bf16⟩
  | .hbm, ⟨1, _⟩ => ⟨S8x8448x256, .bf16⟩
  | .hbm, ⟨2, _⟩ => ⟨S8x8448x128, .bf16⟩
  | .hbm, ⟨3, _⟩ => ⟨S8x256x256, .bf16⟩
  | .hbm, ⟨4, _⟩ => ⟨S8x256x256, .bf16⟩
  | .hbm, ⟨5, _⟩ => ⟨S8x256x128, .bf16⟩
  | .hbm, ⟨6, _⟩ => ⟨S8x256x256, .f32⟩
  | .hbm, ⟨7, _⟩ => ⟨S8x256x256, .f32⟩
  | .hbm, ⟨8, _⟩ => ⟨S8x256x256, .f32⟩
  | .hbm, ⟨9, _⟩ => ⟨S_, .f32⟩
  | .hbm, ⟨10, _⟩ => ⟨S8x256, .f32⟩
  | .hbm, ⟨11, _⟩ => ⟨S_, .f32⟩
  | .hbm, ⟨12, _⟩ => ⟨S8x256, .f32⟩
  | .hbm, ⟨13, _⟩ => ⟨S8x256, .f32⟩
  | .hbm, ⟨14, _⟩ => ⟨S8x256x1, .f32⟩
  | .hbm, ⟨15, _⟩ => ⟨S8x256x256, .f32⟩
  | .hbm, ⟨16, _⟩ => ⟨S8x256x256, .f32⟩
  | .hbm, ⟨17, _⟩ => ⟨S8x256x256, .f32⟩
  | .hbm, ⟨18, _⟩ => ⟨S_, .f32⟩
  | .hbm, ⟨19, _⟩ => ⟨S8x256, .f32⟩
  | .hbm, ⟨20, _⟩ => ⟨S8x256x1, .f32⟩
  | .hbm, ⟨21, _⟩ => ⟨S8x256x256, .f32⟩
  | .hbm, ⟨22, _⟩ => ⟨S8x256x256, .f32⟩
  | .hbm, ⟨23, _⟩ => ⟨S8x256x128, .f32⟩
  | .hbm, ⟨24, _⟩ => ⟨S8x128x256, .f32⟩
  | .hbm, ⟨25, _⟩ => ⟨S256x8x128, .f32⟩
  | .hbm, ⟨26, _⟩ => ⟨S256x1024, .f32⟩
  | .hbm, ⟨27, _⟩ => ⟨S256x1024, .bf16⟩
  | .hbm, ⟨28, _⟩ => ⟨S8x8192x256, .bf16⟩
  | .hbm, ⟨29, _⟩ => ⟨S8x8192x256, .f32⟩
  | .hbm, ⟨30, _⟩ => ⟨S8x8448x256, .f32⟩
  | .hbm, ⟨31, _⟩ => ⟨S8x8192x8448, .f32⟩
  | .hbm, ⟨32, _⟩ => ⟨S_, .f32⟩
  | .hbm, ⟨33, _⟩ => ⟨S8x8192, .f32⟩
  | .hbm, ⟨34, _⟩ => ⟨S_, .f32⟩
  | .hbm, ⟨35, _⟩ => ⟨S8x8192, .f32⟩
  | .hbm, ⟨36, _⟩ => ⟨S8x8192, .f32⟩
  | .hbm, ⟨37, _⟩ => ⟨S8x8192x1, .f32⟩
  | .hbm, ⟨38, _⟩ => ⟨S8x8192x8448, .f32⟩
  | .hbm, ⟨39, _⟩ => ⟨S8x8192x8448, .f32⟩
  | .hbm, ⟨40, _⟩ => ⟨S8x8192x8448, .f32⟩
  | .hbm, ⟨41, _⟩ => ⟨S_, .f32⟩
  | .hbm, ⟨42, _⟩ => ⟨S8x8192, .f32⟩
  | .hbm, ⟨43, _⟩ => ⟨S8x8192x1, .f32⟩
  | .hbm, ⟨44, _⟩ => ⟨S8x8192x8448, .f32⟩
  | .hbm, ⟨45, _⟩ => ⟨S8x8192x8448, .f32⟩
  | .hbm, ⟨46, _⟩ => ⟨S8x8448x128, .f32⟩
  | .hbm, ⟨47, _⟩ => ⟨S8x128x8192, .f32⟩
  | .hbm, ⟨48, _⟩ => ⟨S8192x8x128, .f32⟩
  | .hbm, ⟨49, _⟩ => ⟨S8192x1024, .f32⟩
  | .hbm, ⟨50, _⟩ => ⟨S8192x1024, .bf16⟩
  | .hbm, ⟨51, _⟩ => ⟨S8448x1024, .bf16⟩
  | _, _ => ⟨S8x8448x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩

abbrev nD : Nat := 1
abbrev τ : Topo := Topo.v7x

variable {F : FTy → Type} [FloatOps F]
-- ==== Outproj.lean ====
abbrev S8448x1024 : Shape := ⟨2, ![8448, 1024]⟩
abbrev S2x4096x4096 : Shape := ⟨3, ![2, 4096, 4096]⟩
abbrev S8448x4096 : Shape := ⟨2, ![8448, 4096]⟩
abbrev S2x24576 : Shape := ⟨2, ![2, 24576]⟩
abbrev S1x4096x4096 : Shape := ⟨3, ![1, 4096, 4096]⟩
abbrev S4096x4096 : Shape := ⟨2, ![4096, 4096]⟩
abbrev S768x1024 : Shape := ⟨2, ![768, 1024]⟩
abbrev S4096x512 : Shape := ⟨2, ![4096, 512]⟩
abbrev S768x512 : Shape := ⟨2, ![768, 512]⟩
abbrev S2x512 : Shape := ⟨2, ![2, 512]⟩
abbrev S1024x512 : Shape := ⟨2, ![1024, 512]⟩
abbrev S768x1 : Shape := ⟨2, ![768, 1]⟩
abbrev S1x512 : Shape := ⟨2, ![1, 512]⟩

abbrev nBuf : Space → Nat
  | .hbm => 11
  | .vmem => 16
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8448x1024, .bf16⟩
  | .hbm, ⟨3, _⟩ => ⟨S8448x1024, .bf16⟩
  | .hbm, ⟨4, _⟩ => ⟨S2x4096x4096, .f32⟩
  | .hbm, ⟨5, _⟩ => ⟨S8448x4096, .f32⟩
  | .hbm, ⟨6, _⟩ => ⟨S2x24576, .f32⟩
  | .hbm, ⟨7, _⟩ => ⟨S1x4096x4096, .f32⟩
  | .hbm, ⟨8, _⟩ => ⟨S4096x4096, .f32⟩
  | .hbm, ⟨9, _⟩ => ⟨S4096x4096, .bf16⟩
  | .hbm, ⟨10, _⟩ => ⟨S8448x4096, .f32⟩
  | .local _ .vmem, ⟨0, _⟩ => ⟨S768x1024, .bf16⟩
  | .local _ .vmem, ⟨1, _⟩ => ⟨S768x1024, .bf16⟩
  | .local _ .vmem, ⟨2, _⟩ => ⟨S768x1024, .bf16⟩
  | .local _ .vmem, ⟨3, _⟩ => ⟨S768x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .bf16⟩
  | .local _ .vmem, ⟨7, _⟩ => ⟨S768x1024, .bf16⟩
  | .local _ .vmem, ⟨8, _⟩ => ⟨S4096x512, .bf16⟩
  | .local _ .vmem, ⟨9, _⟩ => ⟨S4096x512, .bf16⟩
  | .local _ .vmem, ⟨10, _⟩ => ⟨S768x512, .f32⟩
  | .local _ .vmem, ⟨11, _⟩ => ⟨S768x512, .f32⟩
  | .local _ .vmem, ⟨12, _⟩ => ⟨S2x512, .f32⟩
  | .local _ .vmem, ⟨13, _⟩ => ⟨S2x512, .f32⟩
  | .local _ .vmem, ⟨14, _⟩ => ⟨S768x512, .f32⟩
  | .local _ .vmem, ⟨15, _⟩ => ⟨S768x512, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S768x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S768x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OutprojRefIdeal.lean ====
abbrev S8448x1024 : Shape := ⟨2, ![8448, 1024]⟩
abbrev S2x4096x4096 : Shape := ⟨3, ![2, 4096, 4096]⟩
abbrev S8448x4096 : Shape := ⟨2, ![8448, 4096]⟩
abbrev S2x24576 : Shape := ⟨2, ![2, 24576]⟩
abbrev S2x4096 : Shape := ⟨2, ![2, 4096]⟩
abbrev S1x4096x4096 : Shape := ⟨3, ![1, 4096, 4096]⟩
abbrev S4096x4096 : Shape := ⟨2, ![4096, 4096]⟩
abbrev S256x4096 : Shape := ⟨2, ![256, 4096]⟩
abbrev S1x4096 : Shape := ⟨2, ![1, 4096]⟩
abbrev S8192x4096 : Shape := ⟨2, ![8192, 4096]⟩

abbrev nBuf : Space → Nat
  | .hbm => 26
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8448x1024, .bf16⟩
  | .hbm, ⟨3, _⟩ => ⟨S8448x1024, .bf16⟩
  | .hbm, ⟨4, _⟩ => ⟨S2x4096x4096, .f32⟩
  | .hbm, ⟨5, _⟩ => ⟨S8448x4096, .f32⟩
  | .hbm, ⟨6, _⟩ => ⟨S2x24576, .f32⟩
  | .hbm, ⟨7, _⟩ => ⟨S8448x4096, .bf16⟩
  | .hbm, ⟨8, _⟩ => ⟨S8448x4096, .f32⟩
  | .hbm, ⟨9, _⟩ => ⟨S2x4096, .f32⟩
  | .hbm, ⟨10, _⟩ => ⟨S1x4096x4096, .f32⟩
  | .hbm, ⟨11, _⟩ => ⟨S4096x4096, .f32⟩
  | .hbm, ⟨12, _⟩ => ⟨S8448x4096, .f32⟩
  | .hbm, ⟨13, _⟩ => ⟨S256x4096, .f32⟩
  | .hbm, ⟨14, _⟩ => ⟨S1x4096, .f32⟩
  | .hbm, ⟨15, _⟩ => ⟨S256x4096, .f32⟩
  | .hbm, ⟨16, _⟩ => ⟨S256x4096, .f32⟩
  | .hbm, ⟨17, _⟩ => ⟨S256x4096, .f32⟩
  | .hbm, ⟨18, _⟩ => ⟨S256x4096, .f32⟩
  | .hbm, ⟨19, _⟩ => ⟨S8192x4096, .f32⟩
  | .hbm, ⟨20, _⟩ => ⟨S1x4096, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8448x4096, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Up.lean ====
abbrev S8x128 : Shape := ⟨2, ![8, 128]⟩
abbrev S33792x1x4096 : Shape := ⟨3, ![33792, 1, 4096]⟩
abbrev S2x32x4096x1024 : Shape := ⟨4, ![2, 32, 4096, 1024]⟩
abbrev S2x32x1024 : Shape := ⟨3, ![2, 32, 1024]⟩
abbrev S1x32 : Shape := ⟨2, ![1, 32]⟩
abbrev S32 : Shape := ⟨1, ![32]⟩
abbrev S_ : Shape := ⟨0, ![]⟩
abbrev S132 : Shape := ⟨1, ![132]⟩
abbrev S164 : Shape := ⟨1, ![164]⟩
abbrev S1 : Shape := ⟨1, ![1]⟩
abbrev S163 : Shape := ⟨1, ![163]⟩
abbrev S164x1 : Shape := ⟨2, ![164, 1]⟩
abbrev S164x32 : Shape := ⟨2, ![164, 32]⟩
abbrev S2x32x1x1024 : Shape := ⟨4, ![2, 32, 1, 1024]⟩
abbrev S33792x512 : Shape := ⟨2, ![33792, 512]⟩
abbrev S256x1x4096 : Shape := ⟨3, ![256, 1, 4096]⟩
abbrev S1x1x4096x1024 : Shape := ⟨4, ![1, 1, 4096, 1024]⟩
abbrev S1x1x1x1024 : Shape := ⟨4, ![1, 1, 1, 1024]⟩
abbrev S256x512 : Shape := ⟨2, ![256, 512]⟩
abbrev S256x4096 : Shape := ⟨2, ![256, 4096]⟩
abbrev S256x1024 : Shape := ⟨2, ![256, 1024]⟩
abbrev S1x1024 : Shape := ⟨2, ![1, 1024]⟩
abbrev S1x1x1024x1024 : Shape := ⟨4, ![1, 1, 1024, 1024]⟩
abbrev S1024x1024 : Shape := ⟨2, ![1024, 1024]⟩

abbrev nBuf : Space → Nat
  | .hbm => 58
  | .vmem => 9
  | .smem => 4
  | _ => 0

abbrev bufTy : (tb : Table) → Fin (tcTables nBuf tb) → BufTy
  | .hbm, ⟨0, _⟩ => ⟨S8x128, .i32⟩
  | .hbm, ⟨1, _⟩ => ⟨S33792x1x4096, .f32⟩
  | .hbm, ⟨2, _⟩ => ⟨S2x32x4096x1024, .f32⟩
  | .hbm, ⟨3, _⟩ => ⟨S2x32x1024, .f32⟩
  | .hbm, ⟨4, _⟩ => ⟨S1x32, .i32⟩
  | .hbm, ⟨5, _⟩ => ⟨S32, .i32⟩
  | .hbm, ⟨6, _⟩ => ⟨S_, .i32⟩
  | .hbm, ⟨7, _⟩ => ⟨S_, .i32⟩
  | .hbm, ⟨8, _⟩ => ⟨S32, .i32⟩
  | .hbm, ⟨9, _⟩ => ⟨S132, .i32⟩
  | .hbm, ⟨10, _⟩ => ⟨S_, .i32⟩
  | .hbm, ⟨11, _⟩ => ⟨S132, .i32⟩
  | .hbm, ⟨12, _⟩ => ⟨S132, .i32⟩
  | .hbm, ⟨13, _⟩ => ⟨S_, .i32⟩
  | .hbm, ⟨14, _⟩ => ⟨S132, .i32⟩
  | .hbm, ⟨15, _⟩ => ⟨S132, .i32⟩
  | .hbm, ⟨16, _⟩ => ⟨S164, .i32⟩
  | .hbm, ⟨17, _⟩ => ⟨S164, .i32⟩
  | .hbm, ⟨18, _⟩ => ⟨S_, .i32⟩
  | .hbm, ⟨19, _⟩ => ⟨S1, .i32⟩
  | .hbm, ⟨20, _⟩ => ⟨S163, .i32⟩
  | .hbm, ⟨21, _⟩ => ⟨S164, .i32⟩
  | .hbm, ⟨22, _⟩ => ⟨S164, .i1⟩
  | .hbm, ⟨23, _⟩ => ⟨S_, .i32⟩
  | .hbm, ⟨24, _⟩ => ⟨S_, .i32⟩
  | .hbm, ⟨25, _⟩ => ⟨S164, .i32⟩
  | .hbm, ⟨26, _⟩ => ⟨S164, .i32⟩
  | .hbm, ⟨27, _⟩ => ⟨S164, .i32⟩
  | .hbm, ⟨28, _⟩ => ⟨S_, .i32⟩
  | .hbm, ⟨29, _⟩ => ⟨S164, .i32⟩
  | .hbm, ⟨30, _⟩ => ⟨S164, .i1⟩
  | .hbm, ⟨31, _⟩ => ⟨S164, .i32⟩
  | .hbm, ⟨32, _⟩ => ⟨S164, .i32⟩
  | .hbm, ⟨33, _⟩ => ⟨S_, .i32⟩
  | .hbm, ⟨34, _⟩ => ⟨S164, .i32⟩
  | .hbm, ⟨35, _⟩ => ⟨S164, .i1⟩
  | .hbm, ⟨36, _⟩ => ⟨S164, .i1⟩
  | .hbm, ⟨37, _⟩ => ⟨S_, .i32⟩
  | .hbm, ⟨38, _⟩ => ⟨S164, .i32⟩
  | .hbm, ⟨39, _⟩ => ⟨S164, .i32⟩
  | .hbm, ⟨40, _⟩ => ⟨S164, .i32⟩
  | .hbm, ⟨41, _⟩ => ⟨S_, .i32⟩
  | .hbm, ⟨42, _⟩ => ⟨S164, .i32⟩
  | .hbm, ⟨43, _⟩ => ⟨S1x32, .i32⟩
  | .hbm, ⟨44, _⟩ => ⟨S164x1, .i32⟩
  | .hbm, ⟨45, _⟩ => ⟨S164x32, .i32⟩
  | .hbm, ⟨46, _⟩ => ⟨S164x32, .i32⟩
  | .hbm, ⟨47, _⟩ => ⟨S164x32, .i1⟩
  | .hbm, ⟨48, _⟩ => ⟨S164x32, .i32⟩
  | .hbm, ⟨49, _⟩ => ⟨S_, .i32⟩
  | .hbm, ⟨50, _⟩ => ⟨S164, .i32⟩
  | .hbm, ⟨51, _⟩ => ⟨S_, .i32⟩
  | .hbm, ⟨52, _⟩ => ⟨S164, .i32⟩
  | .hbm, ⟨53, _⟩ => ⟨S_, .i32⟩
  | .hbm, ⟨54, _⟩ => ⟨S164, .i32⟩
  | .hbm, ⟨55, _⟩ => ⟨S164, .i32⟩
  | .hbm, ⟨56, _⟩ => ⟨S2x32x1x1024, .f32⟩
  | .hbm, ⟨57, _⟩ => ⟨S33792x512, .bf16⟩
  | .local _ .vmem, ⟨0, _⟩ => ⟨S256x1x4096, .f32⟩
  | .local _ .vmem, ⟨1, _⟩ => ⟨S256x1x4096, .f32⟩
  | .local _ .vmem, ⟨2, _⟩ => ⟨S1x1x4096x1024, .f32⟩
  | .local _ .vmem, ⟨3, _⟩ => ⟨S1x1x4096x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S256x512, .bf16⟩
  | .local _ .vmem, ⟨7, _⟩ => ⟨S256x512, .bf16⟩
  | .local _ .vmem, ⟨8, _⟩ => ⟨S256x4096, .f32⟩
  | .local _ .smem, ⟨0, _⟩ => ⟨S164, .i32⟩
  | .local _ .smem, ⟨1, _⟩ => ⟨S164, .i32⟩
  | .local _ .smem, ⟨2, _⟩ => ⟨S164, .i32⟩
  | .local _ .smem, ⟨3, _⟩ => ⟨S164, .i32⟩
  | _, _ => ⟨S8x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_call0_c : Ref sig .tc := ⟨.hbm, 6, rfl⟩
abbrev main_call0_call0_v0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_call2_v5 : Ref sig .tc := ⟨.hbm, 29, rfl⟩
abbrev main_call2_v6 : Ref sig .tc := ⟨.hbm, 30, rfl⟩
abbrev main_call2_v7 : Ref sig .tc := ⟨.hbm, 31, rfl⟩
abbrev main_call2_v8 : Ref sig .tc := ⟨.hbm, 32, rfl⟩
abbrev main_call2_c : Ref sig .tc := ⟨.hbm, 33, rfl⟩
abbrev main_call2_v9 : Ref sig .tc := ⟨.hbm, 34, rfl⟩
abbrev main_call2_v10 : Ref sig .tc := ⟨.hbm, 35, rfl⟩
abbrev main_call2_v11 : Ref sig .tc := ⟨.hbm, 36, rfl⟩
abbrev main_call2_c_0 : Ref sig .tc := ⟨.hbm, 37, rfl⟩
abbrev main_call2_v12 : Ref sig .tc := ⟨.hbm, 38, rfl⟩
abbrev main_call2_v13 : Ref sig .tc := ⟨.hbm, 39, rfl⟩
abbrev main_v15 : Ref sig .tc := ⟨.hbm, 40, rfl⟩
abbrev main_c_3 : Ref sig .tc := ⟨.hbm, 41, rfl⟩
abbrev main_v16 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_4 : Ref sig .tc := ⟨.hbm, 49, rfl⟩
abbrev main_v24 : Ref sig .tc := ⟨.hbm, 50, rfl⟩
abbrev main_c_5 : Ref sig .tc := ⟨.hbm, 51, rfl⟩
abbrev main_v25 : Ref sig .tc := ⟨.hbm, 52, rfl⟩
abbrev main_c_6 : Ref sig .tc := ⟨.hbm, 53, rfl⟩
abbrev main_v27 : Ref sig .tc := ⟨.hbm, 54, rfl⟩
abbrev main_v28 : Ref sig .tc := ⟨.hbm, 55, rfl⟩
abbrev main_v30 : Ref sig .tc := ⟨.hbm, 56, rfl⟩
abbrev main_v31 : Ref sig .tc := ⟨.hbm, 57, rfl⟩
abbrev main_v17 : Ref sig .tc := ⟨.smem, 0, rfl⟩
abbrev main_v26 : Ref sig .tc := ⟨.smem, 1, rfl⟩
abbrev main_v29 : Ref sig .tc := ⟨.smem, 2, rfl⟩
abbrev main_v14 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![164], ![false]⟩

abbrev pre0 : Pipeline.Prefetch sig := ⟨4, ![main_v17.idx, main_v26.idx, main_v29.idx, main_v14.idx], fun | 0 => main_v17.names | 1 => main_v26.names | 2 => main_v29.names | 3 => main_v14.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v3 : BitVec 32) : BitVec 1 :=
  let c1_i32 : BitVec 32 := 1#32
  let v4 : BitVec 1 := Scalar.cmpi .eq v3 c1_i32
  let v5 : BitVec 32 := Scalar.extui v4
  let c0_i32 : BitVec 32 := 0#32
  let v6 : BitVec 1 := Scalar.cmpi .ne v5 c0_i32
  v6

def k0_cond2 (v1 : BitVec 32) : BitVec 1 :=
  let c0_i32_38 : BitVec 32 := 0#32
  let v61 : BitVec 1 := Scalar.cmpi .eq v1 c0_i32_38
  let v62 : BitVec 32 := Scalar.extui v61
  let c0_i32_39 : BitVec 32 := 0#32
  let v63 : BitVec 1 := Scalar.cmpi .ne v62 c0_i32_39
  v63

def k0_cond3 (v1 : BitVec 32) : BitVec 1 :=
  let c0_i32_40 : BitVec 32 := 0#32
  let v64 : BitVec 1 := Scalar.cmpi .sgt v1 c0_i32_40
  let v65 : BitVec 32 := Scalar.extui v64
  let c0_i32_41 : BitVec 32 := 0#32
  let v66 : BitVec 1 := Scalar.cmpi .ne v65 c0_i32_41
  v66

def cc0_transform_0 (k0_off1_inb : ∀ i : grid0.Coords, ∀ a, (k0_off1 i) a + S1.size a ≤ S164.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S164.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S164) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S164.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S164) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S164.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S256x1x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== UpRefIdeal.lean ====
abbrev S8x128 : Shape := ⟨2, ![8, 128]⟩
abbrev S33792x1x4096 : Shape := ⟨3, ![33792, 1, 4096]⟩
abbrev S2x32x4096x1024 : Shape := ⟨4, ![2, 32, 4096, 1024]⟩
abbrev S2x32x1024 : Shape := ⟨3, ![2, 32, 1024]⟩
abbrev S33792x4096 : Shape := ⟨2, ![33792, 4096]⟩
abbrev S1x32 : Shape := ⟨2, ![1, 32]⟩
abbrev S32 : Shape := ⟨1, ![32]⟩
abbrev S_ : Shape := ⟨0, ![]⟩
abbrev S33792 : Shape := ⟨1, ![33792]⟩
abbrev S33792x1 : Shape := ⟨2, ![33792, 1]⟩
abbrev S33792x32 : Shape := ⟨2, ![33792, 32]⟩
abbrev S1x32x4096x1024 : Shape := ⟨4, ![1, 32, 4096, 1024]⟩
abbrev S32x4096x1024 : Shape := ⟨3, ![32, 4096, 1024]⟩
abbrev S33792x32x1024 : Shape := ⟨3, ![33792, 32, 1024]⟩
abbrev S1x32x1024 : Shape := ⟨3, ![1, 32, 1024]⟩
abbrev S32x1024 : Shape := ⟨2, ![32, 1024]⟩
abbrev S33792x32x512 : Shape := ⟨3, ![33792, 32, 512]⟩
abbrev S33792x32x1 : Shape := ⟨3, ![33792, 32, 1]⟩
abbrev S33792x512 : Shape := ⟨2, ![33792, 512]⟩

abbrev nBuf : Space → Nat
  | .hbm => 74
  | .vmem => 0
  | .smem => 0
  | _ => 0

abbrev bufTy : (tb : Table) → Fin (tcTables nBuf tb) → BufTy
  | .hbm, ⟨0, _⟩ => ⟨S8x128, .i32⟩
  | .hbm, ⟨1, _⟩ => ⟨S33792x1x4096, .f32⟩
  | .hbm, ⟨2, _⟩ => ⟨S2x32x4096x1024, .f32⟩
  | .hbm, ⟨3, _⟩ => ⟨S2x32x1024, .f32⟩
  | .hbm, ⟨4, _⟩ => ⟨S33792x4096, .f32⟩
  | .hbm, ⟨5, _⟩ => ⟨S1x32, .i32⟩
  | .hbm, ⟨6, _⟩ => ⟨S32, .i32⟩
  | .hbm, ⟨7, _⟩ => ⟨S_, .i32⟩
  | .hbm, ⟨8, _⟩ => ⟨S_, .i32⟩
  | .hbm, ⟨9, _⟩ => ⟨S32, .i32⟩
  | .hbm, ⟨10, _⟩ => ⟨S33792, .i32⟩
  | .hbm, ⟨11, _⟩ => ⟨S1x32, .i32⟩
  | .hbm, ⟨12, _⟩ => ⟨S33792x1, .i32⟩
  | .hbm, ⟨13, _⟩ => ⟨S33792x32, .i32⟩
  | .hbm, ⟨14, _⟩ => ⟨S33792x32, .i32⟩
  | .hbm, ⟨15, _⟩ => ⟨S33792x32, .i1⟩
  | .hbm, ⟨16, _⟩ => ⟨S33792x32, .i32⟩
  | .hbm, ⟨17, _⟩ => ⟨S_, .i32⟩
  | .hbm, ⟨18, _⟩ => ⟨S33792, .i32⟩
  | .hbm, ⟨19, _⟩ => ⟨S_, .i32⟩
  | .hbm, ⟨20, _⟩ => ⟨S33792, .i32⟩
  | .hbm, ⟨21, _⟩ => ⟨S33792, .i32⟩
  | .hbm, ⟨22, _⟩ => ⟨S33792x1, .i32⟩
  | .hbm, ⟨23, _⟩ => ⟨S32, .i32⟩
  | .hbm, ⟨24, _⟩ => ⟨S1x32, .i32⟩
  | .hbm, ⟨25, _⟩ => ⟨S33792x32, .i32⟩
  | .hbm, ⟨26, _⟩ => ⟨S33792x32, .i32⟩
  | .hbm, ⟨27, _⟩ => ⟨S33792x32, .i1⟩
  | .hbm, ⟨28, _⟩ => ⟨S1x32x4096x1024, .f32⟩
  | .hbm, ⟨29, _⟩ => ⟨S32x4096x1024, .f32⟩
  | .hbm, ⟨30, _⟩ => ⟨S33792x32x1024, .f32⟩
  | .hbm, ⟨31, _⟩ => ⟨S1x32x1024, .f32⟩
  | .hbm, ⟨32, _⟩ => ⟨S32x1024, .f32⟩
  | .hbm, ⟨33, _⟩ => ⟨S1x32x1024, .f32⟩
  | .hbm, ⟨34, _⟩ => ⟨S33792x32x1024, .f32⟩
  | .hbm, ⟨35, _⟩ => ⟨S33792x32x1024, .f32⟩
  | .hbm, ⟨36, _⟩ => ⟨S33792x32x512, .f32⟩
  | .hbm, ⟨37, _⟩ => ⟨S_, .f32⟩
  | .hbm, ⟨38, _⟩ => ⟨S33792x32x512, .f32⟩
  | .hbm, ⟨39, _⟩ => ⟨S33792x32x512, .f32⟩
  | .hbm, ⟨40, _⟩ => ⟨S33792x32x512, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S33792x32x512, .f32⟩
  | .hbm, ⟨45, _⟩ => ⟨S33792x32x512, .f32⟩
  | .hbm, ⟨46, _⟩ => ⟨S_, .f32⟩
  | .hbm, ⟨47, _⟩ => ⟨S33792x32x512, .f32⟩
  | .hbm, ⟨48, _⟩ => ⟨S33792x32x512, .f32⟩
  | .hbm, ⟨49, _⟩ => ⟨S_, .f32⟩
  | .hbm, ⟨50, _⟩ => ⟨S33792x32x512, .f32⟩
  | .hbm, ⟨51, _⟩ => ⟨S33792x32x512, .f32⟩
  | .hbm, ⟨52, _⟩ => ⟨S33792x32x512, .f32⟩
  | .hbm, ⟨53, _⟩ => ⟨S33792x32x512, .f32⟩
  | .hbm, ⟨54, _⟩ => ⟨S_, .f32⟩
  | .hbm, ⟨55, _⟩ => ⟨S33792x32x512, .f32⟩
  | .hbm, ⟨56, _⟩ => ⟨S33792x32x512, .f32⟩
  | .hbm, ⟨57, _⟩ => ⟨S_, .f32⟩
  | .hbm, ⟨58, _⟩ => ⟨S33792x32x512, .f32⟩
  | .hbm, ⟨59, _⟩ => ⟨S33792x32x512, .f32⟩
  | .hbm, ⟨60, _⟩ => ⟨S33792x32x512, .f32⟩
  | .hbm, ⟨61, _⟩ => ⟨S_, .f32⟩
  | .hbm, ⟨62, _⟩ => ⟨S33792x32x512, .f32⟩
  | .hbm, ⟨63, _⟩ => ⟨S33792x32x512, .f32⟩
  | .hbm, ⟨64, _⟩ => ⟨S33792x32x512, .f32⟩
  | .hbm, ⟨65, _⟩ => ⟨S33792x32x1, .i1⟩
  | .hbm, ⟨66, _⟩ => ⟨S_, .f32⟩
  | .hbm, ⟨67, _⟩ => ⟨S_, .f32⟩
  | .hbm, ⟨68, _⟩ => ⟨S33792x32x512, .i1⟩
  | .hbm, ⟨69, _⟩ => ⟨S33792x32x512, .f32⟩
  | .hbm, ⟨70, _⟩ => ⟨S33792x32x512, .f32⟩
  | .hbm, ⟨71, _⟩ => ⟨S_, .f32⟩
  | .hbm, ⟨72, _⟩ => ⟨S33792x512, .f32⟩
  | .hbm, ⟨73, _⟩ => ⟨S33792x512, .bf16⟩
  | _, _ => ⟨S8x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_call0_c : Ref sig .tc := ⟨.hbm, 7, rfl⟩
abbrev main_call0_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_1 : Ref sig .tc := ⟨.hbm, 41, rfl⟩
abbrev main_cst_2 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_v32 : Ref sig .tc := ⟨.hbm, 48, rfl⟩
abbrev main_cst_3 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_4 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_7 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v46 : Ref sig .tc := ⟨.hbm, 70, rfl⟩
abbrev main_cst_8 : Ref sig .tc := ⟨.hbm, 71, rfl⟩
abbrev main_v47 : Ref sig .tc := ⟨.hbm, 72, rfl⟩
abbrev main_v48 : Ref sig .tc := ⟨.hbm, 73, rfl⟩

abbrev nD : Nat := 1
abbrev τ : Topo := Topo.v7x

variable {F : FTy → Type} [FloatOps F]
-- ==== Down.lean ====
abbrev S8x128 : Shape := ⟨2, ![8, 128]⟩
abbrev S33792x512 : Shape := ⟨2, ![33792, 512]⟩
abbrev S2x32x512x4096 : Shape := ⟨4, ![2, 32, 512, 4096]⟩
abbrev S2x32x4096 : Shape := ⟨3, ![2, 32, 4096]⟩
abbrev S1x32 : Shape := ⟨2, ![1, 32]⟩
abbrev S32 : Shape := ⟨1, ![32]⟩
abbrev S_ : Shape := ⟨0, ![]⟩
abbrev S132 : Shape := ⟨1, ![132]⟩
abbrev S164 : Shape := ⟨1, ![164]⟩
abbrev S1 : Shape := ⟨1, ![1]⟩
abbrev S163 : Shape := ⟨1, ![163]⟩
abbrev S164x1 : Shape := ⟨2, ![164, 1]⟩
abbrev S164x32 : Shape := ⟨2, ![164, 32]⟩
abbrev S2x32x1x4096 : Shape := ⟨4, ![2, 32, 1, 4096]⟩
abbrev S33792x1x4096 : Shape := ⟨3, ![33792, 1, 4096]⟩
abbrev S256x512 : Shape := ⟨2, ![256, 512]⟩
abbrev S1x1x512x4096 : Shape := ⟨4, ![1, 1, 512, 4096]⟩
abbrev S1x1x1x4096 : Shape := ⟨4, ![1, 1, 1, 4096]⟩
abbrev S256x1x4096 : Shape := ⟨3, ![256, 1, 4096]⟩
abbrev S256x4096 : Shape := ⟨2, ![256, 4096]⟩
abbrev S512x4096 : Shape := ⟨2, ![512, 4096]⟩
abbrev S1x4096 : Shape := ⟨2, ![1, 4096]⟩

abbrev nBuf : Space → Nat
  | .hbm => 58
  | .vmem => 9
  | .smem => 4
  | _ => 0

abbrev bufTy : (tb : Table) → Fin (tcTables nBuf tb) → BufTy
  | .hbm, ⟨0, _⟩ => ⟨S8x128, .i32⟩
  | .hbm, ⟨1, _⟩ => ⟨S33792x512, .bf16⟩
  | .hbm, ⟨2, _⟩ => ⟨S2x32x512x4096, .f32⟩
  | .hbm, ⟨3, _⟩ => ⟨S2x32x4096, .f32⟩
  | .hbm, ⟨4, _⟩ => ⟨S1x32, .i32⟩
  | .hbm, ⟨5, _⟩ => ⟨S32, .i32⟩
  | .hbm, ⟨6, _⟩ => ⟨S_, .i32⟩
  | .hbm, ⟨7, _⟩ => ⟨S_, .i32⟩
  | .hbm, ⟨8, _⟩ => ⟨S32, .i32⟩
  | .hbm, ⟨9, _⟩ => ⟨S132, .i32⟩
  | .hbm, ⟨10, _⟩ => ⟨S_, .i32⟩
  | .hbm, ⟨11, _⟩ => ⟨S132, .i32⟩
  | .hbm, ⟨12, _⟩ => ⟨S132, .i32⟩
  | .hbm, ⟨13, _⟩ => ⟨S_, .i32⟩
  | .hbm, ⟨14, _⟩ => ⟨S132, .i32⟩
  | .hbm, ⟨15, _⟩ => ⟨S132, .i32⟩
  | .hbm, ⟨16, _⟩ => ⟨S164, .i32⟩
  | .hbm, ⟨17, _⟩ => ⟨S164, .i32⟩
  | .hbm, ⟨18, _⟩ => ⟨S_, .i32⟩
  | .hbm, ⟨19, _⟩ => ⟨S1, .i32⟩
  | .hbm, ⟨20, _⟩ => ⟨S163, .i32⟩
  | .hbm, ⟨21, _⟩ => ⟨S164, .i32⟩
  | .hbm, ⟨22, _⟩ => ⟨S164, .i1⟩
  | .hbm, ⟨23, _⟩ => ⟨S_, .i32⟩
  | .hbm, ⟨24, _⟩ => ⟨S_, .i32⟩
  | .hbm, ⟨25, _⟩ => ⟨S164, .i32⟩
  | .hbm, ⟨26, _⟩ => ⟨S164, .i32⟩
  | .hbm, ⟨27, _⟩ => ⟨S164, .i32⟩
  | .hbm, ⟨28, _⟩ => ⟨S_, .i32⟩
  | .hbm, ⟨29, _⟩ => ⟨S164, .i32⟩
  | .hbm, ⟨30, _⟩ => ⟨S164, .i1⟩
  | .hbm, ⟨31, _⟩ => ⟨S164, .i32⟩
  | .hbm, ⟨32, _⟩ => ⟨S164, .i32⟩
  | .hbm, ⟨33, _⟩ => ⟨S_, .i32⟩
  | .hbm, ⟨34, _⟩ => ⟨S164, .i32⟩
  | .hbm, ⟨35, _⟩ => ⟨S164, .i1⟩
  | .hbm, ⟨36, _⟩ => ⟨S164, .i1⟩
  | .hbm, ⟨37, _⟩ => ⟨S_, .i32⟩
  | .hbm, ⟨38, _⟩ => ⟨S164, .i32⟩
  | .hbm, ⟨39, _⟩ => ⟨S164, .i32⟩
  | .hbm, ⟨40, _⟩ => ⟨S164, .i32⟩
  | .hbm, ⟨41, _⟩ => ⟨S_, .i32⟩
  | .hbm, ⟨42, _⟩ => ⟨S164, .i32⟩
  | .hbm, ⟨43, _⟩ => ⟨S1x32, .i32⟩
  | .hbm, ⟨44, _⟩ => ⟨S164x1, .i32⟩
  | .hbm, ⟨45, _⟩ => ⟨S164x32, .i32⟩
  | .hbm, ⟨46, _⟩ => ⟨S164x32, .i32⟩
  | .hbm, ⟨47, _⟩ => ⟨S164x32, .i1⟩
  | .hbm, ⟨48, _⟩ => ⟨S164x32, .i32⟩
  | .hbm, ⟨49, _⟩ => ⟨S_, .i32⟩
  | .hbm, ⟨50, _⟩ => ⟨S164, .i32⟩
  | .hbm, ⟨51, _⟩ => ⟨S_, .i32⟩
  | .hbm, ⟨52, _⟩ => ⟨S164, .i32⟩
  | .hbm, ⟨53, _⟩ => ⟨S_, .i32⟩
  | .hbm, ⟨54, _⟩ => ⟨S164, .i32⟩
  | .hbm, ⟨55, _⟩ => ⟨S164, .i32⟩
  | .hbm, ⟨56, _⟩ => ⟨S2x32x1x4096, .f32⟩
  | .hbm, ⟨57, _⟩ => ⟨S33792x1x4096, .f32⟩
  | .local _ .vmem, ⟨0, _⟩ => ⟨S256x512, .bf16⟩
  | .local _ .vmem, ⟨1, _⟩ => ⟨S256x512, .bf16⟩
  | .local _ .vmem, ⟨2, _⟩ => ⟨S1x1x512x4096, .f32⟩
  | .local _ .vmem, ⟨3, _⟩ => ⟨S1x1x512x4096, .f32⟩
  | .local _ .vmem, ⟨4, _⟩ => ⟨S1x1x1x4096, .f32⟩
  | .local _ .vmem, ⟨5, _⟩ => ⟨S1x1x1x4096, .f32⟩
  | .local _ .vmem, ⟨6, _⟩ => ⟨S256x1x4096, .f32⟩
  | .local _ .vmem, ⟨7, _⟩ => ⟨S256x1x4096, .f32⟩
  | .local _ .vmem, ⟨8, _⟩ => ⟨S256x4096, .f32⟩
  | .local _ .smem, ⟨0, _⟩ => ⟨S164, .i32⟩
  | .local _ .smem, ⟨1, _⟩ => ⟨S164, .i32⟩
  | .local _ .smem, ⟨2, _⟩ => ⟨S164, .i32⟩
  | .local _ .smem, ⟨3, _⟩ => ⟨S164, .i32⟩
  | _, _ => ⟨S8x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_call0_c : Ref sig .tc := ⟨.hbm, 6, rfl⟩
abbrev main_call0_call0_v0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_call2_v5 : Ref sig .tc := ⟨.hbm, 29, rfl⟩
abbrev main_call2_v6 : Ref sig .tc := ⟨.hbm, 30, rfl⟩
abbrev main_call2_v7 : Ref sig .tc := ⟨.hbm, 31, rfl⟩
abbrev main_call2_v8 : Ref sig .tc := ⟨.hbm, 32, rfl⟩
abbrev main_call2_c : Ref sig .tc := ⟨.hbm, 33, rfl⟩
abbrev main_call2_v9 : Ref sig .tc := ⟨.hbm, 34, rfl⟩
abbrev main_call2_v10 : Ref sig .tc := ⟨.hbm, 35, rfl⟩
abbrev main_call2_v11 : Ref sig .tc := ⟨.hbm, 36, rfl⟩
abbrev main_call2_c_0 : Ref sig .tc := ⟨.hbm, 37, rfl⟩
abbrev main_call2_v12 : Ref sig .tc := ⟨.hbm, 38, rfl⟩
abbrev main_call2_v13 : Ref sig .tc := ⟨.hbm, 39, rfl⟩
abbrev main_v15 : Ref sig .tc := ⟨.hbm, 40, rfl⟩
abbrev main_c_3 : Ref sig .tc := ⟨.hbm, 41, rfl⟩
abbrev main_v16 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_4 : Ref sig .tc := ⟨.hbm, 49, rfl⟩
abbrev main_v24 : Ref sig .tc := ⟨.hbm, 50, rfl⟩
abbrev main_c_5 : Ref sig .tc := ⟨.hbm, 51, rfl⟩
abbrev main_v25 : Ref sig .tc := ⟨.hbm, 52, rfl⟩
abbrev main_c_6 : Ref sig .tc := ⟨.hbm, 53, rfl⟩
abbrev main_v27 : Ref sig .tc := ⟨.hbm, 54, rfl⟩
abbrev main_v28 : Ref sig .tc := ⟨.hbm, 55, rfl⟩
abbrev main_v30 : Ref sig .tc := ⟨.hbm, 56, rfl⟩
abbrev main_v31 : Ref sig .tc := ⟨.hbm, 57, rfl⟩
abbrev main_v17 : Ref sig .tc := ⟨.smem, 0, rfl⟩
abbrev main_v26 : Ref sig .tc := ⟨.smem, 1, rfl⟩
abbrev main_v29 : Ref sig .tc := ⟨.smem, 2, rfl⟩
abbrev main_v14 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![164], ![false]⟩

abbrev pre0 : Pipeline.Prefetch sig := ⟨4, ![main_v17.idx, main_v26.idx, main_v29.idx, main_v14.idx], fun | 0 => main_v17.names | 1 => main_v26.names | 2 => main_v29.names | 3 => main_v14.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v3 : BitVec 32) : BitVec 1 :=
  let c1_i32 : BitVec 32 := 1#32
  let v4 : BitVec 1 := Scalar.cmpi .eq v3 c1_i32
  let v5 : BitVec 32 := Scalar.extui v4
  let c0_i32 : BitVec 32 := 0#32
  let v6 : BitVec 1 := Scalar.cmpi .ne v5 c0_i32
  v6

def cc0_transform_0 (k0_off1_inb : ∀ i : grid0.Coords, ∀ a, (k0_off1 i) a + S1.size a ≤ S164.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S164.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S164) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S164.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S164) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S164.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DownRefIdeal.lean ====
abbrev S8x128 : Shape := ⟨2, ![8, 128]⟩
abbrev S33792x512 : Shape := ⟨2, ![33792, 512]⟩
abbrev S2x32x512x4096 : Shape := ⟨4, ![2, 32, 512, 4096]⟩
abbrev S2x32x4096 : Shape := ⟨3, ![2, 32, 4096]⟩
abbrev S1x32 : Shape := ⟨2, ![1, 32]⟩
abbrev S32 : Shape := ⟨1, ![32]⟩
abbrev S_ : Shape := ⟨0, ![]⟩
abbrev S33792 : Shape := ⟨1, ![33792]⟩
abbrev S33792x1 : Shape := ⟨2, ![33792, 1]⟩
abbrev S33792x32 : Shape := ⟨2, ![33792, 32]⟩
abbrev S1x32x512x4096 : Shape := ⟨4, ![1, 32, 512, 4096]⟩
abbrev S32x512x4096 : Shape := ⟨3, ![32, 512, 4096]⟩
abbrev S33792x32x4096 : Shape := ⟨3, ![33792, 32, 4096]⟩
abbrev S1x32x4096 : Shape := ⟨3, ![1, 32, 4096]⟩
abbrev S32x4096 : Shape := ⟨2, ![32, 4096]⟩
abbrev S33792x32x1 : Shape := ⟨3, ![33792, 32, 1]⟩
abbrev S33792x4096 : Shape := ⟨2, ![33792, 4096]⟩
abbrev S33792x1x4096 : Shape := ⟨3, ![33792, 1, 4096]⟩

abbrev nBuf : Space → Nat
  | .hbm => 45
  | .vmem => 0
  | .smem => 0
  | _ => 0

abbrev bufTy : (tb : Table) → Fin (tcTables nBuf tb) → BufTy
  | .hbm, ⟨0, _⟩ => ⟨S8x128, .i32⟩
  | .hbm, ⟨1, _⟩ => ⟨S33792x512, .bf16⟩
  | .hbm, ⟨2, _⟩ => ⟨S2x32x512x4096, .f32⟩
  | .hbm, ⟨3, _⟩ => ⟨S2x32x4096, .f32⟩
  | .hbm, ⟨4, _⟩ => ⟨S1x32, .i32⟩
  | .hbm, ⟨5, _⟩ => ⟨S32, .i32⟩
  | .hbm, ⟨6, _⟩ => ⟨S_, .i32⟩
  | .hbm, ⟨7, _⟩ => ⟨S_, .i32⟩
  | .hbm, ⟨8, _⟩ => ⟨S32, .i32⟩
  | .hbm, ⟨9, _⟩ => ⟨S33792, .i32⟩
  | .hbm, ⟨10, _⟩ => ⟨S1x32, .i32⟩
  | .hbm, ⟨11, _⟩ => ⟨S33792x1, .i32⟩
  | .hbm, ⟨12, _⟩ => ⟨S33792x32, .i32⟩
  | .hbm, ⟨13, _⟩ => ⟨S33792x32, .i32⟩
  | .hbm, ⟨14, _⟩ => ⟨S33792x32, .i1⟩
  | .hbm, ⟨15, _⟩ => ⟨S33792x32, .i32⟩
  | .hbm, ⟨16, _⟩ => ⟨S_, .i32⟩
  | .hbm, ⟨17, _⟩ => ⟨S33792, .i32⟩
  | .hbm, ⟨18, _⟩ => ⟨S_, .i32⟩
  | .hbm, ⟨19, _⟩ => ⟨S33792, .i32⟩
  | .hbm, ⟨20, _⟩ => ⟨S33792, .i32⟩
  | .hbm, ⟨21, _⟩ => ⟨S33792x1, .i32⟩
  | .hbm, ⟨22, _⟩ => ⟨S32, .i32⟩
  | .hbm, ⟨23, _⟩ => ⟨S1x32, .i32⟩
  | .hbm, ⟨24, _⟩ => ⟨S33792x32, .i32⟩
  | .hbm, ⟨25, _⟩ => ⟨S33792x32, .i32⟩
  | .hbm, ⟨26, _⟩ => ⟨S33792x32, .i1⟩
  | .hbm, ⟨27, _⟩ => ⟨S33792x512, .f32⟩
  | .hbm, ⟨28, _⟩ => ⟨S1x32x512x4096, .f32⟩
  | .hbm, ⟨29, _⟩ => ⟨S32x512x4096, .f32⟩
  | .hbm, ⟨30, _⟩ => ⟨S33792x32x4096, .f32⟩
  | .hbm, ⟨31, _⟩ => ⟨S1x32x4096, .f32⟩
  | .hbm, ⟨32, _⟩ => ⟨S32x4096, .f32⟩
  | .hbm, ⟨33, _⟩ => ⟨S1x32x4096, .f32⟩
  | .hbm, ⟨34, _⟩ => ⟨S33792x32x4096, .f32⟩
  | .hbm, ⟨35, _⟩ => ⟨S33792x32x4096, .f32⟩
  | .hbm, ⟨36, _⟩ => ⟨S33792x32x1, .i1⟩
  | .hbm, ⟨37, _⟩ => ⟨S_, .f32⟩
  | .hbm, ⟨38, _⟩ => ⟨S_, .f32⟩
  | .hbm, ⟨39, _⟩ => ⟨S33792x32x4096, .i1⟩
  | .hbm, ⟨40, _⟩ => ⟨S33792x32x4096, .f32⟩
  | .hbm, ⟨41, _⟩ => ⟨S33792x32x4096, .f32⟩
  | .hbm, ⟨42, _⟩ => ⟨S_, .f32⟩
  | .hbm, ⟨43, _⟩ => ⟨S33792x4096, .f32⟩
  | .hbm, ⟨44, _⟩ => ⟨S33792x1x4096, .f32⟩
  | _, _ => ⟨S8x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_call0_c : Ref sig .tc := ⟨.hbm, 6, rfl⟩
abbrev main_call0_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v29 : Ref sig .tc := ⟨.hbm, 41, rfl⟩
abbrev main_cst_1 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Inproj.lean ====
abbrev S8448x4096 : Shape := ⟨2, ![8448, 4096]⟩
abbrev S2x4096 : Shape := ⟨2, ![2, 4096]⟩
abbrev S2x24576 : Shape := ⟨2, ![2, 24576]⟩
abbrev S2x4096x6720 : Shape := ⟨3, ![2, 4096, 6720]⟩
abbrev S1x4096x6720 : Shape := ⟨3, ![1, 4096, 6720]⟩
abbrev S4096x6720 : Shape := ⟨2, ![4096, 6720]⟩
abbrev S4096x4096 : Shape := ⟨2, ![4096, 4096]⟩
abbrev S4096x1024 : Shape := ⟨2, ![4096, 1024]⟩
abbrev S4096x576 : Shape := ⟨2, ![4096, 576]⟩
abbrev S_ : Shape := ⟨0, ![]⟩
abbrev S4096x448 : Shape := ⟨2, ![4096, 448]⟩
abbrev S4096x7168 : Shape := ⟨2, ![4096, 7168]⟩
abbrev S1x4096 : Shape := ⟨2, ![1, 4096]⟩
abbrev S4096 : Shape := ⟨1, ![4096]⟩
abbrev S8448x7168 : Shape := ⟨2, ![8448, 7168]⟩
abbrev S768x4096 : Shape := ⟨2, ![768, 4096]⟩
abbrev S4096x512 : Shape := ⟨2, ![4096, 512]⟩
abbrev S768x512 : Shape := ⟨2, ![768, 512]⟩
abbrev S16x4096 : Shape := ⟨2, ![16, 4096]⟩
abbrev S16 : Shape := ⟨1, ![16]⟩
abbrev S16x1 : Shape := ⟨2, ![16, 1]⟩

abbrev nBuf : Space → Nat
  | .hbm => 18
  | .vmem => 10
  | .smem => 0
  | _ => 0

abbrev bufTy : (tb : Table) → Fin (tcTables nBuf tb) → BufTy
  | .hbm, ⟨0, _⟩ => ⟨S8448x4096, .f32⟩
  | .hbm, ⟨1, _⟩ => ⟨S2x4096, .f32⟩
  | .hbm, ⟨2, _⟩ => ⟨S2x24576, .f32⟩
  | .hbm, ⟨3, _⟩ => ⟨S2x4096x6720, .f32⟩
  | .hbm, ⟨4, _⟩ => ⟨S1x4096x6720, .f32⟩
  | .hbm, ⟨5, _⟩ => ⟨S4096x6720, .f32⟩
  | .hbm, ⟨6, _⟩ => ⟨S4096x4096, .f32⟩
  | .hbm, ⟨7, _⟩ => ⟨S4096x1024, .f32⟩
  | .hbm, ⟨8, _⟩ => ⟨S4096x1024, .f32⟩
  | .hbm, ⟨9, _⟩ => ⟨S4096x576, .f32⟩
  | .hbm, ⟨10, _⟩ => ⟨S_, .f32⟩
  | .hbm, ⟨11, _⟩ => ⟨S4096x448, .f32⟩
  | .hbm, ⟨12, _⟩ => ⟨S4096x7168, .f32⟩
  | .hbm, ⟨13, _⟩ => ⟨S4096x7168, .bf16⟩
  | .hbm, ⟨14, _⟩ => ⟨S1x4096, .f32⟩
  | .hbm, ⟨15, _⟩ => ⟨S4096, .f32⟩
  | .hbm, ⟨16, _⟩ => ⟨S1x4096, .f32⟩
  | .hbm, ⟨17, _⟩ => ⟨S8448x7168, .bf16⟩
  | .local _ .vmem, ⟨0, _⟩ => ⟨S768x4096, .f32⟩
  | .local _ .vmem, ⟨1, _⟩ => ⟨S768x4096, .f32⟩
  | .local _ .vmem, ⟨2, _⟩ => ⟨S1x4096, .f32⟩
  | .local _ .vmem, ⟨3, _⟩ => ⟨S2x4096, .f32⟩
  | .local _ .vmem, ⟨4, _⟩ => ⟨S2x4096, .f32⟩
  | .local _ .vmem, ⟨5, _⟩ => ⟨S4096x512, .bf16⟩
  | .local _ .vmem, ⟨6, _⟩ => ⟨S4096x512, .bf16⟩
  | .local _ .vmem, ⟨7, _⟩ => ⟨S768x512, .bf16⟩
  | .local _ .vmem, ⟨8, _⟩ => ⟨S768x512, .bf16⟩
  | .local _ .vmem, ⟨9, _⟩ => ⟨S768x4096, .bf16⟩
  | _, _ => ⟨S8448x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![11, 14], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c48_i32 : BitVec 32 := 48#32
  let v9 : BitVec 32 := Scalar.addi c0_i32_6 c48_i32
  let c1_i32 : BitVec 32 := 1#32
  ⟨c0_i32_6, v9, c1_i32⟩
def k0_mult1 (k0_t1 : Fin k0_t1_loop.trips) : BitVec 32 :=
  let c0_i32_6 : BitVec 32 := 0#32
  let c1_i32 : BitVec 32 := 1#32
  let arg9 : BitVec 32 := Scf.iv c0_i32_6 c1_i32 k0_t1
  let c16_i32 : BitVec 32 := 16#32
  let v10 : BitVec 32 := Scalar.muli arg9 c16_i32
  v10
def k0_off1 (k0_t1 : Fin k0_t1_loop.trips) : Fin 2 → Nat :=
  let c0_i32_6 : BitVec 32 := 0#32
  let c1_i32 : BitVec 32 := 1#32
  let arg9 : BitVec 32 := Scf.iv c0_i32_6 c1_i32 k0_t1
  let c16_i32 : BitVec 32 := 16#32
  let v10 : BitVec 32 := Scalar.muli arg9 c16_i32
  let v11 : BitVec 32 := v10
  let v12 : Index := Scalar.indexCast v11
  let c0_8 : Index := 0#32
  ![v12.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S768x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InprojRefIdeal.lean ====
abbrev S8448x4096 : Shape := ⟨2, ![8448, 4096]⟩
abbrev S2x4096 : Shape := ⟨2, ![2, 4096]⟩
abbrev S2x24576 : Shape := ⟨2, ![2, 24576]⟩
abbrev S2x4096x6720 : Shape := ⟨3, ![2, 4096, 6720]⟩
abbrev S_ : Shape := ⟨0, ![]⟩
abbrev S8448 : Shape := ⟨1, ![8448]⟩
abbrev S8448x1 : Shape := ⟨2, ![8448, 1]⟩
abbrev S1x4096 : Shape := ⟨2, ![1, 4096]⟩
abbrev S4096 : Shape := ⟨1, ![4096]⟩
abbrev S1x4096x6720 : Shape := ⟨3, ![1, 4096, 6720]⟩
abbrev S4096x6720 : Shape := ⟨2, ![4096, 6720]⟩
abbrev S8448x6720 : Shape := ⟨2, ![8448, 6720]⟩
abbrev S8448x576 : Shape := ⟨2, ![8448, 576]⟩
abbrev S8448x1024 : Shape := ⟨2, ![8448, 1024]⟩
abbrev S8448x5120 : Shape := ⟨2, ![8448, 5120]⟩
abbrev S8448x448 : Shape := ⟨2, ![8448, 448]⟩
abbrev S8448x7168 : Shape := ⟨2, ![8448, 7168]⟩

abbrev nBuf : Space → Nat
  | .hbm => 58
  | .vmem => 0
  | .smem => 0
  | _ => 0

abbrev bufTy : (tb : Table) → Fin (tcTables nBuf tb) → BufTy
  | .hbm, ⟨0, _⟩ => ⟨S8448x4096, .f32⟩
  | .hbm, ⟨1, _⟩ => ⟨S2x4096, .f32⟩
  | .hbm, ⟨2, _⟩ => ⟨S2x24576, .f32⟩
  | .hbm, ⟨3, _⟩ => ⟨S2x4096x6720, .f32⟩
  | .hbm, ⟨4, _⟩ => ⟨S8448x4096, .f32⟩
  | .hbm, ⟨5, _⟩ => ⟨S_, .f32⟩
  | .hbm, ⟨6, _⟩ => ⟨S8448, .f32⟩
  | .hbm, ⟨7, _⟩ => ⟨S8448x1, .f32⟩
  | .hbm, ⟨8, _⟩ => ⟨S_, .f32⟩
  | .hbm, ⟨9, _⟩ => ⟨S8448x1, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S8448x1, .f32⟩
  | .hbm, ⟨15, _⟩ => ⟨S8448x4096, .f32⟩
  | .hbm, ⟨16, _⟩ => ⟨S8448x4096, .f32⟩
  | .hbm, ⟨17, _⟩ => ⟨S1x4096, .f32⟩
  | .hbm, ⟨18, _⟩ => ⟨S4096, .f32⟩
  | .hbm, ⟨19, _⟩ => ⟨S1x4096, .f32⟩
  | .hbm, ⟨20, _⟩ => ⟨S8448x4096, .f32⟩
  | .hbm, ⟨21, _⟩ => ⟨S8448x4096, .f32⟩
  | .hbm, ⟨22, _⟩ => ⟨S8448, .i32⟩
  | .hbm, ⟨23, _⟩ => ⟨S_, .i32⟩
  | .hbm, ⟨24, _⟩ => ⟨S8448, .i32⟩
  | .hbm, ⟨25, _⟩ => ⟨S8448, .i1⟩
  | .hbm, ⟨26, _⟩ => ⟨S8448x1, .i1⟩
  | .hbm, ⟨27, _⟩ => ⟨S1x4096, .f32⟩
  | .hbm, ⟨28, _⟩ => ⟨S4096, .f32⟩
  | .hbm, ⟨29, _⟩ => ⟨S1x4096, .f32⟩
  | .hbm, ⟨30, _⟩ => ⟨S4096, .f32⟩
  | .hbm, ⟨31, _⟩ => ⟨S8448x4096, .i1⟩
  | .hbm, ⟨32, _⟩ => ⟨S8448x4096, .f32⟩
  | .hbm, ⟨33, _⟩ => ⟨S8448x4096, .f32⟩
  | .hbm, ⟨34, _⟩ => ⟨S8448x4096, .f32⟩
  | .hbm, ⟨35, _⟩ => ⟨S1x4096, .f32⟩
  | .hbm, ⟨36, _⟩ => ⟨S4096, .f32⟩
  | .hbm, ⟨37, _⟩ => ⟨S1x4096, .f32⟩
  | .hbm, ⟨38, _⟩ => ⟨S4096, .f32⟩
  | .hbm, ⟨39, _⟩ => ⟨S8448x4096, .i1⟩
  | .hbm, ⟨40, _⟩ => ⟨S8448x4096, .f32⟩
  | .hbm, ⟨41, _⟩ => ⟨S8448x4096, .f32⟩
  | .hbm, ⟨42, _⟩ => ⟨S8448x4096, .f32⟩
  | .hbm, ⟨43, _⟩ => ⟨S_, .f32⟩
  | .hbm, ⟨44, _⟩ => ⟨S8448x4096, .f32⟩
  | .hbm, ⟨45, _⟩ => ⟨S8448x4096, .f32⟩
  | .hbm, ⟨46, _⟩ => ⟨S8448x4096, .f32⟩
  | .hbm, ⟨47, _⟩ => ⟨S8448x4096, .f32⟩
  | .hbm, ⟨48, _⟩ => ⟨S1x4096x6720, .f32⟩
  | .hbm, ⟨49, _⟩ => ⟨S4096x6720, .f32⟩
  | .hbm, ⟨50, _⟩ => ⟨S8448x6720, .f32⟩
  | .hbm, ⟨51, _⟩ => ⟨S8448x576, .f32⟩
  | .hbm, ⟨52, _⟩ => ⟨S8448x1024, .f32⟩
  | .hbm, ⟨53, _⟩ => ⟨S8448x5120, .f32⟩
  | .hbm, ⟨54, _⟩ => ⟨S_, .f32⟩
  | .hbm, ⟨55, _⟩ => ⟨S8448x448, .f32⟩
  | .hbm, ⟨56, _⟩ => ⟨S8448x7168, .f32⟩
  | .hbm, ⟨57, _⟩ => ⟨S8448x7168, .bf16⟩
  | _, _ => ⟨S8448x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_3 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Gmlp.lean ====
abbrev S8448x7168 : Shape := ⟨2, ![8448, 7168]⟩
abbrev S2x8x128 : Shape := ⟨3, ![2, 8, 128]⟩
abbrev S2x8x128x128 : Shape := ⟨4, ![2, 8, 128, 128]⟩
abbrev S1x8x128 : Shape := ⟨3, ![1, 8, 128]⟩
abbrev S8x128 : Shape := ⟨2, ![8, 128]⟩
abbrev S8x128x1 : Shape := ⟨3, ![8, 128, 1]⟩
abbrev S8x128x128 : Shape := ⟨3, ![8, 128, 128]⟩
abbrev S1x8x128x128 : Shape := ⟨4, ![1, 8, 128, 128]⟩
abbrev S8448x1024 : Shape := ⟨2, ![8448, 1024]⟩
abbrev S256x1024 : Shape := ⟨2, ![256, 1024]⟩
abbrev S128x128 : Shape := ⟨2, ![128, 128]⟩
abbrev S128 : Shape := ⟨1, ![128]⟩
abbrev S128x1 : Shape := ⟨2, ![128, 1]⟩
abbrev S1x128 : Shape := ⟨2, ![1, 128]⟩
abbrev S1x128x128 : Shape := ⟨3, ![1, 128, 128]⟩

abbrev nBuf : Space → Nat
  | .hbm => 14
  | .vmem => 9
  | .smem => 0
  | _ => 0

abbrev bufTy : (tb : Table) → Fin (tcTables nBuf tb) → BufTy
  | .hbm, ⟨0, _⟩ => ⟨S8448x7168, .bf16⟩
  | .hbm, ⟨1, _⟩ => ⟨S2x8x128, .f32⟩
  | .hbm, ⟨2, _⟩ => ⟨S2x8x128x128, .f32⟩
  | .hbm, ⟨3, _⟩ => ⟨S2x8x128, .f32⟩
  | .hbm, ⟨4, _⟩ => ⟨S1x8x128, .f32⟩
  | .hbm, ⟨5, _⟩ => ⟨S8x128, .f32⟩
  | .hbm, ⟨6, _⟩ => ⟨S8x128x1, .f32⟩
  | .hbm, ⟨7, _⟩ => ⟨S8x128x128, .f32⟩
  | .hbm, ⟨8, _⟩ => ⟨S1x8x128x128, .f32⟩
  | .hbm, ⟨9, _⟩ => ⟨S8x128x128, .f32⟩
  | .hbm, ⟨10, _⟩ => ⟨S8x128x128, .bf16⟩
  | .hbm, ⟨11, _⟩ => ⟨S1x8x128, .f32⟩
  | .hbm, ⟨12, _⟩ => ⟨S8x128, .f32⟩
  | .hbm, ⟨13, _⟩ => ⟨S8448x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S8x128x128, .bf16⟩
  | .local _ .vmem, ⟨5, _⟩ => ⟨S8x128x128, .f32⟩
  | .local _ .vmem, ⟨6, _⟩ => ⟨S8x128, .f32⟩
  | .local _ .vmem, ⟨7, _⟩ => ⟨S256x1024, .bf16⟩
  | .local _ .vmem, ⟨8, _⟩ => ⟨S256x1024, .bf16⟩
  | _, _ => ⟨S8448x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GmlpRefIdeal.lean ====
abbrev S8448x7168 : Shape := ⟨2, ![8448, 7168]⟩
abbrev S2x8x128 : Shape := ⟨3, ![2, 8, 128]⟩
abbrev S2x8x128x128 : Shape := ⟨4, ![2, 8, 128, 128]⟩
abbrev S8448x1024 : Shape := ⟨2, ![8448, 1024]⟩
abbrev S8448x8x128 : Shape := ⟨3, ![8448, 8, 128]⟩
abbrev S_ : Shape := ⟨0, ![]⟩
abbrev S8448x8 : Shape := ⟨2, ![8448, 8]⟩
abbrev S8448x8x1 : Shape := ⟨3, ![8448, 8, 1]⟩
abbrev S1x8x128 : Shape := ⟨3, ![1, 8, 128]⟩
abbrev S8x128 : Shape := ⟨2, ![8, 128]⟩
abbrev S66x128x8x128 : Shape := ⟨4, ![66, 128, 8, 128]⟩
abbrev S1x8x128x128 : Shape := ⟨4, ![1, 8, 128, 128]⟩
abbrev S8x128x128 : Shape := ⟨3, ![8, 128, 128]⟩
abbrev S8x66x128x128 : Shape := ⟨4, ![8, 66, 128, 128]⟩
abbrev S128x8 : Shape := ⟨2, ![128, 8]⟩
abbrev S128x8x1 : Shape := ⟨3, ![128, 8, 1]⟩
abbrev S1x128x8x1 : Shape := ⟨4, ![1, 128, 8, 1]⟩

abbrev nBuf : Space → Nat
  | .hbm => 42
  | .vmem => 0
  | .smem => 0
  | _ => 0

abbrev bufTy : (tb : Table) → Fin (tcTables nBuf tb) → BufTy
  | .hbm, ⟨0, _⟩ => ⟨S8448x7168, .bf16⟩
  | .hbm, ⟨1, _⟩ => ⟨S2x8x128, .f32⟩
  | .hbm, ⟨2, _⟩ => ⟨S2x8x128x128, .f32⟩
  | .hbm, ⟨3, _⟩ => ⟨S2x8x128, .f32⟩
  | .hbm, ⟨4, _⟩ => ⟨S8448x1024, .bf16⟩
  | .hbm, ⟨5, _⟩ => ⟨S8448x1024, .f32⟩
  | .hbm, ⟨6, _⟩ => ⟨S8448x1024, .bf16⟩
  | .hbm, ⟨7, _⟩ => ⟨S8448x8x128, .bf16⟩
  | .hbm, ⟨8, _⟩ => ⟨S8448x8x128, .f32⟩
  | .hbm, ⟨9, _⟩ => ⟨S8448x8x128, .f32⟩
  | .hbm, ⟨10, _⟩ => ⟨S_, .f32⟩
  | .hbm, ⟨11, _⟩ => ⟨S8448x8, .f32⟩
  | .hbm, ⟨12, _⟩ => ⟨S8448x8x1, .f32⟩
  | .hbm, ⟨13, _⟩ => ⟨S_, .f32⟩
  | .hbm, ⟨14, _⟩ => ⟨S8448x8x1, .f32⟩
  | .hbm, ⟨15, _⟩ => ⟨S8448x8x1, .f32⟩
  | .hbm, ⟨16, _⟩ => ⟨S_, .f32⟩
  | .hbm, ⟨17, _⟩ => ⟨S8448x8x1, .f32⟩
  | .hbm, ⟨18, _⟩ => ⟨S8448x8x1, .f32⟩
  | .hbm, ⟨19, _⟩ => ⟨S8448x8x1, .f32⟩
  | .hbm, ⟨20, _⟩ => ⟨S8448x8x128, .f32⟩
  | .hbm, ⟨21, _⟩ => ⟨S8448x8x128, .f32⟩
  | .hbm, ⟨22, _⟩ => ⟨S1x8x128, .f32⟩
  | .hbm, ⟨23, _⟩ => ⟨S8x128, .f32⟩
  | .hbm, ⟨24, _⟩ => ⟨S1x8x128, .f32⟩
  | .hbm, ⟨25, _⟩ => ⟨S8448x8x128, .f32⟩
  | .hbm, ⟨26, _⟩ => ⟨S8448x8x128, .f32⟩
  | .hbm, ⟨27, _⟩ => ⟨S66x128x8x128, .f32⟩
  | .hbm, ⟨28, _⟩ => ⟨S1x8x128x128, .f32⟩
  | .hbm, ⟨29, _⟩ => ⟨S8x128x128, .f32⟩
  | .hbm, ⟨30, _⟩ => ⟨S8x66x128x128, .f32⟩
  | .hbm, ⟨31, _⟩ => ⟨S66x128x8x128, .f32⟩
  | .hbm, ⟨32, _⟩ => ⟨S1x8x128, .f32⟩
  | .hbm, ⟨33, _⟩ => ⟨S8x128, .f32⟩
  | .hbm, ⟨34, _⟩ => ⟨S128x8, .f32⟩
  | .hbm, ⟨35, _⟩ => ⟨S128x8x1, .f32⟩
  | .hbm, ⟨36, _⟩ => ⟨S1x128x8x1, .f32⟩
  | .hbm, ⟨37, _⟩ => ⟨S66x128x8x128, .f32⟩
  | .hbm, ⟨38, _⟩ => ⟨S66x128x8x128, .f32⟩
  | .hbm, ⟨39, _⟩ => ⟨S8448x1024, .f32⟩
  | .hbm, ⟨40, _⟩ => ⟨S8448x1024, .f32⟩
  | .hbm, ⟨41, _⟩ => ⟨S8448x1024, .bf16⟩
  | _, _ => ⟨S8448x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩

abbrev nD : Nat := 1
abbrev τ : Topo := Topo.v7x

variable {F : FTy → Type} [FloatOps F]
-- ==== Proof.AttnMath.lean ====
/- Softmax over the extended reals, a block of keys at a time: the running maximum, the running sum of exponentials
   and the running weighted sum, each as one expression over the keys seen so far, and the quotient at the end. -/
module

public import Idealize.ShloMosaic.PureOps.Ideal

@[expose] public section

noncomputable section

namespace Cert.Attn

open Idealize.ShloMosaic

/-- The greatest of the first `n` scores, `⊥` where there are none. -/
def mx (s : ℕ → EReal) (n : ℕ) : EReal := (Finset.range n).sup s

/-- The sum of the exponentials of the first `n` scores less their maximum. -/
def den (s : ℕ → EReal) (n : ℕ) : EReal := ∑ j ∈ Finset.range n, Ideal.exp (s j - mx s n)

/-- The same sum with each exponential times the value of its key. -/
def num (s v : ℕ → EReal) (n : ℕ) : EReal := ∑ j ∈ Finset.range n, Ideal.exp (s j - mx s n) * v j

/-- A factor that is a nonnegative real goes into a sum over the extended reals, whatever the terms. -/
theorem real_mul_sum {ι : Type} (t : Finset ι) (f : ι → EReal) {r : ℝ} (hr : 0 ≤ r) :
    (r : EReal) * ∑ i ∈ t, f i = ∑ i ∈ t, (r : EReal) * f i := by
  classical
  induction t using Finset.induction_on with
  | empty => simp
  | insert a t ha ih =>
    rw [Finset.sum_insert ha, Finset.sum_insert ha,
      EReal.left_distrib_of_nonneg_of_ne_top (by exact_mod_cast hr) (EReal.coe_ne_top r), ih]

/-- The maximum of the first `n + b` scores is the maximum of the first `n` and of the `b` after them. -/
theorem mx_step (s : ℕ → EReal) (n b : ℕ) :
    max (mx s n) (Finset.univ.fold max ⊥ fun k : Fin b => s (n + k.val)) = mx s (n + b) := by
  apply le_antisymm
  · refine max_le (Finset.sup_mono fun j hj => ?_) (Finset.sup_le fun k _ => ?_)
    · exact Finset.mem_range.2 (by have := Finset.mem_range.1 hj; omega)
    · exact Finset.le_sup (f := s) (Finset.mem_range.2 (by have := k.isLt; omega))
  · refine Finset.sup_le fun j hj => ?_
    have hj := Finset.mem_range.1 hj
    rcases lt_or_ge j n with h | h
    · exact le_max_of_le_left (Finset.le_sup (f := s) (Finset.mem_range.2 h))
    · refine le_max_of_le_right ?_
      have := Finset.le_sup (f := fun k : Fin b => s (n + k.val)) (Finset.mem_univ ⟨j - n, by omega⟩)
      simp only [Nat.add_sub_cancel' h] at this
      exact this

/-- Where every score is a real, the maximum of at least one of them is. -/
theorem mx_real {s : ℕ → EReal} (hs : ∀ j, ∃ r : ℝ, s j = r) {n : ℕ} (hn : 0 < n) : ∃ r : ℝ, mx s n = r := by
  obtain ⟨j, -, hj⟩ := Finset.exists_mem_eq_sup (Finset.range n) ⟨0, Finset.mem_range.2 hn⟩ s
  obtain ⟨r, hr⟩ := hs j
  exact ⟨r, hj.trans hr⟩

/-- Raising the maximum from that of the first `n` scores to that of more of them multiplies each of the first `n`
    terms by the exponential of the difference. -/
theorem rescale {s : ℕ → EReal} (hs : ∀ j, ∃ r : ℝ, s j = r) (w : ℕ → EReal) (n b : ℕ) :
    Ideal.exp (mx s n - mx s (n + b)) * (∑ j ∈ Finset.range n, Ideal.exp (s j - mx s n) * w j)
      = ∑ j ∈ Finset.range n, Ideal.exp (s j - mx s (n + b)) * w j := by
  rcases Nat.eq_zero_or_pos n with rfl | hn
  · simp
  · obtain ⟨a, ha⟩ := mx_real hs hn
    obtain ⟨a', ha'⟩ := mx_real hs (n := n + b) (by omega)
    rw [ha, ha', ← EReal.coe_sub, Ideal.exp_coe, real_mul_sum _ _ (Real.exp_pos _).le]
    refine Finset.sum_congr rfl fun j _ => ?_
    obtain ⟨r, hr⟩ := hs j
    rw [hr, ← EReal.coe_sub, ← EReal.coe_sub, Ideal.exp_coe, Ideal.exp_coe, ← mul_assoc, ← EReal.coe_mul, ← Real.exp_add]
    congr 3; ring_nf

/-- A sum over the first `n + b` keys: the first `n`, then the `b` after them. -/
theorem sum_split (f : ℕ → EReal) (n b : ℕ) :
    ∑ j ∈ Finset.range (n + b), f j = ∑ j ∈ Finset.range n, f j + ∑ k : Fin b, f (n + k.val) := by
  rw [Finset.sum_range_add, Finset.sum_range (fun k => f (n + k))]

/-- One block of keys into the sum of exponentials. -/
theorem den_step {s : ℕ → EReal} (hs : ∀ j, ∃ r : ℝ, s j = r) (n b : ℕ) :
    Ideal.exp (mx s n - mx s (n + b)) * den s n + ∑ k : Fin b, Ideal.exp (s (n + k.val) - mx s (n + b))
      = den s (n + b) := by
  have h := rescale hs (fun _ => 1) n b
  simp only [mul_one] at h
  unfold den
  rw [h, sum_split]

/-- One block of keys into the weighted sum. -/
theorem num_step {s : ℕ → EReal} (hs : ∀ j, ∃ r : ℝ, s j = r) (v : ℕ → EReal) (n b : ℕ) :
    Ideal.exp (mx s n - mx s (n + b)) * num s v n
        + ∑ k : Fin b, Ideal.exp (s (n + k.val) - mx s (n + b)) * v (n + k.val)
      = num s v (n + b) := by
  unfold num
  rw [rescale hs v n b, sum_split]

/-- A sum of reals, as an extended real, is the sum of them as extended reals. -/
theorem coe_sum {ι : Type} (t : Finset ι) (f : ι → ℝ) : ((∑ i ∈ t, f i : ℝ) : EReal) = ∑ i ∈ t, (f i : EReal) :=
  map_sum (⟨⟨Real.toEReal, EReal.coe_zero⟩, EReal.coe_add⟩ : ℝ →+ EReal) f t

/-- The sum of exponentials of at least one real score is a positive real. -/
theorem den_real {s : ℕ → EReal} (hs : ∀ j, ∃ r : ℝ, s j = r) {n : ℕ} (hn : 0 < n) :
    ∃ r : ℝ, 0 < r ∧ den s n = r := by
  obtain ⟨a, ha⟩ := mx_real hs hn
  choose f hf using hs
  refine ⟨∑ j ∈ Finset.range n, Real.exp (f j - a),
    Finset.sum_pos (fun _ _ => Real.exp_pos _) ⟨0, Finset.mem_range.2 hn⟩, ?_⟩
  unfold den
  rw [coe_sum]
  exact Finset.sum_congr rfl fun j _ => by rw [ha, hf, ← EReal.coe_sub, Ideal.exp_coe]

/-- THE QUOTIENT: the weighted sum divided by the sum of exponentials is the sum of the values weighted by the
    quotients, softmax's own form. -/
theorem quotient {s : ℕ → EReal} (hs : ∀ j, ∃ r : ℝ, s j = r) (v : ℕ → EReal) {n : ℕ} (hn : 0 < n) :
    Ideal.div (num s v n) (den s n)
      = ∑ j ∈ Finset.range n, v j * Ideal.div (Ideal.exp (s j - mx s n)) (den s n) := by
  obtain ⟨r, hr, h⟩ := den_real hs hn
  rw [h, Ideal.div_coe hr.ne', num, mul_comm, real_mul_sum _ _ (by positivity)]
  refine Finset.sum_congr rfl fun j _ => ?_
  rw [Ideal.div_coe hr.ne', mul_comm (Ideal.exp _) (v j), mul_left_comm, mul_comm (((1 / r : ℝ)) : EReal)]

end Cert.Attn

end
-- ==== Proof.AttnStep.lean ====
/- One block of keys: the values that the attention kernel's loop body stores, read at an index. -/
module

public import proofs.«01_k».proof.Proof.Gen.KernelIdeal.Value
public import Idealize.ShloMosaic.Lib.Pointwise
public import Idealize.ShloMosaic.Lib.ValueIdx

@[expose] public section

set_option maxRecDepth 16384

noncomputable section

namespace Cert.Attn

open Cert.KernelIdeal Cert.KernelIdeal.Gen Idealize.ShloMosaic Idealize.ShloMosaic.TcCoe Idealize.SL.Sem

variable (q kb : Vec Ideal S1x256x256 .bf16) (vb : Vec Ideal S1x256x128 .bf16)
  (m l : FVec Ideal S256x1 .f32) (a : FVec Ideal S256x128 .f32)

/-- The word that the kernel's running maximum starts from denotes `⊥`. -/
theorem neg_inf : Ideal.ofBits .f32 0xFF800000#32 = ⊥ := by
  simp [Ideal.ofBits, Ideal.ieee]

/-- A score: the product of a query row and a key row. -/
theorem pay5_apply (r x : Fin 256) :
    k0_pay5 q kb (ix2 r x) = ∑ d : Fin 256, q (ix3 0 r d) * kb (ix3 0 x d) := by
  unfold k0_pay5 k0_pay1
  pointwise

/-- The new maximum of a row. -/
theorem pay6_apply (r : Fin 256) :
    k0_pay6 q m kb (ix2 r 0) = max (m (ix2 r 0)) (Finset.univ.fold max ⊥ fun x : Fin 256 => k0_pay5 q kb (ix2 r x)) := by
  unfold k0_pay6
  pointwise
  rw [neg_inf]

/-- The factor that rescales what a row carried. -/
theorem pay7_apply (r : Fin 256) :
    k0_pay7 q m kb (ix2 r 0) = Ideal.exp (m (ix2 r 0) - k0_pay6 q m kb (ix2 r 0)) := by
  unfold k0_pay7
  pointwise

/-- The exponential of a score less the new maximum. -/
theorem pay8_apply (r x : Fin 256) :
    k0_pay8 q m kb (ix2 r x) = Ideal.exp (k0_pay5 q kb (ix2 r x) - k0_pay6 q m kb (ix2 r 0)) := by
  unfold k0_pay8
  pointwise

/-- The new sum of exponentials of a row. -/
theorem pay9_apply (r : Fin 256) :
    k0_pay9 q m l kb (ix2 r 0) = k0_pay7 q m kb (ix2 r 0) * l (ix2 r 0) + ∑ x : Fin 256, k0_pay8 q m kb (ix2 r x) := by
  unfold k0_pay9
  pointwise

/-- The new weighted sums of a row. -/
theorem pay10_apply (r : Fin 256) (e : Fin 128) :
    k0_pay10 q m a kb vb (ix2 r e)
      = k0_pay7 q m kb (ix2 r 0) * a (ix2 r e) + ∑ x : Fin 256, k0_pay8 q m kb (ix2 r x) * vb (ix3 0 x e) := by
  unfold k0_pay10
  pointwise

/-- The stored quotient. -/
theorem pay17_apply (r : Fin 256) (e : Fin 128) :
    k0_pay17 l a (ix2 r e) = Ideal.div (a (ix2 r e)) (l (ix2 r 0)) := by
  unfold k0_pay17
  pointwise

/-- The maximum starts at `⊥`. -/
theorem pay2_apply (i : S256x1.Idx) : k0_pay2 (F := Ideal) i = ⊥ := by
  unfold k0_pay2
  pointwise
  exact neg_inf
/-- The sum of exponentials starts at zero. -/
theorem pay3_apply (i : S256x1.Idx) : k0_pay3 (F := Ideal) i = 0 := by
  unfold k0_pay3
  pointwise
/-- The weighted sums start at zero. -/
theorem pay4_apply (i : S256x128.Idx) : k0_pay4 (F := Ideal) i = 0 := by
  unfold k0_pay4
  pointwise
end Cert.Attn

end
-- ==== Proof.AttnTrip.lean ====
/- The loop over key blocks: what one trip yields, and the carried maximum, sum and weighted sum before trip `k` as
   functions of the first `256 k` keys. -/
module

public import proofs.«01_k».proof.Proof.AttnMath
public import proofs.«01_k».proof.Proof.AttnStep
public import Idealize.ShloMosaic.Lib.Pipeline.ValueKit

@[expose] public section

set_option maxRecDepth 16384

noncomputable section

namespace Cert.Attn

open Cert.KernelIdeal Cert.KernelIdeal.Gen Idealize.ShloMosaic Idealize.ShloMosaic.TcCoe Idealize.SL.Sem

/-- The score of query row `r` of a block against key `j`. -/
def score (q : Vec Ideal S1x256x256 .bf16) (K : Vec Ideal S1x8448x256 .bf16) (r : Fin 256) (j : ℕ) : EReal :=
  ∑ d : Fin 256, q (ix3 0 r d) * K (ix3 0 (Fin.ofNat 8448 j) d)

/-- Column `e` of the value of key `j`. -/
def value (V : Vec Ideal S1x8448x128 .bf16) (e : Fin 128) (j : ℕ) : EReal := V (ix3 0 (Fin.ofNat 8448 j) e)

section
variable {F : FTy → Type} [FloatOps F]

/-- One trip yields the three payloads of the blocks it loads. -/
theorem trip_eq (𝒱 : Variants) (c : Dev nD) (bd : Option 𝒱.V) (i : grid0.Coords) (arg2 : Memref sig .tc .vmem S1x256x256 .bf16) (harg2 : arg2.IsWhole) (arg3 : Memref sig .tc .vmem S1x8448x256 .bf16) (harg3 : arg3.IsWhole) (arg4 : Memref sig .tc .vmem S1x8448x128 .bf16) (harg4 : arg4.IsWhole) (arg5 : Memref sig .tc .vmem S256x128 .bf16) (harg5 : arg5.IsWhole) (v0 : Vec F S1x256x256 .bf16) (X_arg3 : BufTy.Contents (Elt F) arg3.view.ty) (X_arg4 : BufTy.Contents (Elt F) arg4.view.ty) (k : Fin (k0_t1_loop i).trips) (acc : FVec F S256x1 .f32 × FVec F S256x1 .f32 × FVec F S256x128 .f32) :
    tripR_k0_t1 𝒱 c bd i arg2 harg2 arg3 harg3 arg4 harg4 arg5 harg5 v0 X_arg3 X_arg4 k acc
      = (k0_pay6 v0 acc.1 (View.ld (arg3.view.read (Elt F) X_arg3) (Rect.unit (s := S1x8448x256) (k0_off1 i k) S1x256x256.size (k0_off1_inb i k))),
         k0_pay9 v0 acc.1 acc.2.1 (View.ld (arg3.view.read (Elt F) X_arg3) (Rect.unit (s := S1x8448x256) (k0_off1 i k) S1x256x256.size (k0_off1_inb i k))),
         k0_pay10 v0 acc.1 acc.2.2 (View.ld (arg3.view.read (Elt F) X_arg3) (Rect.unit (s := S1x8448x256) (k0_off1 i k) S1x256x256.size (k0_off1_inb i k)))
           (View.ld (arg4.view.read (Elt F) X_arg4) (Rect.unit (s := S1x8448x128) (k0_off2 i k) S1x256x128.size (k0_off2_inb i k)))) := by
  unfold tripR_k0_t1 trip_k0_t1
  rfl

/-- Row `x` of the key block that trip `k` loads is row `256 k + x` of the keys. -/
theorem ld_keys (i : grid0.Coords) (k : Fin (k0_t1_loop i).trips) (K : Vec F S1x8448x256 .bf16) (x d : Fin 256) :
    View.ld K (Rect.unit (s := S1x8448x256) (k0_off1 i k) S1x256x256.size (k0_off1_inb i k)) (ix3 0 x d)
      = K (ix3 0 (Fin.ofNat 8448 (256 * k.val + x.val)) d) := by
  have hk : k.val < 33 := lt_of_lt_of_le k.isLt (k0_t1_abs i).2.1
  have hx := x.isLt
  refine View.ld_unit_apply_of K _ _ _ _ _ fun a => ?_
  refine Eq.trans ?_ (congrArg (· + _) (congrFun (k0_off1_eq i k) a).symm)
  fin_cases a
  · rfl
  · show (256 * k.val + x.val) % 8448 = 256 * k.val + x.val
    exact Nat.mod_eq_of_lt (by omega)
  · show d.val = 0 + d.val
    omega

/-- … and of the value block. -/
theorem ld_values (i : grid0.Coords) (k : Fin (k0_t1_loop i).trips) (V : Vec F S1x8448x128 .bf16) (x : Fin 256) (e : Fin 128) :
    View.ld V (Rect.unit (s := S1x8448x128) (k0_off2 i k) S1x256x128.size (k0_off2_inb i k)) (ix3 0 x e)
      = V (ix3 0 (Fin.ofNat 8448 (256 * k.val + x.val)) e) := by
  have hk : k.val < 33 := lt_of_lt_of_le k.isLt (k0_t1_abs i).2.1
  have hx := x.isLt
  refine View.ld_unit_apply_of V _ _ _ _ _ fun a => ?_
  refine Eq.trans ?_ (congrArg (· + _) (congrFun (k0_off2_eq i k) a).symm)
  fin_cases a
  · rfl
  · show (256 * k.val + x.val) % 8448 = 256 * k.val + x.val
    exact Nat.mod_eq_of_lt (by omega)
  · show e.val = 0 + e.val
    omega
end

/-- THE LOOP'S INVARIANT, in values: before trip `k` the carried vectors hold, row by row, the maximum, the sum of
    exponentials and the weighted sums of the first `256 k` keys. -/
theorem state_eq (𝒱 : Variants) (c : Dev nD) (bd : Option 𝒱.V) (i : grid0.Coords) (arg2 : Memref sig .tc .vmem S1x256x256 .bf16) (harg2 : arg2.IsWhole) (arg3 : Memref sig .tc .vmem S1x8448x256 .bf16) (harg3 : arg3.IsWhole) (arg4 : Memref sig .tc .vmem S1x8448x128 .bf16) (harg4 : arg4.IsWhole) (arg5 : Memref sig .tc .vmem S256x128 .bf16) (harg5 : arg5.IsWhole)
    (q : Vec Ideal S1x256x256 .bf16) (X_arg3 : BufTy.Contents (Elt Ideal) arg3.view.ty) (X_arg4 : BufTy.Contents (Elt Ideal) arg4.view.ty)
    (K : Vec Ideal S1x8448x256 .bf16) (V : Vec Ideal S1x8448x128 .bf16)
    (hK : arg3.view.read (Elt Ideal) X_arg3 = K) (hV : arg4.view.read (Elt Ideal) X_arg4 = V)
    (r : Fin 256) (hs : ∀ j, ∃ x : ℝ, score q K r j = x) (k : ℕ) (hk : k ≤ (k0_t1_loop i).trips) :
    (st_k0_t1 𝒱 c bd i arg2 harg2 arg3 harg3 arg4 harg4 arg5 harg5 q X_arg3 X_arg4 (k0_pay2, k0_pay3, k0_pay4) k).1 (ix2 r 0) = mx (score q K r) (256 * k)
    ∧ (st_k0_t1 𝒱 c bd i arg2 harg2 arg3 harg3 arg4 harg4 arg5 harg5 q X_arg3 X_arg4 (k0_pay2, k0_pay3, k0_pay4) k).2.1 (ix2 r 0) = den (score q K r) (256 * k)
    ∧ ∀ e : Fin 128, (st_k0_t1 𝒱 c bd i arg2 harg2 arg3 harg3 arg4 harg4 arg5 harg5 q X_arg3 X_arg4 (k0_pay2, k0_pay3, k0_pay4) k).2.2 (ix2 r e) = num (score q K r) (value V e) (256 * k) := by
  induction k with
  | zero =>
    refine ⟨?_, ?_, fun e => ?_⟩
    · rw [st_k0_t1_zero]; exact pay2_apply (ix2 r 0)
    · rw [st_k0_t1_zero]; exact pay3_apply (ix2 r 0)
    · rw [st_k0_t1_zero]; exact pay4_apply (ix2 r e)
  | succ k ih =>
    obtain ⟨hm, hl, ha⟩ := ih (by omega)
    have hstep := st_k0_t1_succ (F := Ideal) 𝒱 c bd i arg2 harg2 arg3 harg3 arg4 harg4 arg5 harg5 q X_arg3 X_arg4 (k0_pay2, k0_pay3, k0_pay4) ⟨k, hk⟩
    dsimp only at hstep
    rw [hstep, trip_eq, hK, hV]
    generalize st_k0_t1 (F := Ideal) 𝒱 c bd i arg2 harg2 arg3 harg3 arg4 harg4 arg5 harg5 q X_arg3 X_arg4 (k0_pay2, k0_pay3, k0_pay4) k = acc at hm hl ha
    have h5 : ∀ x : Fin 256, k0_pay5 q (View.ld K (Rect.unit (s := S1x8448x256) (k0_off1 i ⟨k, hk⟩) S1x256x256.size (k0_off1_inb i ⟨k, hk⟩))) (ix2 r x) = score q K r (256 * k + x.val) := fun x => by
      rw [pay5_apply]
      exact Finset.sum_congr rfl fun d _ => congrArg (q (ix3 0 r d) * ·) (ld_keys i ⟨k, hk⟩ K x d)
    have h6 : k0_pay6 q acc.1 (View.ld K (Rect.unit (s := S1x8448x256) (k0_off1 i ⟨k, hk⟩) S1x256x256.size (k0_off1_inb i ⟨k, hk⟩))) (ix2 r 0) = mx (score q K r) (256 * k + 256) := by
      rw [pay6_apply, hm, ← mx_step]
      simp only [h5]
    rw [Nat.mul_succ]
    refine ⟨h6, ?_, fun e => ?_⟩
    · dsimp only
      rw [pay9_apply, pay7_apply, h6, hm, hl, ← den_step hs]
      simp only [pay8_apply, h5, h6]
    · dsimp only
      rw [pay10_apply, pay7_apply, h6, hm, ha, ← num_step hs]
      simp only [pay8_apply, h5, h6]
      congr 1
      exact Finset.sum_congr rfl fun x _ => congrArg (_ * ·) (ld_values i ⟨k, hk⟩ V x e)

end Cert.Attn

end
-- ==== Proof.AttnBlock.lean ====
/- What the attention kernel leaves in its result array: each block it writes, then the whole array. -/
module

public import proofs.«01_k».proof.Proof.AttnTrip

@[expose] public section

set_option maxRecDepth 16384

noncomputable section

namespace Cert.Attn

open Cert.KernelIdeal Cert.KernelIdeal.Gen Idealize.ShloMosaic Idealize.ShloMosaic.TcCoe Idealize.SL.Sem

/-- The second loop, over the blocks that do not fill an unrolled step, makes no trip. -/
theorem trips2 (i : grid0.Coords) : (k0_t2_loop i).trips = 0 := Nat.le_zero.1 (k0_t2_abs i).2.1

/-- The number of key blocks: one for the first block of queries (the context), all 33 for the others. -/
theorem trips1 : ∀ t : Fin cfg0.N, (k0_t1_loop (grid0.coords t)).trips = if t.val % 33 = 0 then 1 else 33 :=
  (by decide +kernel : ∀ t : Fin grid0.N, (k0_t1_loop (grid0.coords t)).trips = if t.val % 33 = 0 then 1 else 33)

section
variable {F : FTy → Type} [FloatOps F]
variable (m : (ℓ : Loc nD τ sig) → Buf (Elt F) ℓ)

/-- The carried vectors at the end of point `t`'s loop over the keys. -/
def last (c : Dev nD) (t : Fin cfg0.N) : FVec F S256x1 .f32 × FVec F S256x1 .f32 × FVec F S256x128 .f32 :=
  st_k0_t1 Variants.none c none (grid0.coords t) (ms0_0 t) (hs0_0 t) (ms0_1 t) (hs0_1 t) (ms0_2 t) (hs0_2 t) (ms0_3 t) (hs0_3 t)
    (iblk m c 0 t) ((hs0_1 t).unread (iblk m c 1 t)) ((hs0_2 t).unread (iblk m c 2 t)) (k0_pay2, k0_pay3, k0_pay4)
    (k0_t1_loop (grid0.coords t)).trips

/-- Point `t` leaves the weighted sums over the sum of exponentials. -/
theorem out_eq (c : Dev nD) (t : Fin cfg0.N) : outsAt0 m c t = k0_pay17 (last m c t).2.1 (last m c t).2.2 := by
  unfold outsAt0 out0_A_3
  rw [View.read_writes_eq_canon _ _ _ (cover0_A_3 c _ _ _ _ _ _ _ _ _ _ _ _)]
  unfold kernelRun0_A
  dsimp -zeta only
  sl_unfold_words
  have h2 : Scf.trips (k0_t2_loop (grid0.coords t)).lb (k0_t2_loop (grid0.coords t)).ub (k0_t2_loop (grid0.coords t)).st = 0 :=
    trips2 (grid0.coords t)
  rw [View.canon_cons_unit_lit' _ _ _ (by decide)]
  simp only [View.readAt_eq_ld, (hs0_0 t).read_unread, h2, st_k0_t2_zero]
  rw [View.ld_unit_lit _ _ (by decide)]
  rfl
end

/-- The score of query `n` of head `h` against key `j`. -/
def sc (Q K : FVec Ideal S8x8448x256 .bf16) (h : Fin 8) (n : Fin 8448) (j : ℕ) : EReal :=
  ∑ d : Fin 256, Q (ix3 h n d) * K (ix3 h (Fin.ofNat 8448 j) d)

/-- Column `e` of the value of key `j` of head `h`. -/
def vl (V : FVec Ideal S8x8448x128 .bf16) (h : Fin 8) (e : Fin 128) (j : ℕ) : EReal := V (ix3 h (Fin.ofNat 8448 j) e)

/-- How many keys query `n` attends to: the 256 of the context for a context row, all of them for a latent row. -/
def cnt (n : Fin 8448) : ℕ := if n.val < 256 then 256 else 8448

/-- Attention, at row `n`, head `h`, column `e`: the weighted sum of the values over the sum of the weights. -/
def att (Q K : FVec Ideal S8x8448x256 .bf16) (V : FVec Ideal S8x8448x128 .bf16) (h : Fin 8) (n : Fin 8448) (e : Fin 128) : EReal :=
  Ideal.div (num (sc Q K h n) (vl V h e) (cnt n)) (den (sc Q K h n) (cnt n))

/-- The head of a column of the result. -/
def hd (j : S8448x1024.Idx) : Fin 8 := ⟨(j 1).val / 128, by have : (j 1).val < 1024 := (j 1).isLt; omega⟩

/-- The column within its head. -/
def col (j : S8448x1024.Idx) : Fin 128 := ⟨(j 1).val % 128, by omega⟩

/-- The whole result array: the heads' results side by side. -/
def G (Q K : FVec Ideal S8x8448x256 .bf16) (V : FVec Ideal S8x8448x128 .bf16) : FVec Ideal S8448x1024 .bf16 :=
  fun j => att Q K V (hd j) (j 0) (col j)

/-- Where the blocks of point `t` lie. -/
theorem idx : ∀ t : Fin cfg0.N, win0_0.index t = ![t.val / 33, t.val % 33, 0] ∧ win0_1.index t = ![t.val / 33, 0, 0]
    ∧ win0_2.index t = ![t.val / 33, 0, 0] ∧ win0_3.index t = ![t.val % 33, t.val / 33] ∧ t.val / 33 < 8 :=
  (by decide +kernel : ∀ t : Fin grid0.N, _)

variable (m : (ℓ : Loc nD τ sig) → Buf (Elt Ideal) ℓ)

/-- The head that point `t` works on. -/
def ph (t : Fin cfg0.N) : Fin 8 := ⟨t.val / 33, (idx t).2.2.2.2⟩

/-- Row `r` of point `t`'s block of queries. -/
def pn (t : Fin cfg0.N) (r : Fin 256) : Fin 8448 := ⟨256 * (t.val % 33) + r.val, by have := r.isLt; omega⟩

/-- Where point `t` reads its queries. -/
theorem q_at (c : Dev nD) (t : Fin cfg0.N) (r d : Fin 256) :
    (show FVec Ideal S1x256x256 .bf16 from iblk m c 0 t) (ix3 0 r d) = (m ((c : Thread nD τ).loc main_arg0)) (ix3 (ph t) (pn t r) d) := by
  show iblk m c 0 t _ = _
  blk_ext [iblk, V, idx t, ph, pn]

/-- … its keys. -/
theorem k_at (c : Dev nD) (t : Fin cfg0.N) (j : Fin 8448) (d : Fin 256) :
    (show FVec Ideal S1x8448x256 .bf16 from iblk m c 1 t) (ix3 0 j d) = (m ((c : Thread nD τ).loc main_arg1)) (ix3 (ph t) j d) := by
  show iblk m c 1 t _ = _
  blk_ext [iblk, V, idx t, ph, pn]

/-- … its values. -/
theorem v_at (c : Dev nD) (t : Fin cfg0.N) (j : Fin 8448) (d : Fin 128) :
    (show FVec Ideal S1x8448x128 .bf16 from iblk m c 2 t) (ix3 0 j d) = (m ((c : Thread nD τ).loc main_arg2)) (ix3 (ph t) j d) := by
  show iblk m c 2 t _ = _
  blk_ext [iblk, V, idx t, ph, pn]

/-- The scores of a row of point `t`. -/
theorem score_at (c : Dev nD) (t : Fin cfg0.N) (r : Fin 256) :
    score (iblk m c 0 t) (iblk m c 1 t) r = sc (m ((c : Thread nD τ).loc main_arg0)) (m ((c : Thread nD τ).loc main_arg1)) (ph t) (pn t r) := by
  funext j
  exact Finset.sum_congr rfl fun d _ => congrArg₂ (· * ·) (q_at m c t r d) (k_at m c t _ d)

/-- The values that point `t` reads. -/
theorem value_at (c : Dev nD) (t : Fin cfg0.N) (e : Fin 128) :
    value (iblk m c 2 t) e = vl (m ((c : Thread nD τ).loc main_arg2)) (ph t) e := by
  funext j
  exact v_at m c t _ e

/-- The keys read by the loop are the keys the row attends to. -/
theorem cnt_at (t : Fin cfg0.N) (r : Fin 256) : 256 * (k0_t1_loop (grid0.coords t)).trips = cnt (pn t r) := by
  have hr := r.isLt
  rw [trips1 t, cnt, pn]
  by_cases h : t.val % 33 = 0
  · rw [if_pos h, if_pos (by show 256 * (t.val % 33) + r.val < 256; omega)]
  · rw [if_neg h, if_neg (by show ¬ 256 * (t.val % 33) + r.val < 256; omega)]

/-- What point `t` leaves at row `r`, column `e` of its block. -/
theorem point (c : Dev nD) (t : Fin cfg0.N) (hs : ∀ h n j, ∃ x : ℝ, sc (m ((c : Thread nD τ).loc main_arg0)) (m ((c : Thread nD τ).loc main_arg1)) h n j = x)
    (r : Fin 256) (e : Fin 128) :
    k0_pay17 (last m c t).2.1 (last m c t).2.2 (ix2 r e)
      = att (m ((c : Thread nD τ).loc main_arg0)) (m ((c : Thread nD τ).loc main_arg1)) (m ((c : Thread nD τ).loc main_arg2)) (ph t) (pn t r) e := by
  obtain ⟨-, h2, h3⟩ := state_eq Variants.none c none (grid0.coords t) (ms0_0 t) (hs0_0 t) (ms0_1 t) (hs0_1 t) (ms0_2 t) (hs0_2 t) (ms0_3 t) (hs0_3 t)
    (iblk m c 0 t) ((hs0_1 t).unread (iblk m c 1 t)) ((hs0_2 t).unread (iblk m c 2 t)) (iblk m c 1 t) (iblk m c 2 t)
    ((hs0_1 t).read_unread _) ((hs0_2 t).read_unread _) r (by rw [score_at]; exact hs _ _) _ le_rfl
  rw [score_at, cnt_at t r] at h2
  have h3 := h3 e
  rw [score_at, value_at, cnt_at t r] at h3
  rw [pay17_apply]
  unfold last att
  rw [h2, h3]

/-- THE RESULT ARRAY after the run. -/
theorem final (c : Dev nD) (hs : ∀ h n j, ∃ x : ℝ, sc (m ((c : Thread nD τ).loc main_arg0)) (m ((c : Thread nD τ).loc main_arg1)) h n j = x) :
    (dats m 0 c).arrAt 3 cfg0.N = G (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, out_eq]
  have hy : y = ix2 (y 0) (y 1) := by funext a; fin_cases a <;> rfl
  refine (congrArg _ hy).trans ((point m c t hs (y 0) (y 1)).trans ?_)
  have h0 : ((((cfg0.win 3).blk t).view.emb y) 0 : ℕ) = 256 * (t.val % 33) + (y 0).val := by
    blk_simp [idx t]
    omega
  have h1 : ((((cfg0.win 3).blk t).view.emb y) 1 : ℕ) = 128 * (t.val / 33) + (y 1).val := by
    blk_simp [idx t]
    omega
  have hb : (y 1).val < 128 := (y 1).isLt
  show _ = att _ _ _ _ _ _
  congr 1
  · apply Fin.ext
    show t.val / 33 = _ / 128
    rw [h1]; omega
  · exact Fin.ext h0.symm
  · apply Fin.ext
    show (y 1).val = _ % 128
    rw [h1]; omega

end Cert.Attn

end
-- ==== Proof.AttnRef.lean ====
/- The reference's attention, read at an index: softmax of the scores against the values, for a context row over the
   context's keys and for a latent row over all of them; it is the array the kernel leaves. -/
module

public import proofs.«01_k».proof.Proof.AttnBlock
public import proofs.«01_k».proof.Proof.Gen.ReferenceIdeal.Read

@[expose] public section

set_option maxRecDepth 16384

noncomputable section

namespace Cert.Attn

open Idealize.ShloMosaic Idealize.ShloMosaic.TcCoe Idealize.SL.Sem Cert.ReferenceIdeal.Read

variable (Q K : FVec Ideal Cert.ReferenceIdeal.S8x8448x256 .bf16) (W : FVec Ideal Cert.ReferenceIdeal.S8x8448x128 .bf16)

/-- A key number below the number of keys, as an index. -/
theorem ofNat_eq (j : ℕ) (h : j < 8448) : Fin.ofNat 8448 j = ⟨j, h⟩ := Fin.ext (Nat.mod_eq_of_lt h)

/-- The maximum of the first `b` scores, folded. -/
theorem mx_fold (s : ℕ → EReal) (b : ℕ) : (Finset.univ.fold max ⊥ fun k : Fin b => s k.val) = mx s b := by
  have h := mx_step s 0 b
  simp only [Nat.zero_add] at h
  rw [← h]
  exact (max_eq_right bot_le).symm

/-- … from any word that denotes `⊥`, by the ideal instance's maximum. -/
theorem mx_fold' (s : ℕ → EReal) (b : ℕ) (f : Fin b → EReal) (z : EReal) (hz : z = ⊥) (hf : ∀ k, f k = s k.val) :
    (Finset.univ.fold (FloatOps.maximumf (F := Ideal) (φ := .f32)) z f) = mx s b := by
  obtain rfl : f = fun k => s k.val := funext hf
  rw [hz, ← mx_fold]
  rfl

/-- The reference's scores of the ctx rows. -/
theorem ctx_score (h : Fin 8) (r : Fin 256) (j : Fin 256) : val_main_v5 (F := Ideal) Q K (ix3 h r j) = sc Q K h ⟨r.val, by omega⟩ j.val := by
  unfold val_main_v5 val_main_v3 val_main_v4 val_main_v0 val_main_v1
  pointwise
  refine Finset.sum_congr rfl fun d _ => ?_
  rw [ofNat_eq j.val (by omega)]

/-- Their maximum. -/
theorem ctx_max (h : Fin 8) (r : Fin 256) : val_main_v8 (F := Ideal) Q K (ix2 h r) = mx (sc Q K h ⟨r.val, by omega⟩) 256 := by
  unfold val_main_v8 val_main_v7 val_main_v6 val_main_cst_0 val_main_cst
  pointwise
  simp only [ctx_score]
  rw [neg_inf, mx_fold]
  exact max_eq_right bot_le

/-- The weights: each exponential over the sum of exponentials. -/
theorem ctx_weight (h : Fin 8) (r : Fin 256) (j : Fin 256) : val_main_v16 (F := Ideal) Q K (ix3 h r j)
    = Ideal.div (Ideal.exp (sc Q K h ⟨r.val, by omega⟩ j.val - mx (sc Q K h ⟨r.val, by omega⟩) 256)) (den (sc Q K h ⟨r.val, by omega⟩) 256) := by
  unfold val_main_v16 val_main_v15 val_main_v14 val_main_v13 val_main_v12 val_main_v11 val_main_v10 val_main_v9 val_main_cst_1
  pointwise
  simp only [ctx_score, ctx_max]
  rw [den, Finset.sum_range]

/-- The weighted sums of the values. -/
theorem ctx_out (hs : ∀ h n j, ∃ x : ℝ, sc Q K h n j = x) (h : Fin 8) (r : Fin 256) (e : Fin 128) :
    val_main_v19 (F := Ideal) Q K W (ix3 r h e) = Ideal.div (num (sc Q K h ⟨r.val, by omega⟩) (vl W h e) 256) (den (sc Q K h ⟨r.val, by omega⟩) 256) := by
  rw [quotient (hs _ _) _ (by omega), Finset.sum_range]
  unfold val_main_v19 val_main_v18 val_main_v17 val_main_v2
  pointwise
  simp only [ctx_weight]
  refine Finset.sum_congr rfl fun j _ => ?_
  rw [vl, ofNat_eq j.val (by omega)]

/-- The reference's scores of the lat rows. -/
theorem lat_score (h : Fin 8) (r : Fin 8192) (j : Fin 8448) : val_main_v25 (F := Ideal) Q K (ix3 h r j) = sc Q K h ⟨256 + r.val, by omega⟩ j.val := by
  unfold val_main_v25 val_main_v23 val_main_v24 val_main_v22
  pointwise
  refine Finset.sum_congr rfl fun d _ => ?_
  rw [ofNat_eq j.val (by omega)]

/-- Their maximum, folded. -/
theorem lat_fold (h : Fin 8) (r : Fin 8192) : val_main_v26 (F := Ideal) Q K (ix2 h r) = mx (sc Q K h ⟨256 + r.val, by omega⟩) 8448 := by
  unfold val_main_v26
  have hf := fun k : Fin 8448 => lat_score Q K h r k
  revert hf
  generalize val_main_v25 (F := Ideal) Q K = y
  intro hf
  rw [Host.reduce_eq_fold_single FloatOps.maximumf _ _ _ (by decide : Cert.ReferenceIdeal.S8x8192x8448.Reduces [2] Cert.ReferenceIdeal.S8x8192) _]
  have hl : ∀ k : Fin 8448, (y ∘ Shape.Reduces.lift (by decide : Cert.ReferenceIdeal.S8x8192x8448.Reduces [2] Cert.ReferenceIdeal.S8x8192) (ix2 h r)) k
      = sc Q K h ⟨256 + r.val, by omega⟩ k.val := fun k => by
    refine Eq.trans ?_ (hf k)
    refine congrArg y (funext fun a => Fin.ext ?_)
    match a with
    | ⟨0, _⟩ => rfl
    | ⟨1, _⟩ => rfl
    | ⟨2, _⟩ => rfl
  revert hl
  generalize y ∘ Shape.Reduces.lift (by decide : Cert.ReferenceIdeal.S8x8192x8448.Reduces [2] Cert.ReferenceIdeal.S8x8192) (ix2 h r) = f
  intro hl
  have hz : val_main_cst_2 (F := Ideal) (Shape.Idx.first Cert.ReferenceIdeal.Gen.h_S_) = ⊥ := neg_inf
  exact mx_fold' _ 8448 f _ hz hl

/-- Their maximum. -/
theorem lat_max (h : Fin 8) (r : Fin 8192) : val_main_v28 (F := Ideal) Q K (ix2 h r) = mx (sc Q K h ⟨256 + r.val, by omega⟩) 8448 := by
  rw [val_main_v28_apply, lat_fold, val_main_v27_apply, val_main_cst_3_apply]
  show max (Ideal.ofBits .f32 0xFF800000#32) _ = _
  rw [neg_inf]
  exact max_eq_right bot_le

/-- The weights: each exponential over the sum of exponentials. -/
theorem lat_weight (h : Fin 8) (r : Fin 8192) (j : Fin 8448) : val_main_v36 (F := Ideal) Q K (ix3 h r j)
    = Ideal.div (Ideal.exp (sc Q K h ⟨256 + r.val, by omega⟩ j.val - mx (sc Q K h ⟨256 + r.val, by omega⟩) 8448)) (den (sc Q K h ⟨256 + r.val, by omega⟩) 8448) := by
  unfold val_main_v36 val_main_v35 val_main_v34 val_main_v33 val_main_v32 val_main_v31 val_main_v30 val_main_v29 val_main_cst_4
  pointwise
  simp only [lat_score, lat_max]
  rw [den, Finset.sum_range]

/-- The weighted sums of the values. -/
theorem lat_out (hs : ∀ h n j, ∃ x : ℝ, sc Q K h n j = x) (h : Fin 8) (r : Fin 8192) (e : Fin 128) :
    val_main_v39 (F := Ideal) Q K W (ix3 r h e) = Ideal.div (num (sc Q K h ⟨256 + r.val, by omega⟩) (vl W h e) 8448) (den (sc Q K h ⟨256 + r.val, by omega⟩) 8448) := by
  rw [quotient (hs _ _) _ (by omega), Finset.sum_range]
  unfold val_main_v39 val_main_v38 val_main_v37
  pointwise
  simp only [lat_weight]
  refine Finset.sum_congr rfl fun j _ => ?_
  rw [vl, ofNat_eq j.val (by omega)]

end Cert.Attn

end
-- ==== Proof.AttnArray.lean ====
/- The attention claim's equation: the reference's whole result is the array the kernel leaves, and finite queries and keys
   have real scores. -/
module

public import proofs.«01_k».proof.Proof.AttnRef
public import proofs.«01_k».proof.Pre_finite
public import Idealize.ShloMosaic.Lib.ReduceAll

@[expose] public section

set_option maxRecDepth 16384

noncomputable section

namespace Cert.Attn

open Idealize.ShloMosaic Idealize.ShloMosaic.TcCoe Idealize.SL.Sem Cert.ReferenceIdeal.Read

variable (Q K : FVec Ideal Cert.ReferenceIdeal.S8x8448x256 .bf16) (W : FVec Ideal Cert.ReferenceIdeal.S8x8448x128 .bf16)

/-- THE REFERENCE'S RESULT is the array the kernel leaves, at real scores. -/
theorem ref_eq (hs : ∀ h n j, ∃ x : ℝ, sc Q K h n j = x) : val_main_v42 (F := Ideal) Q K W = G Q K W := by
  funext j
  have hj0 : (j 0).val < 8448 := (j 0).isLt
  have hj1 : (j 1).val < 1024 := (j 1).isLt
  unfold val_main_v42
  show _ = att Q K W (hd j) (j 0) (col j)
  unfold att cnt
  by_cases hn : (j 0).val < 256
  · rw [if_pos hn]
    refine (concatenate_pair_apply_left (t := Cert.ReferenceIdeal.S8448x1024) (s₁ := Cert.ReferenceIdeal.S256x1024) (s₂ := Cert.ReferenceIdeal.S8192x1024) 0 _ _ _ j rfl (ix2 (⟨(j 0).val, hn⟩ : Fin 256) (⟨(j 1).val, hj1⟩ : Fin 1024)) (fun b => by
      match b with
      | ⟨0, _⟩ => rfl
      | ⟨1, _⟩ => rfl)).trans ?_
    rw [val_main_v21_apply, val_main_v20_apply]
    refine Eq.trans ?_ (ctx_out Q K W hs (hd j) ⟨(j 0).val, hn⟩ (col j))
    show val_main_v19 (F := Ideal) Q K W _ = _
    refine congrArg _ (funext fun a => Fin.ext ?_)
    match a with
    | ⟨0, _⟩ => show ((j 0).val * 1024 + (j 1).val) / 1024 = (j 0).val; omega
    | ⟨1, _⟩ => show ((j 0).val * 1024 + (j 1).val) / 128 % 8 = (j 1).val / 128; omega
    | ⟨2, _⟩ => show ((j 0).val * 1024 + (j 1).val) % 128 = (j 1).val % 128; omega
  · rw [if_neg hn]
    have hr : (j 0).val - 256 < 8192 := by omega
    refine (concatenate_pair_apply_right (t := Cert.ReferenceIdeal.S8448x1024) (s₁ := Cert.ReferenceIdeal.S256x1024) (s₂ := Cert.ReferenceIdeal.S8192x1024) 0 _ _ _ j rfl rfl (ix2 (⟨(j 0).val - 256, hr⟩ : Fin 8192) (⟨(j 1).val, hj1⟩ : Fin 1024)) (fun b hb => by
      match b with
      | ⟨0, _⟩ => exact absurd rfl hb
      | ⟨1, _⟩ => rfl) (by show (j 0).val - 256 + 256 = (j 0).val; omega)).trans ?_
    rw [val_main_v41_apply, val_main_v40_apply]
    have e : (⟨256 + ((j 0).val - 256), by omega⟩ : Fin 8448) = j 0 := Fin.ext (by show 256 + ((j 0).val - 256) = (j 0).val; omega)
    refine Eq.trans ?_ ((lat_out Q K W hs (hd j) ⟨(j 0).val - 256, hr⟩ (col j)).trans ?_)
    · show val_main_v39 (F := Ideal) Q K W _ = _
      refine congrArg _ (funext fun a => Fin.ext ?_)
      match a with
      | ⟨0, _⟩ => show (((j 0).val - 256) * 1024 + (j 1).val) / 1024 = (j 0).val - 256; omega
      | ⟨1, _⟩ => show (((j 0).val - 256) * 1024 + (j 1).val) / 128 % 8 = (j 1).val / 128; omega
      | ⟨2, _⟩ => show (((j 0).val - 256) * 1024 + (j 1).val) % 128 = (j 1).val % 128; omega
    · rw [e]

/-- The side conditions of the precondition's operations. -/
theorem preFacts : Cert.Pre_finite.Facts := ⟨by decide, by decide, by decide⟩

/-- The word of the precondition's bound denotes `⊤`. -/
theorem pos_inf : Ideal.ofBits .bf16 0x7F80#16 = ⊤ := by
  simp [Ideal.ofBits, Ideal.ieee]

/-- An extended real whose absolute value is below `⊤` is a real. -/
theorem real_of_abs {x : EReal} (h : max x (-x) < ⊤) : ∃ r : ℝ, x = r := by
  induction x with
  | bot => simp at h
  | top => simp at h
  | coe r => exact ⟨r, rfl⟩

/-- Where the precondition holds every query and key is a real. -/
theorem real_of_pre [hp : Cert.Pre_finite.Facts] (h : Cert.Pre_finite.fn (F := Ideal) Q K W ix0 = 1#1) :
    (∀ i, ∃ r : ℝ, Q i = r) ∧ ∀ i, ∃ r : ℝ, K i = r := by
  dsimp only [Cert.Pre_finite.fn] at h
  obtain ⟨h1, h2⟩ := IntOp.andi_eq_one.1 h
  have g1 := Host.reduce_andi_all _ _ _ _ _ h1
  have g2 := Host.reduce_andi_all _ _ _ _ _ h2
  refine ⟨fun i => real_of_abs ?_, fun i => real_of_abs ?_⟩
  · have e := g1 i
    pointwise at e
    rw [pos_inf] at e
    change BitVec.ofBool (decide (max (Q i) (-(Q i)) < (⊤ : EReal))) = 1#1 at e
    by_contra hn
    rw [decide_eq_false hn] at e
    exact absurd e (by decide)
  · have e := g2 i
    pointwise at e
    rw [pos_inf] at e
    change BitVec.ofBool (decide (max (K i) (-(K i)) < (⊤ : EReal))) = 1#1 at e
    by_contra hn
    rw [decide_eq_false hn] at e
    exact absurd e (by decide)

/-- … and so is every score. -/
theorem score_real (hQ : ∀ i, ∃ r : ℝ, Q i = r) (hK : ∀ i, ∃ r : ℝ, K i = r) (h : Fin 8) (n : Fin 8448) (j : ℕ) : ∃ x : ℝ, sc Q K h n j = x := by
  choose f hf using hQ
  choose g hg using hK
  refine ⟨∑ d : Fin 256, f (ix3 h n d) * g (ix3 h (Fin.ofNat 8448 j) d), ?_⟩
  rw [coe_sum, sc]
  exact Finset.sum_congr rfl fun d _ => by rw [hf, hg, EReal.coe_mul]

end Cert.Attn

end
-- ==== Proof.OutBlock.lean ====
/- What the output projection's kernel leaves in its result array: each block it writes, then the whole array. -/
module

public import proofs.«01_k».proof.Proof.Gen.OutprojIdeal.Value
public import Idealize.ShloMosaic.Lib.Pipeline.ValueKit

@[expose] public section

set_option maxRecDepth 16384

noncomputable section

namespace Cert.Out

open Cert.OutprojIdeal Cert.OutprojIdeal.Gen Idealize.ShloMosaic Idealize.ShloMosaic.TcCoe Idealize.SL.Sem

/-- Row `n` of one quarter of the mix times column `e` of rows `p`, …, `p + 1023` of the first layer's weights. -/
def dotp (A : FVec Ideal S8448x1024 .bf16) (W : FVec Ideal S2x4096x4096 .f32) (p : ℕ) (n : Fin 8448) (e : Fin 4096) : EReal :=
  ∑ d : Fin 1024, A (ix2 n d) * W (ix3 (0 : Fin 2) (Fin.ofNat 4096 (p + d.val)) e)

/-- The gate of row `n`, column `e`: the second row of the modulation for a context row, the first for a latent row. -/
def gate (M : FVec Ideal S2x24576 .f32) (n : Fin 8448) (e : Fin 4096) : EReal :=
  if n.val < 256 then M (ix2 (1 : Fin 2) (Fin.ofNat 24576 (8192 + e.val))) else M (ix2 (0 : Fin 2) (Fin.ofNat 24576 (8192 + e.val)))

/-- The projection at row `n`, column `e`: the residual plus the gate times the sum over the four quarters. -/
def proj (A B C D : FVec Ideal S8448x1024 .bf16) (W : FVec Ideal S2x4096x4096 .f32) (X : FVec Ideal S8448x4096 .f32)
    (M : FVec Ideal S2x24576 .f32) (n : Fin 8448) (e : Fin 4096) : EReal :=
  X (ix2 n e) + gate M n e * (dotp A W 0 n e + dotp B W 1024 n e + dotp C W 2048 n e + dotp D W 3072 n e)

/-- The whole result array. -/
def G (A B C D : FVec Ideal S8448x1024 .bf16) (W : FVec Ideal S2x4096x4096 .f32) (X : FVec Ideal S8448x4096 .f32)
    (M : FVec Ideal S2x24576 .f32) : FVec Ideal S8448x4096 .f32 :=
  fun j => proj A B C D W X M (j 0) (j 1)

section
variable (a b c d : Vec Ideal S768x1024 .bf16) (w0 w1 w2 w3 : Vec Ideal S1024x512 .bf16)

/-- The four products of a block, added in order. -/
theorem pay2_apply (r : Fin 768) (e : Fin 512) :
    k0_pay2 a w0 b w1 c w2 d w3 (ix2 r e)
      = (∑ k : Fin 1024, a (ix2 r k) * w0 (ix2 k e)) + (∑ k : Fin 1024, b (ix2 r k) * w1 (ix2 k e))
        + (∑ k : Fin 1024, c (ix2 r k) * w2 (ix2 k e)) + (∑ k : Fin 1024, d (ix2 r k) * w3 (ix2 k e)) := by
  unfold k0_pay2
  pointwise

/-- The gate's first row, along the block's columns. -/
theorem pay4_apply (v : Vec Ideal S1x512 .f32) (r : Fin 768) (e : Fin 512) : k0_pay4 v (ix2 r e) = v (ix2 0 e) := by
  unfold k0_pay4
  pointwise

/-- The stored block. -/
theorem pay1_apply (s : FVec Ideal S768x512 .f32) (b : IVec S768x512 1) (g : FVec Ideal S768x512 .f32) (v : Vec Ideal S1x512 .f32)
    (x : Vec Ideal S768x512 .f32) (r : Fin 768) (e : Fin 512) :
    k0_pay1 s b g (k0_pay5 v) x (ix2 r e) = x (ix2 r e) + (if b (ix2 r e) = 1#1 then g (ix2 r e) else v (ix2 0 e)) * s (ix2 r e) := by
  unfold k0_pay1 k0_pay5
  pointwise
  rfl
end

/-- Which rows of a block are context rows. -/
theorem pay3_apply (i : grid0.Coords) (r : Fin 768) (e : Fin 512) :
    k0_pay3 i (ix2 r e) = 1#1 ↔ 768 * (i 0).val + r.val < 256 := by
  unfold k0_pay3
  pointwise
  have hi : (i 0).val < 11 := (i 0).isLt
  have hr := r.isLt
  show IntOp.cmpi .slt (IntOp.addi (IntOp.muli (BitVec.ofNat 32 (i 0).val) (BitVec.ofNat 32 768)) (BitVec.ofNat 32 r.val)) (BitVec.ofNat 32 256) = 1#1 ↔ _
  rw [WordCmp.muli_ofNat, WordCmp.addi_ofNat, WordCmp.cmpi_slt_ofNat_eq_one_iff (by norm_num; omega) (by norm_num), Nat.mul_comm]

/-- Where the blocks of point `t` lie. -/
theorem idx : ∀ t : Fin cfg0.N, win0_0.index t = ![t.val / 8, 0] ∧ win0_1.index t = ![t.val / 8, 0] ∧ win0_2.index t = ![t.val / 8, 0]
    ∧ win0_3.index t = ![t.val / 8, 0] ∧ win0_4.index t = ![0, t.val % 8] ∧ win0_5.index t = ![t.val / 8, t.val % 8]
    ∧ win0_6.index t = ![0, 16 + t.val % 8] ∧ win0_7.index t = ![t.val / 8, t.val % 8] ∧ t.val / 8 < 11 ∧ (grid0.coords t 0).val = t.val / 8 :=
  (by decide +kernel : ∀ t : Fin grid0.N, _)

variable (m : (ℓ : Loc nD τ sig) → Buf (Elt Ideal) ℓ)

/-- Row `r` of point `t`'s block. -/
def pn (t : Fin cfg0.N) (r : Fin 768) : Fin 8448 := ⟨768 * (t.val / 8) + r.val, by have := r.isLt; have := (idx t).2.2.2.2.2.2.2.2.1; omega⟩

/-- Column `e` of point `t`'s block. -/
def pe (t : Fin cfg0.N) (e : Fin 512) : Fin 4096 := ⟨512 * (t.val % 8) + e.val, by have := e.isLt; omega⟩

/-- Where point `t` reads the four quarters of the mix. -/
theorem a_at (c : Dev nD) (t : Fin cfg0.N) (r : Fin 768) (d : Fin 1024) :
    (show FVec Ideal S768x1024 .bf16 from iblk m c 0 t) (ix2 r d) = (m ((c : Thread nD τ).loc main_arg0)) (ix2 (pn t r) d) := by
  show iblk m c 0 t _ = _
  blk_ext [iblk, V, idx t, pn]
theorem b_at (c : Dev nD) (t : Fin cfg0.N) (r : Fin 768) (d : Fin 1024) :
    (show FVec Ideal S768x1024 .bf16 from iblk m c 1 t) (ix2 r d) = (m ((c : Thread nD τ).loc main_arg1)) (ix2 (pn t r) d) := by
  show iblk m c 1 t _ = _
  blk_ext [iblk, V, idx t, pn]
theorem c_at (c : Dev nD) (t : Fin cfg0.N) (r : Fin 768) (d : Fin 1024) :
    (show FVec Ideal S768x1024 .bf16 from iblk m c 2 t) (ix2 r d) = (m ((c : Thread nD τ).loc main_arg2)) (ix2 (pn t r) d) := by
  show iblk m c 2 t _ = _
  blk_ext [iblk, V, idx t, pn]
theorem d_at (c : Dev nD) (t : Fin cfg0.N) (r : Fin 768) (d : Fin 1024) :
    (show FVec Ideal S768x1024 .bf16 from iblk m c 3 t) (ix2 r d) = (m ((c : Thread nD τ).loc main_arg3)) (ix2 (pn t r) d) := by
  show iblk m c 3 t _ = _
  blk_ext [iblk, V, idx t, pn]

/-- … the residual … -/
theorem x_at (c : Dev nD) (t : Fin cfg0.N) (r : Fin 768) (e : Fin 512) :
    (show FVec Ideal S768x512 .f32 from iblk m c 5 t) (ix2 r e) = (m ((c : Thread nD τ).loc main_arg5)) (ix2 (pn t r) (pe t e)) := by
  show iblk m c 5 t _ = _
  blk_ext [iblk, V, idx t, pn, pe]

/-- … and the gate. -/
theorem g_at (c : Dev nD) (t : Fin cfg0.N) (r : Fin 2) (e : Fin 512) :
    (show FVec Ideal S2x512 .f32 from iblk m c 6 t) (ix2 r e) = (m ((c : Thread nD τ).loc main_arg6)) (ix2 r (Fin.ofNat 24576 (8192 + (pe t e).val))) := by
  show iblk m c 6 t _ = _
  blk_ext [iblk, V, idx t, pe, Fin.val_ofNat]

/-- The weights that the region finds: the first layer's, after the host's slice, reshape and cast. -/
theorem w_host (c : Dev nD) (k e : Fin 4096) :
    (show FVec Ideal S4096x4096 .bf16 from V m c main_v2) (ix2 k e) = (m ((c : Thread nD τ).loc main_arg4)) (ix3 (0 : Fin 2) k e) := by
  show V m c main_v2 _ = _
  entry_read
  pointwise

/-- Where point `t` reads its weights. -/
theorem w_at (c : Dev nD) (t : Fin cfg0.N) (k : Fin 4096) (e : Fin 512) :
    (show FVec Ideal S4096x512 .bf16 from iblk m c 4 t) (ix2 k e) = (m ((c : Thread nD τ).loc main_arg4)) (ix3 (0 : Fin 2) k (pe t e)) := by
  rw [← w_host m c]
  show iblk m c 4 t _ = V m c main_v2 _
  blk_ext [iblk, idx t, pe]

/-- What point `t` leaves at row `r`, column `e` of its block. -/
theorem point (c : Dev nD) (t : Fin cfg0.N) (r : Fin 768) (e : Fin 512) :
    out0_7 (grid0.coords t) (iblk m c 0 t) (iblk m c 1 t) (iblk m c 2 t) (iblk m c 3 t) (iblk m c 4 t) (iblk m c 5 t) (iblk m c 6 t) (ix2 r e)
      = proj (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (pn t r) (pe t e) := by
  unfold out0_7
  rw [View.canon_cons_unit_lit' _ _ _ (by decide), pay1_apply, pay2_apply, pay4_apply]
  unfold proj
  have hx : View.ld (iblk m c 5 t) r0_7 (ix2 r e) = (m ((c : Thread nD τ).loc main_arg5)) (ix2 (pn t r) (pe t e)) :=
    (View.ld_unit_apply_of _ _ _ _ _ (ix2 r e) (fun a => by fin_cases a <;> simp)).trans (x_at m c t r e)
  have hg : (if k0_pay3 (grid0.coords t) (ix2 r e) = 1#1 then View.ld (iblk m c 6 t) r0_5 (ix2 0 e) else View.ld (iblk m c 6 t) r0_6 (ix2 0 e))
      = gate (m ((c : Thread nD τ).loc main_arg6)) (pn t r) (pe t e) := by
    unfold gate
    have hc : (k0_pay3 (grid0.coords t) (ix2 r e) = 1#1) = ((pn t r).val < 256) := by
      rw [eq_iff_iff, pay3_apply, (idx t).2.2.2.2.2.2.2.2.2]; rfl
    have h5 : View.ld (iblk m c 6 t) r0_5 (ix2 0 e) = (m ((c : Thread nD τ).loc main_arg6)) (ix2 1 (Fin.ofNat 24576 (8192 + (pe t e).val))) :=
      (View.ld_unit_apply_of _ _ _ _ _ (ix2 1 e) (fun a => by fin_cases a <;> simp)).trans (g_at m c t 1 e)
    have h6 : View.ld (iblk m c 6 t) r0_6 (ix2 0 e) = (m ((c : Thread nD τ).loc main_arg6)) (ix2 0 (Fin.ofNat 24576 (8192 + (pe t e).val))) :=
      (View.ld_unit_apply_of _ _ _ _ _ (ix2 0 e) (fun a => by fin_cases a <;> simp)).trans (g_at m c t 0 e)
    simp only [hc]
    rw [h5, h6]
  have hm : ∀ (A : Vec Ideal S768x1024 .bf16) (B : FVec Ideal S8448x1024 .bf16) (p : ℕ) (hp : p + 1024 ≤ 4096) (w : Vec Ideal S1024x512 .bf16),
      (∀ k, A (ix2 r k) = B (ix2 (pn t r) k)) → (∀ k : Fin 1024, w (ix2 k e) = iblk m c 4 t (ix2 (⟨p + k.val, by omega⟩ : Fin 4096) e)) →
      ∑ k : Fin 1024, A (ix2 r k) * w (ix2 k e) = dotp B (m ((c : Thread nD τ).loc main_arg4)) p (pn t r) (pe t e) := by
    intro A B p hp w hA hw
    refine Finset.sum_congr rfl fun k _ => ?_
    have hk : (⟨p + k.val, by omega⟩ : Fin 4096) = Fin.ofNat 4096 (p + k.val) :=
      Fin.ext (by show p + k.val = (p + k.val) % 4096; have := k.isLt; omega)
    rw [hA, hw, ← hk]
    exact congrArg _ (w_at m c t _ e)
  rw [hx, hg, hm _ (m ((c : Thread nD τ).loc main_arg0)) 0 (by omega) _ ?_ ?_, hm _ (m ((c : Thread nD τ).loc main_arg1)) 1024 (by omega) _ ?_ ?_,
    hm _ (m ((c : Thread nD τ).loc main_arg2)) 2048 (by omega) _ ?_ ?_, hm _ (m ((c : Thread nD τ).loc main_arg3)) 3072 (by omega) _ ?_ ?_]
  · exact fun k => (View.ld_unit_apply_of _ _ _ _ _ (ix2 r k) (fun a => by fin_cases a <;> simp)).trans (d_at m c t r k)
  · exact fun k => View.ld_unit_apply_of _ _ _ _ _ _ (fun a => by fin_cases a <;> simp)
  · exact fun k => (View.ld_unit_apply_of _ _ _ _ _ (ix2 r k) (fun a => by fin_cases a <;> simp)).trans (c_at m c t r k)
  · exact fun k => View.ld_unit_apply_of _ _ _ _ _ _ (fun a => by fin_cases a <;> simp)
  · exact fun k => (View.ld_unit_apply_of _ _ _ _ _ (ix2 r k) (fun a => by fin_cases a <;> simp)).trans (b_at m c t r k)
  · exact fun k => View.ld_unit_apply_of _ _ _ _ _ _ (fun a => by fin_cases a <;> simp)
  · exact fun k => (View.ld_unit_apply_of _ _ _ _ _ (ix2 r k) (fun a => by fin_cases a <;> simp)).trans (a_at m c t r k)
  · exact fun k => View.ld_unit_apply_of _ _ _ _ _ _ (fun a => by fin_cases a <;> simp)

/-- THE RESULT ARRAY after the run. -/
theorem final (c : Dev nD) :
    (dats m 0 c).arrAt 7 cfg0.N = G (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]
  have hy : y = ix2 (y 0) (y 1) := by funext a; fin_cases a <;> rfl
  refine (congrArg _ hy).trans ((point m c t (y 0) (y 1)).trans ?_)
  show _ = proj _ _ _ _ _ _ _ _ _
  congr 1
  · apply Fin.ext
    show 768 * (t.val / 8) + (y 0).val = _
    blk_simp [idx t]
    omega
  · apply Fin.ext
    show 512 * (t.val % 8) + (y 1).val = _
    blk_simp [idx t]
    omega

end Cert.Out

end
-- ==== Proof.OutRef.lean ====
/- The output projection's reference, read at an index: the array the kernel leaves. -/
module

public import proofs.«01_k».proof.Proof.OutBlock
public import proofs.«01_k».proof.Proof.Gen.OutprojRefIdeal.Read

@[expose] public section

set_option maxRecDepth 16384

noncomputable section

namespace Cert.Out

open Idealize.ShloMosaic Idealize.ShloMosaic.TcCoe Idealize.SL.Sem Cert.OutprojRefIdeal.Read

variable (A B C D : FVec Ideal Cert.OutprojRefIdeal.S8448x1024 .bf16) (W : FVec Ideal Cert.OutprojRefIdeal.S2x4096x4096 .f32)
  (X : FVec Ideal Cert.OutprojRefIdeal.S8448x4096 .f32) (M : FVec Ideal Cert.OutprojRefIdeal.S2x24576 .f32)

/-- A sum over 4096 is the four sums over its quarters. -/
theorem sum_quarters (f : Fin 4096 → EReal) :
    ∑ k, f k = (∑ d : Fin 1024, f (Fin.ofNat 4096 (0 + d.val))) + (∑ d : Fin 1024, f (Fin.ofNat 4096 (1024 + d.val)))
      + (∑ d : Fin 1024, f (Fin.ofNat 4096 (2048 + d.val))) + (∑ d : Fin 1024, f (Fin.ofNat 4096 (3072 + d.val))) := by
  rw [← Equiv.sum_comp (finProdFinEquiv : Fin 4 × Fin 1024 ≃ Fin 4096), Fintype.sum_prod_type, Fin.sum_univ_four]
  have h : ∀ p : Fin 4, ∑ d : Fin 1024, f (finProdFinEquiv (p, d)) = ∑ d : Fin 1024, f (Fin.ofNat 4096 (1024 * p.val + d.val)) := fun p =>
    Finset.sum_congr rfl fun d _ => congrArg f (Fin.ext (by
      have := p.isLt; have := d.isLt
      show d.val + 1024 * p.val = (1024 * p.val + d.val) % 4096; omega))
  rw [h, h, h, h]
  rfl

/-- The mix at row `n`, column `p + d` is the quarter `p` starts, at column `d`. -/
theorem mix_at (n : Fin 8448) (d : Fin 1024) :
    val_main_v1 (F := Ideal) A B C D (ix2 n (Fin.ofNat 4096 (0 + d.val))) = A (ix2 n d)
      ∧ val_main_v1 (F := Ideal) A B C D (ix2 n (Fin.ofNat 4096 (1024 + d.val))) = B (ix2 n d)
      ∧ val_main_v1 (F := Ideal) A B C D (ix2 n (Fin.ofNat 4096 (2048 + d.val))) = C (ix2 n d)
      ∧ val_main_v1 (F := Ideal) A B C D (ix2 n (Fin.ofNat 4096 (3072 + d.val))) = D (ix2 n d) := by
  have hd := d.isLt
  refine ⟨?_, ?_, ?_, ?_⟩
  · rw [val_main_v1_apply]
    unfold val_main_v0
    exact concatenate_apply_piece (t := Cert.OutprojRefIdeal.S8448x4096) 1 _ _ _ 0 (by show 0 < 4; decide) Cert.OutprojRefIdeal.S8448x1024 A rfl rfl 0 rfl (ix2 n d)
      (fun b hb => by match b with
        | ⟨0, _⟩ => rfl
        | ⟨1, _⟩ => exact absurd rfl hb) (by show 0 + d.val = (0 + d.val) % 4096; omega)
  · rw [val_main_v1_apply]
    unfold val_main_v0
    exact concatenate_apply_piece (t := Cert.OutprojRefIdeal.S8448x4096) 1 _ _ _ 1 (by show 1 < 4; decide) Cert.OutprojRefIdeal.S8448x1024 B rfl rfl 1024 rfl (ix2 n d)
      (fun b hb => by match b with
        | ⟨0, _⟩ => rfl
        | ⟨1, _⟩ => exact absurd rfl hb) (by show 1024 + d.val = (1024 + d.val) % 4096; omega)
  · rw [val_main_v1_apply]
    unfold val_main_v0
    exact concatenate_apply_piece (t := Cert.OutprojRefIdeal.S8448x4096) 1 _ _ _ 2 (by show 2 < 4; decide) Cert.OutprojRefIdeal.S8448x1024 C rfl rfl 2048 rfl (ix2 n d)
      (fun b hb => by match b with
        | ⟨0, _⟩ => rfl
        | ⟨1, _⟩ => exact absurd rfl hb) (by show 2048 + d.val = (2048 + d.val) % 4096; omega)
  · rw [val_main_v1_apply]
    unfold val_main_v0
    exact concatenate_apply_piece (t := Cert.OutprojRefIdeal.S8448x4096) 1 _ _ _ 3 (by show 3 < 4; decide) Cert.OutprojRefIdeal.S8448x1024 D rfl rfl 3072 rfl (ix2 n d)
      (fun b hb => by match b with
        | ⟨0, _⟩ => rfl
        | ⟨1, _⟩ => exact absurd rfl hb) (by show 3072 + d.val = (3072 + d.val) % 4096; omega)

/-- The weights are the first layer's. -/
theorem weight_at (k e : Fin 4096) : val_main_v4 (F := Ideal) W (ix2 k e) = W (ix3 (0 : Fin 2) k e) := by
  have hk := k.isLt
  have he := e.isLt
  rw [val_main_v4_apply, val_main_v3_apply]
  refine congrArg W (funext fun a => Fin.ext ?_)
  match a with
  | ⟨0, _⟩ => rfl
  | ⟨1, _⟩ => show (k.val * 4096 + e.val) / 4096 % 4096 = k.val; omega
  | ⟨2, _⟩ => show (k.val * 4096 + e.val) % 4096 = e.val; omega

/-- The product is the sum of the four quarters' products. -/
theorem prod_at (n : Fin 8448) (e : Fin 4096) :
    val_main_v5 (F := Ideal) A B C D W (ix2 n e) = dotp A W 0 n e + dotp B W 1024 n e + dotp C W 2048 n e + dotp D W 3072 n e := by
  rw [val_main_v5_apply, sum_quarters]
  have hl : ∀ k : Fin 4096, lidx_main_v5 (ix2 n e) k = ix2 n k := fun k => funext fun a => by
    match a with
    | ⟨0, _⟩ => rfl
    | ⟨1, _⟩ => rfl
  have hr : ∀ k : Fin 4096, ridx_main_v5 (ix2 n e) k = ix2 k e := fun k => funext fun a => by
    match a with
    | ⟨0, _⟩ => rfl
    | ⟨1, _⟩ => rfl
  simp only [hl, hr, weight_at, (mix_at A B C D n _).1, (mix_at A B C D n _).2.1, (mix_at A B C D n _).2.2.1, (mix_at A B C D n _).2.2.2]
  rfl

/-- The modulation's columns that the gate reads. -/
theorem mod_at (r : Fin 2) (e : Fin 4096) : val_main_v2 (F := Ideal) M (ix2 r e) = M (ix2 r (Fin.ofNat 24576 (8192 + e.val))) := by
  have he := e.isLt
  rw [val_main_v2_apply]
  refine congrArg M (funext fun a => Fin.ext ?_)
  match a with
  | ⟨0, _⟩ => rfl
  | ⟨1, _⟩ => show 8192 + e.val = (8192 + e.val) % 24576; omega

/-- THE REFERENCE'S RESULT is the array the kernel leaves. -/
theorem ref_eq : val_main_v18 (F := Ideal) A B C D W X M = G A B C D W X M := by
  suffices h : ∀ (n : Fin 8448) (e : Fin 4096), val_main_v18 (F := Ideal) A B C D W X M (ix2 n e) = proj A B C D W X M n e by
    funext j
    have hj : j = ix2 (j 0) (j 1) := funext fun a => by
      match a with
      | ⟨0, _⟩ => rfl
      | ⟨1, _⟩ => rfl
    exact (congrArg _ hj).trans (h (j 0) (j 1))
  intro n e
  unfold val_main_v18
  unfold proj gate
  rw [← prod_at, ← mod_at M, ← mod_at M]
  by_cases hn : n.val < 256
  · rw [if_pos hn]
    refine (concatenate_pair_apply_left (t := Cert.OutprojRefIdeal.S8448x4096) (s₁ := Cert.OutprojRefIdeal.S256x4096) (s₂ := Cert.OutprojRefIdeal.S8192x4096) 0 _ _ _ (ix2 n e) rfl (ix2 (⟨n.val, hn⟩ : Fin 256) e) (fun b => by
      match b with
      | ⟨0, _⟩ => rfl
      | ⟨1, _⟩ => rfl)).trans ?_
    rw [val_main_v11_apply, val_main_v10_apply, val_main_v9_apply, val_main_v8_apply, val_main_v7_apply, val_main_v6_apply]
    have e1 : idx_main_v6 (ix2 (⟨n.val, hn⟩ : Fin 256) e) = ix2 n e := funext fun a => by
      match a with
      | ⟨0, _⟩ => rfl
      | ⟨1, _⟩ => rfl
    have e2 : idx_main_v8 (ix2 (⟨n.val, hn⟩ : Fin 256) e) = ix2 n e := funext fun a => by
      match a with
      | ⟨0, _⟩ => rfl
      | ⟨1, _⟩ => rfl
    have e3 : idx_main_v7 (idx_main_v9 (ix2 (⟨n.val, hn⟩ : Fin 256) e)) = ix2 (1 : Fin 2) e := funext fun a => by
      match a with
      | ⟨0, _⟩ => rfl
      | ⟨1, _⟩ => rfl
    rw [e1, e2, e3]
    rfl
  · rw [if_neg hn]
    have hr : n.val - 256 < 8192 := by have := n.isLt; omega
    refine (concatenate_pair_apply_right (t := Cert.OutprojRefIdeal.S8448x4096) (s₁ := Cert.OutprojRefIdeal.S256x4096) (s₂ := Cert.OutprojRefIdeal.S8192x4096) 0 _ _ _ (ix2 n e) rfl rfl (ix2 (⟨n.val - 256, hr⟩ : Fin 8192) e) (fun b hb => by
      match b with
      | ⟨0, _⟩ => exact absurd rfl hb
      | ⟨1, _⟩ => rfl) (by show n.val - 256 + 256 = n.val; omega)).trans ?_
    rw [val_main_v17_apply, val_main_v16_apply, val_main_v15_apply, val_main_v14_apply, val_main_v13_apply, val_main_v12_apply]
    have e1 : idx_main_v12 (ix2 (⟨n.val - 256, hr⟩ : Fin 8192) e) = ix2 n e := funext fun a => by
      match a with
      | ⟨0, _⟩ => exact Fin.ext (by show 256 + (n.val - 256) = n.val; omega)
      | ⟨1, _⟩ => rfl
    have e2 : idx_main_v14 (ix2 (⟨n.val - 256, hr⟩ : Fin 8192) e) = ix2 n e := funext fun a => by
      match a with
      | ⟨0, _⟩ => exact Fin.ext (by show 256 + (n.val - 256) = n.val; omega)
      | ⟨1, _⟩ => rfl
    have e3 : idx_main_v13 (idx_main_v15 (ix2 (⟨n.val - 256, hr⟩ : Fin 8192) e)) = ix2 (0 : Fin 2) e := funext fun a => by
      match a with
      | ⟨0, _⟩ => rfl
      | ⟨1, _⟩ => rfl
    rw [e1, e2, e3]
    rfl

end Cert.Out

end
-- ==== Proof.InW.lean ====
/- The weights the input projection's region finds. -/
module

public import proofs.«01_k».proof.Proof.Gen.InprojIdeal.Value
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.In

open Cert.InprojIdeal Cert.InprojIdeal.Gen Idealize.ShloMosaic Idealize.ShloMosaic.TcCoe Idealize.SL.Sem

variable (m : (ℓ : Loc nD τ sig) → Buf (Elt Ideal) ℓ)

/-- The rearranged weights of the first layer, with zeros past the last column. -/
def wcol (W : FVec Ideal S2x4096x6720 .f32) (k : Fin 4096) (e : Fin 7168) : EReal :=
  if e.val < 5120 then W (ix3 (0 : Fin 2) k (Fin.ofNat 6720 (1600 + e.val)))
  else if e.val < 6144 then W (ix3 (0 : Fin 2) k (Fin.ofNat 6720 (e.val - 4544)))
  else if e.val < 6720 then W (ix3 (0 : Fin 2) k (Fin.ofNat 6720 (e.val - 6144)))
  else 0

/-- What the host operations before the concatenation leave in a buffer. -/
abbrev pre (c : Dev nD) (b : Ref sig .tc) : Buf (Elt Ideal) ((c : Thread nD τ).loc b) :=
  StableHlo.upto hostOps0 (fun b => m (c, b)) 8 (Proc.devRef .tc b)

/-- The first layer's weights. -/
theorem layer_at (c : Dev nD) (k : Fin 4096) (d : Fin 6720) :
    shapeCast S4096x6720 (extractStridedSlice S1x4096x6720 ![0, 0, 0] (m ((c : Thread nD τ).loc main_arg3) : FVec Ideal S2x4096x6720 .f32) slices_S2x4096x6720_S1x4096x6720_0_0_0)
      shapeCasts_S1x4096x6720_S4096x6720 (ix2 k d) = (m ((c : Thread nD τ).loc main_arg3)) (ix3 (0 : Fin 2) k d) := by
  pointwise

/-- The concatenation's piece that starts at the layer's column 1600. -/
theorem p0 (c : Dev nD) (k : Fin 4096) (d : Fin 4096) :
    (show FVec Ideal S4096x4096 .f32 from pre m c main_v2) (ix2 k d) = (m ((c : Thread nD τ).loc main_arg3)) (ix3 (0 : Fin 2) k (Fin.ofNat 6720 (1600 + d.val))) := by
  have hd := d.isLt
  rw [← layer_at m c]
  show pre m c main_v2 _ = _
  unfold pre
  after_reads_simp
  refine extractStridedSlice_apply (s := S4096x6720) (t := S4096x4096) ![0, 1600] _ slices_S4096x6720_S4096x4096_0_1600 (show S4096x4096.Idx from ix2 k d) _ fun a => ?_
  match a with
  | ⟨0, _⟩ => show k.val = 0 + k.val; omega
  | ⟨1, _⟩ => show (1600 + d.val) % 6720 = 1600 + d.val; omega

/-- The concatenation's piece that starts at the layer's column 5696. -/
theorem p1 (c : Dev nD) (k : Fin 4096) (d : Fin 1024) :
    (show FVec Ideal S4096x1024 .f32 from pre m c main_v3) (ix2 k d) = (m ((c : Thread nD τ).loc main_arg3)) (ix3 (0 : Fin 2) k (Fin.ofNat 6720 (5696 + d.val))) := by
  have hd := d.isLt
  rw [← layer_at m c]
  show pre m c main_v3 _ = _
  unfold pre
  after_reads_simp
  refine extractStridedSlice_apply (s := S4096x6720) (t := S4096x1024) ![0, 5696] _ slices_S4096x6720_S4096x1024_0_5696 (show S4096x1024.Idx from ix2 k d) _ fun a => ?_
  match a with
  | ⟨0, _⟩ => show k.val = 0 + k.val; omega
  | ⟨1, _⟩ => show (5696 + d.val) % 6720 = 5696 + d.val; omega

/-- The concatenation's piece that starts at the layer's column 576. -/
theorem p2 (c : Dev nD) (k : Fin 4096) (d : Fin 1024) :
    (show FVec Ideal S4096x1024 .f32 from pre m c main_v4) (ix2 k d) = (m ((c : Thread nD τ).loc main_arg3)) (ix3 (0 : Fin 2) k (Fin.ofNat 6720 (576 + d.val))) := by
  have hd := d.isLt
  rw [← layer_at m c]
  show pre m c main_v4 _ = _
  unfold pre
  after_reads_simp
  refine extractStridedSlice_apply (s := S4096x6720) (t := S4096x1024) ![0, 576] _ slices_S4096x6720_S4096x1024_0_576 (show S4096x1024.Idx from ix2 k d) _ fun a => ?_
  match a with
  | ⟨0, _⟩ => show k.val = 0 + k.val; omega
  | ⟨1, _⟩ => show (576 + d.val) % 6720 = 576 + d.val; omega

/-- The concatenation's piece that starts at the layer's column 0. -/
theorem p3 (c : Dev nD) (k : Fin 4096) (d : Fin 576) :
    (show FVec Ideal S4096x576 .f32 from pre m c main_v5) (ix2 k d) = (m ((c : Thread nD τ).loc main_arg3)) (ix3 (0 : Fin 2) k (Fin.ofNat 6720 (0 + d.val))) := by
  have hd := d.isLt
  rw [← layer_at m c]
  show pre m c main_v5 _ = _
  unfold pre
  after_reads_simp
  refine extractStridedSlice_apply (s := S4096x6720) (t := S4096x576) ![0, 0] _ slices_S4096x6720_S4096x576_0_0 (show S4096x576.Idx from ix2 k d) _ fun a => ?_
  match a with
  | ⟨0, _⟩ => show k.val = 0 + k.val; omega
  | ⟨1, _⟩ => show (0 + d.val) % 6720 = 0 + d.val; omega

/-- The concatenation's last piece is zero. -/
theorem p4 (c : Dev nD) (k : Fin 4096) (d : Fin 448) : (show FVec Ideal S4096x448 .f32 from pre m c main_v6) (ix2 k d) = 0 := by
  show pre m c main_v6 _ = _
  unfold pre
  after_reads_simp
  pointwise

/-- The weights that the region finds. -/
theorem w_host (c : Dev nD) (k : Fin 4096) (e : Fin 7168) :
    (show FVec Ideal S4096x7168 .bf16 from V m c main_v8) (ix2 k e) = wcol (m ((c : Thread nD τ).loc main_arg3)) k e := by
  have he := e.isLt
  show V m c main_v8 _ = _
  unfold V
  after_reads_simp
  show concatenate S4096x7168 1 [⟨S4096x4096, (pre m c main_v2 : FVec Ideal S4096x4096 .f32)⟩, ⟨S4096x1024, (pre m c main_v3 : FVec Ideal S4096x1024 .f32)⟩,
    ⟨S4096x1024, (pre m c main_v4 : FVec Ideal S4096x1024 .f32)⟩, ⟨S4096x576, (pre m c main_v5 : FVec Ideal S4096x576 .f32)⟩, ⟨S4096x448, (pre m c main_v6 : FVec Ideal S4096x448 .f32)⟩]
    concatenates_S4096x4096_S4096x1024_S4096x1024_S4096x576_S4096x448_S4096x7168_d1 (ix2 k e) = _
  unfold wcol
  by_cases h0 : e.val < 4096
  · rw [if_pos (by omega)]
    obtain ⟨d, hd⟩ : ∃ d : Fin 4096, 0 + d.val = e.val := ⟨⟨e.val - 0, by omega⟩, by show 0 + (e.val - 0) = e.val; omega⟩
    refine (concatenate_apply_piece (t := S4096x7168) 1 _ _ (ix2 k e) 0 (by show 0 < 5; decide) S4096x4096 (pre m c main_v2 : FVec Ideal S4096x4096 .f32) rfl rfl 0 rfl (ix2 k d)
      (fun b hb => by match b with
        | ⟨0, _⟩ => rfl
        | ⟨1, _⟩ => exact absurd rfl hb) (by exact hd)).trans ((p0 m c k d).trans ?_)
    exact congrArg _ (congrArg _ (Fin.ext (by show (1600 + d.val) % 6720 = (1600 + e.val) % 6720; omega)))
  by_cases h1 : e.val < 5120
  · rw [if_pos h1]
    obtain ⟨d, hd⟩ : ∃ d : Fin 1024, 4096 + d.val = e.val := ⟨⟨e.val - 4096, by omega⟩, by show 4096 + (e.val - 4096) = e.val; omega⟩
    refine (concatenate_apply_piece (t := S4096x7168) 1 _ _ (ix2 k e) 1 (by show 1 < 5; decide) S4096x1024 (pre m c main_v3 : FVec Ideal S4096x1024 .f32) rfl rfl 4096 rfl (ix2 k d)
      (fun b hb => by match b with
        | ⟨0, _⟩ => rfl
        | ⟨1, _⟩ => exact absurd rfl hb) (by exact hd)).trans ((p1 m c k d).trans ?_)
    exact congrArg _ (congrArg _ (Fin.ext (by show (5696 + d.val) % 6720 = (1600 + e.val) % 6720; omega)))
  rw [if_neg h1]
  by_cases h2 : e.val < 6144
  · rw [if_pos h2]
    obtain ⟨d, hd⟩ : ∃ d : Fin 1024, 5120 + d.val = e.val := ⟨⟨e.val - 5120, by omega⟩, by show 5120 + (e.val - 5120) = e.val; omega⟩
    refine (concatenate_apply_piece (t := S4096x7168) 1 _ _ (ix2 k e) 2 (by show 2 < 5; decide) S4096x1024 (pre m c main_v4 : FVec Ideal S4096x1024 .f32) rfl rfl 5120 rfl (ix2 k d)
      (fun b hb => by match b with
        | ⟨0, _⟩ => rfl
        | ⟨1, _⟩ => exact absurd rfl hb) (by exact hd)).trans ((p2 m c k d).trans ?_)
    exact congrArg _ (congrArg _ (Fin.ext (by show (576 + d.val) % 6720 = (e.val - 4544) % 6720; omega)))
  rw [if_neg h2]
  by_cases h3 : e.val < 6720
  · rw [if_pos h3]
    obtain ⟨d, hd⟩ : ∃ d : Fin 576, 6144 + d.val = e.val := ⟨⟨e.val - 6144, by omega⟩, by show 6144 + (e.val - 6144) = e.val; omega⟩
    refine (concatenate_apply_piece (t := S4096x7168) 1 _ _ (ix2 k e) 3 (by show 3 < 5; decide) S4096x576 (pre m c main_v5 : FVec Ideal S4096x576 .f32) rfl rfl 6144 rfl (ix2 k d)
      (fun b hb => by match b with
        | ⟨0, _⟩ => rfl
        | ⟨1, _⟩ => exact absurd rfl hb) (by exact hd)).trans ((p3 m c k d).trans ?_)
    exact congrArg _ (congrArg _ (Fin.ext (by show (0 + d.val) % 6720 = (e.val - 6144) % 6720; omega)))
  rw [if_neg h3]
  obtain ⟨d, hd⟩ : ∃ d : Fin 448, 6720 + d.val = e.val := ⟨⟨e.val - 6720, by omega⟩, by show 6720 + (e.val - 6720) = e.val; omega⟩
  exact (concatenate_apply_piece (t := S4096x7168) 1 _ _ (ix2 k e) 4 (by show 4 < 5; decide) S4096x448 (pre m c main_v6 : FVec Ideal S4096x448 .f32) rfl rfl 6720 rfl (ix2 k d)
    (fun b hb => by match b with
      | ⟨0, _⟩ => rfl
      | ⟨1, _⟩ => exact absurd rfl hb) (by exact hd)).trans (p4 m c k d)

end Cert.In

end
-- ==== Proof.InBlock.lean ====
/- What the input projection's kernel keeps in its scratch buffer and leaves in its result array. -/
module

public import proofs.«01_k».proof.Proof.InW
public import Idealize.ShloMosaic.Lib.Pipeline.ValueKit
public import Idealize.ShloMosaic.Lib.Pipeline.ReadBack

@[expose] public section

set_option maxRecDepth 16384

noncomputable section

namespace Cert.In

open Cert.InprojIdeal Cert.InprojIdeal.Gen Idealize.ShloMosaic Idealize.ShloMosaic.TcCoe Idealize.SL.Sem

/-- The normalizing factor of a row. -/
def scaleOf (f : Fin 4096 → EReal) : EReal :=
  Ideal.rsqrt (Ideal.div (∑ d, f d * f d) (Ideal.ofBits .f32 0x45800000#32) + Ideal.ofBits .f32 0x358637BD#32)

/-- One modulated, normalized element, from its row, its gain, its scale and its shift. -/
def modulated (f : Fin 4096 → EReal) (g sc sh : EReal) (k : Fin 4096) : EReal :=
  f k * scaleOf f * g * (1 + sc) + sh

/-- The trip's number as the loop's word. -/
theorem iv_val (t : Fin k0_t1_loop.trips) : Scf.iv (0#32) (1#32) t.val = BitVec.ofNat 32 t.val := by
  have ht : t.val < 48 := lt_of_lt_of_le t.isLt k0_t1_abs.2.1
  apply BitVec.eq_of_toNat_eq
  simp only [Scf.iv, BitVec.toNat_add, BitVec.toNat_mul, BitVec.toNat_ofNat]
  omega

/-- Whether a trip's rows are context rows. -/
theorem ctx_iff (i : grid0.Coords) (t : Fin k0_t1_loop.trips) :
    Scalar.cmpi .slt (Scalar.addi (Scalar.muli (BitVec.ofNat 32 (i 0).val) 768#32) (Scalar.muli (Scf.iv (0#32) (1#32) t.val) 16#32)) 256#32 = 1#1
      ↔ 768 * (i 0).val + 16 * t.val < 256 := by
  have ht : t.val < 48 := lt_of_lt_of_le t.isLt k0_t1_abs.2.1
  have hi : (i 0).val < 11 := (i 0).isLt
  rw [iv_val]
  show IntOp.cmpi .slt (IntOp.addi (IntOp.muli (BitVec.ofNat 32 (i 0).val) (BitVec.ofNat 32 768)) (IntOp.muli (BitVec.ofNat 32 t.val) (BitVec.ofNat 32 16))) (BitVec.ofNat 32 256) = 1#1 ↔ _
  rw [WordCmp.muli_ofNat, WordCmp.muli_ofNat, WordCmp.addi_ofNat, WordCmp.cmpi_slt_ofNat_eq_one_iff (by norm_num; omega) (by norm_num), Nat.mul_comm, Nat.mul_comm t.val]

/-- What a trip stores at row `r`, column `k` of its sixteen rows. -/
theorem pay1_apply (i : grid0.Coords) (t : Fin k0_t1_loop.trips) (v13 : Vec Ideal S16x4096 .f32) (v24 v31 v32 v34 v35 : Vec Ideal S1x4096 .f32)
    (r : Fin 16) (k : Fin 4096) :
    k0_pay1 i t v13 v24 v31 v32 v34 v35 (ix2 r k)
      = modulated (fun d => v13 (ix2 r d)) (v24 (ix2 0 k))
          (if 768 * (i 0).val + 16 * t.val < 256 then v31 (ix2 0 k) else v32 (ix2 0 k))
          (if 768 * (i 0).val + 16 * t.val < 256 then v34 (ix2 0 k) else v35 (ix2 0 k)) k := by
  simp only [← ctx_iff i t]
  unfold k0_pay1 modulated scaleOf
  pointwise
  rfl

/-- The product of the scratch and a block of the weights. -/
theorem pay2_apply (h : Vec Ideal S768x4096 .bf16) (w : Vec Ideal S4096x512 .bf16) (r : Fin 768) (e : Fin 512) :
    k0_pay2 h w (ix2 r e) = ∑ k : Fin 4096, h (ix2 r k) * w (ix2 k e) := by
  unfold k0_pay2
  pointwise

/-- The scratch after all the trips of one point, from the point's blocks of the rows, the gain, the shifts and the scales. -/
def blockH (i : grid0.Coords) (x : Vec Ideal S768x4096 .f32) (g : Vec Ideal S1x4096 .f32) (sh sc : Vec Ideal S2x4096 .f32) :
    Vec Ideal S768x4096 .bf16 :=
  fun j => modulated (fun d => x (ix2 (j 0) d)) (g (ix2 0 (j 1)))
    (if 768 * (i 0).val + (j 0).val < 256 then sc (ix2 1 (j 1)) else sc (ix2 0 (j 1)))
    (if 768 * (i 0).val + (j 0).val < 256 then sh (ix2 1 (j 1)) else sh (ix2 0 (j 1))) (j 1)

/-- Where a trip's row lies in the block. -/
def tr (t : Fin k0_t1_loop.trips) (r : Fin 16) : Fin 768 :=
  ⟨16 * t.val + r.val, by have : t.val < 48 := lt_of_lt_of_le t.isLt k0_t1_abs.2.1; have := r.isLt; omega⟩

/-- A trip's stored rows are those rows of the block. -/
theorem trip_at (i : grid0.Coords) (t : Fin k0_t1_loop.trips) (x : Vec Ideal S768x4096 .f32) (g : Vec Ideal S1x4096 .f32) (sh sc : Vec Ideal S2x4096 .f32)
    (v13 : Vec Ideal S16x4096 .f32) (v24 v31 v32 v34 v35 : Vec Ideal S1x4096 .f32)
    (h13 : ∀ r d, v13 (ix2 r d) = x (ix2 (tr t r) d)) (h24 : ∀ d, v24 (ix2 0 d) = g (ix2 0 d))
    (h31 : ∀ d, v31 (ix2 0 d) = sc (ix2 1 d)) (h32 : ∀ d, v32 (ix2 0 d) = sc (ix2 0 d))
    (h34 : ∀ d, v34 (ix2 0 d) = sh (ix2 1 d)) (h35 : ∀ d, v35 (ix2 0 d) = sh (ix2 0 d)) (r : Fin 16) (k : Fin 4096) :
    k0_pay1 i t v13 v24 v31 v32 v34 v35 (ix2 r k) = blockH i x g sh sc (ix2 (tr t r) k) := by
  have hc : 768 * (i 0).val + 16 * t.val < 256 ↔ 768 * (i 0).val + (tr t r).val < 256 := by
    have := r.isLt
    show _ ↔ 768 * (i 0).val + (16 * t.val + r.val) < 256
    omega
  rw [pay1_apply]
  simp only [h13, h24, h31, h32, h34, h35, hc]
  rfl

/-- Every store of the trips before `n` agrees with the block. -/
theorem pieces_at (𝒱 : Variants) (c : Dev nD) (bd : Option 𝒱.V) (i : grid0.Coords) (arg2 : Memref sig .tc .vmem S768x4096 .f32) (harg2 : arg2.IsWhole) (arg3 : Memref sig .tc .vmem S1x4096 .f32) (harg3 : arg3.IsWhole) (arg4 : Memref sig .tc .vmem S2x4096 .f32) (harg4 : arg4.IsWhole) (arg5 : Memref sig .tc .vmem S2x4096 .f32) (harg5 : arg5.IsWhole) (arg6 : Memref sig .tc .vmem S4096x512 .bf16) (harg6 : arg6.IsWhole) (arg7 : Memref sig .tc .vmem S768x512 .bf16) (harg7 : arg7.IsWhole) (arg8 : Memref sig .tc .vmem S768x4096 .bf16) (harg8 : arg8.IsWhole) (k0_h1 : k0_cond1 i = 1#1)
    (x : Vec Ideal S768x4096 .f32) (g : Vec Ideal S1x4096 .f32) (sh sc : Vec Ideal S2x4096 .f32) (n : ℕ) (hn : n ≤ k0_t1_loop.trips) :
    ∀ p ∈ pb_k0_t1 𝒱 c bd i arg2 harg2 arg3 harg3 arg4 harg4 arg5 harg5 arg6 harg6 arg7 harg7 arg8 harg8 k0_h1 (harg2.unread x) (harg3.unread g) (harg4.unread sh) (harg5.unread sc) n,
      ∀ y : p.1.shape.Idx, p.2 y = blockH i x g sh sc (p.1.emb y) := by
  induction n with
  | zero => intro p hp; exact absurd hp List.not_mem_nil
  | succ n ih =>
    intro p hp
    rw [pb_k0_t1_succ (F := Ideal) 𝒱 c bd i arg2 harg2 arg3 harg3 arg4 harg4 arg5 harg5 arg6 harg6 arg7 harg7 arg8 harg8 k0_h1 _ _ _ _ ⟨n, hn⟩] at hp
    rcases List.mem_append.mp hp with h | h
    · unfold tripL_k0_t1 trip_k0_t1 at h
      dsimp only at h
      obtain rfl := List.mem_singleton.mp h
      intro y
      dsimp only at y ⊢
      simp only [View.readAt_eq_ld, harg2.read_unread, harg3.read_unread, harg4.read_unread, harg5.read_unread]
      have hy : y = ix2 (y 0) (y 1) := funext fun a => by
        match a with
        | ⟨0, _⟩ => rfl
        | ⟨1, _⟩ => rfl
      have he : (Rect.unit (s := S768x4096) (k0_off1 ⟨n, hn⟩) ![16, 4096] (k0_off1_inb i ⟨n, hn⟩ k0_h1)).emb y = ix2 (tr ⟨n, hn⟩ (y 0)) (y 1) := funext fun a => Fin.ext (by
        rw [ValueKit.rect_emb_unit_val, congrFun (k0_off1_eq ⟨n, hn⟩) a]
        match a with
        | ⟨0, _⟩ => rfl
        | ⟨1, _⟩ => exact Nat.zero_add _)
      refine Eq.trans ?_ (congrArg _ he.symm)
      refine (congrArg _ hy).trans (trip_at i ⟨n, hn⟩ x g sh sc _ _ _ _ _ _ ?_ ?_ ?_ ?_ ?_ ?_ (y 0) (y 1))
      · intro r d
        refine View.ld_unit_apply_of _ _ _ _ _ _ fun a => ?_
        rw [congrFun (k0_off1_eq ⟨n, hn⟩) a]
        match a with
        | ⟨0, _⟩ => rfl
        | ⟨1, _⟩ => exact (Nat.zero_add _).symm
      all_goals exact fun d => View.ld_unit_apply_of _ _ _ _ _ _ fun a => by fin_cases a <;> simp
    · exact ih (by omega) p h

variable (m : (ℓ : Loc nD τ sig) → Buf (Elt Ideal) ℓ)

/-- The scratch that the points of tile `t / 14` use. -/
def tileH (c : Dev nD) (t : Fin cfg0.N) : Vec Ideal S768x4096 .bf16 :=
  blockH (grid0.coords t) (iblk m c 0 t) (iblk m c 1 t) (iblk m c 2 t) (iblk m c 3 t)

/-- A point that fills the scratch leaves the tile's block in it … -/
theorem scratch_A (c : Dev nD) (t : Fin cfg0.N) (h0 : t.val % 14 = 0) : (outsAt0 m c t.val t.isLt).2 = tileH m c t := by
  rw [outsAt0_A m c t h0]
  funext y
  dsimp only
  unfold sout0_A_0
  refine View.read_writes_apply_of_pieces _ _ (tileH m c t) _ ?_ y (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t) y)
  unfold kernelRun0_A
  dsimp only
  exact pieces_at Variants.none c none (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) _ (iblk m c 0 t) (iblk m c 1 t) (iblk m c 2 t) (iblk m c 3 t) _ le_rfl

/-- … and writes its product with the point's weights; … -/
theorem out_A (c : Dev nD) (t : Fin cfg0.N) (h0 : t.val % 14 = 0) : (outsAt0 m c t.val t.isLt).1 = k0_pay2 (tileH m c t) (iblk m c 4 t) := by
  have hs := scratch_A m c t h0
  rw [outsAt0_A m c t h0] at hs ⊢
  frame_out
  refine congrArg (k0_pay2 · (iblk m c 4 t)) ?_
  rw [← hs]
  unfold sout0_A_0 kernelRun0_A
  dsimp only
  unfold View.readCov
  rw [View.readAt_eq_ld]
  exact View.ld_unit_lit _ _ (by decide)

/-- … any other point keeps the scratch … -/
theorem scratch_B (c : Dev nD) (t : Fin cfg0.N) (h0 : ¬ t.val % 14 = 0) :
    (outsAt0 m c t.val t.isLt).2 = (outsAt0 m c (t.val - 1) (Nat.lt_of_le_of_lt (Nat.sub_le _ _) t.isLt)).2 := by
  rw [outsAt0_B m c t h0]
  rfl

/-- … and writes its product with the point's weights. -/
theorem out_B (c : Dev nD) (t : Fin cfg0.N) (h0 : ¬ t.val % 14 = 0) :
    (outsAt0 m c t.val t.isLt).1 = k0_pay2 (outsAt0 m c (t.val - 1) (Nat.lt_of_le_of_lt (Nat.sub_le _ _) t.isLt)).2 (iblk m c 4 t) := by
  rw [outsAt0_B m c t h0]
  frame_out
  simp only [read_unread_whole]

/-- Where the blocks of point `t` lie. -/
theorem idx : ∀ t : Fin cfg0.N, win0_0.index t = ![t.val / 14, 0] ∧ win0_1.index t = ![0, 0] ∧ win0_2.index t = ![0, 0]
    ∧ win0_3.index t = ![0, 1] ∧ win0_4.index t = ![0, t.val % 14] ∧ win0_5.index t = ![t.val / 14, t.val % 14]
    ∧ t.val / 14 < 11 ∧ (grid0.coords t 0).val = t.val / 14 :=
  (by decide +kernel : ∀ t : Fin grid0.N, _)

/-- The modulated, normalized row `n`, column `k`: rows below 256 take the second row of the modulation, the others the first. -/
def hval (X : FVec Ideal S8448x4096 .f32) (G : FVec Ideal S2x4096 .f32) (M : FVec Ideal S2x24576 .f32) (n : Fin 8448) (k : Fin 4096) : EReal :=
  modulated (fun d => X (ix2 n d)) (G (ix2 (0 : Fin 2) k))
    (if n.val < 256 then M (ix2 (1 : Fin 2) (Fin.ofNat 24576 (4096 + k.val))) else M (ix2 (0 : Fin 2) (Fin.ofNat 24576 (4096 + k.val))))
    (if n.val < 256 then M (ix2 (1 : Fin 2) (Fin.ofNat 24576 k.val)) else M (ix2 (0 : Fin 2) (Fin.ofNat 24576 k.val))) k

/-- The result at row `n`, column `e`. -/
def proj (X : FVec Ideal S8448x4096 .f32) (G : FVec Ideal S2x4096 .f32) (M : FVec Ideal S2x24576 .f32) (W : FVec Ideal S2x4096x6720 .f32)
    (n : Fin 8448) (e : Fin 7168) : EReal :=
  ∑ k : Fin 4096, hval X G M n k * wcol W k e

/-- The whole result array. -/
def R (X : FVec Ideal S8448x4096 .f32) (G : FVec Ideal S2x4096 .f32) (M : FVec Ideal S2x24576 .f32) (W : FVec Ideal S2x4096x6720 .f32) :
    FVec Ideal S8448x7168 .bf16 :=
  fun j => proj X G M W (j 0) (j 1)

/-- Row `r` of point `t`'s block. -/
def pn (t : Fin cfg0.N) (r : Fin 768) : Fin 8448 := ⟨768 * (t.val / 14) + r.val, by have := r.isLt; have := (idx t).2.2.2.2.2.2.1; omega⟩

/-- Column `e` of point `t`'s block. -/
def pe (t : Fin cfg0.N) (e : Fin 512) : Fin 7168 := ⟨512 * (t.val % 14) + e.val, by have := e.isLt; omega⟩

/-- Where point `t` reads its rows, … -/
theorem x_at (c : Dev nD) (t : Fin cfg0.N) (r : Fin 768) (d : Fin 4096) :
    (show FVec Ideal S768x4096 .f32 from iblk m c 0 t) (ix2 r d) = (m ((c : Thread nD τ).loc main_arg0)) (ix2 (pn t r) d) := by
  show iblk m c 0 t _ = _
  blk_ext [iblk, V, idx t, pn]

/-- … its shifts … -/
theorem sh_at (c : Dev nD) (t : Fin cfg0.N) (r : Fin 2) (d : Fin 4096) :
    (show FVec Ideal S2x4096 .f32 from iblk m c 2 t) (ix2 r d) = (m ((c : Thread nD τ).loc main_arg2)) (ix2 r (Fin.ofNat 24576 d.val)) := by
  show iblk m c 2 t _ = _
  blk_ext [iblk, V, idx t, Fin.val_ofNat]

/-- … and its scales. -/
theorem sc_at (c : Dev nD) (t : Fin cfg0.N) (r : Fin 2) (d : Fin 4096) :
    (show FVec Ideal S2x4096 .f32 from iblk m c 3 t) (ix2 r d) = (m ((c : Thread nD τ).loc main_arg2)) (ix2 r (Fin.ofNat 24576 (4096 + d.val))) := by
  show iblk m c 3 t _ = _
  blk_ext [iblk, V, idx t, Fin.val_ofNat]

/-- The gain that the region finds is the first layer's. -/
theorem g_host (c : Dev nD) (k : Fin 4096) :
    (show FVec Ideal S1x4096 .f32 from V m c main_v11) (ix2 0 k) = (m ((c : Thread nD τ).loc main_arg1)) (ix2 (0 : Fin 2) k) := by
  show V m c main_v11 _ = _
  entry_read
  pointwise

/-- Where point `t` reads its gain. -/
theorem g_at (c : Dev nD) (t : Fin cfg0.N) (k : Fin 4096) :
    (show FVec Ideal S1x4096 .f32 from iblk m c 1 t) (ix2 0 k) = (m ((c : Thread nD τ).loc main_arg1)) (ix2 (0 : Fin 2) k) := by
  rw [← g_host m c]
  show iblk m c 1 t _ = V m c main_v11 _
  blk_ext [iblk, idx t]

/-- Where point `t` reads its weights. -/
theorem w_at (c : Dev nD) (t : Fin cfg0.N) (k : Fin 4096) (e : Fin 512) :
    (show FVec Ideal S4096x512 .bf16 from iblk m c 4 t) (ix2 k e) = wcol (m ((c : Thread nD τ).loc main_arg3)) k (pe t e) := by
  rw [← w_host m c]
  show iblk m c 4 t _ = V m c main_v8 _
  blk_ext [iblk, idx t, pe]

/-- The scratch's rows are the modulated, normalized rows of the tile. -/
theorem tileH_at (c : Dev nD) (t : Fin cfg0.N) (r : Fin 768) (k : Fin 4096) :
    tileH m c t (ix2 r k) = hval (m ((c : Thread nD τ).loc main_arg0)) (m ((c : Thread nD τ).loc main_arg1)) (m ((c : Thread nD τ).loc main_arg2)) (pn t r) k := by
  have hx : (fun d => (show FVec Ideal S768x4096 .f32 from iblk m c 0 t) (ix2 r d)) = fun d => (m ((c : Thread nD τ).loc main_arg0)) (ix2 (pn t r) d) :=
    funext fun d => x_at m c t r d
  have hc : 768 * (grid0.coords t 0).val + r.val = (pn t r).val := by rw [(idx t).2.2.2.2.2.2.2]; rfl
  show modulated (fun d => (show FVec Ideal S768x4096 .f32 from iblk m c 0 t) (ix2 r d)) ((show FVec Ideal S1x4096 .f32 from iblk m c 1 t) (ix2 0 k))
    (if 768 * (grid0.coords t 0).val + r.val < 256 then (show FVec Ideal S2x4096 .f32 from iblk m c 3 t) (ix2 1 k) else (show FVec Ideal S2x4096 .f32 from iblk m c 3 t) (ix2 0 k))
    (if 768 * (grid0.coords t 0).val + r.val < 256 then (show FVec Ideal S2x4096 .f32 from iblk m c 2 t) (ix2 1 k) else (show FVec Ideal S2x4096 .f32 from iblk m c 2 t) (ix2 0 k)) k = _
  rw [hx, g_at, sc_at, sc_at, sh_at, sh_at, hc]
  rfl

/-- THE SCRATCH after any point holds the modulated, normalized rows of the point's tile. -/
theorem scratch_at (c : Dev nD) (r : Fin 768) (k : Fin 4096) (n : ℕ) (hn : n < cfg0.N) :
    (outsAt0 m c n hn).2 (ix2 r k)
      = hval (m ((c : Thread nD τ).loc main_arg0)) (m ((c : Thread nD τ).loc main_arg1)) (m ((c : Thread nD τ).loc main_arg2)) (pn ⟨n, hn⟩ r) k := by
  induction n with
  | zero => exact (congrFun (scratch_A m c ⟨0, hn⟩ rfl) _).trans (tileH_at m c ⟨0, hn⟩ r k)
  | succ n ih =>
    by_cases h0 : (n + 1) % 14 = 0
    · exact (congrFun (scratch_A m c ⟨n + 1, hn⟩ h0) _).trans (tileH_at m c ⟨n + 1, hn⟩ r k)
    · refine (congrFun (scratch_B m c ⟨n + 1, hn⟩ h0) _).trans ((ih (by omega)).trans ?_)
      congr 1
      apply Fin.ext
      show 768 * (n / 14) + r.val = 768 * ((n + 1) / 14) + r.val
      omega

/-- What point `t` leaves at row `r`, column `e` of its block. -/
theorem point (c : Dev nD) (t : Fin cfg0.N) (r : Fin 768) (e : Fin 512) :
    (outsAt0 m c t.val t.isLt).1 (ix2 r e)
      = R (m ((c : Thread nD τ).loc main_arg0)) (m ((c : Thread nD τ).loc main_arg1)) (m ((c : Thread nD τ).loc main_arg2)) (m ((c : Thread nD τ).loc main_arg3))
          (ix2 (pn t r) (pe t e)) := by
  have hs : (outsAt0 m c t.val t.isLt).1 = k0_pay2 (outsAt0 m c t.val t.isLt).2 (iblk m c 4 t) := by
    by_cases h0 : t.val % 14 = 0
    · rw [out_A m c t h0, scratch_A m c t h0]
    · rw [out_B m c t h0, scratch_B m c t h0]
  rw [hs, pay2_apply]
  exact Finset.sum_congr rfl fun k _ => congrArg₂ (· * ·) (scratch_at m c r k t.val t.isLt) (w_at m c t k e)

/-- THE RESULT ARRAY after the run. -/
theorem final (c : Dev nD) :
    (dats m 0 c).arrAt 5 cfg0.N
      = R (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  have hy : y = ix2 (y 0) (y 1) := by funext a; fin_cases a <;> rfl
  refine (congrArg _ hy).trans ((point m c t (y 0) (y 1)).trans ?_)
  show proj _ _ _ _ _ _ = proj _ _ _ _ _ _
  congr 1
  · apply Fin.ext
    show 768 * (t.val / 14) + (y 0).val = _
    blk_simp [idx t]
    omega
  · apply Fin.ext
    show 512 * (t.val % 14) + (y 1).val = _
    blk_simp [idx t]
    omega

end Cert.In

end
-- ==== Proof.InRef.lean ====
/- The input projection's reference, read at an index: the array the kernel leaves. -/
module

public import proofs.«01_k».proof.Proof.InBlock
public import proofs.«01_k».proof.Proof.Gen.InprojRefIdeal.Read

@[expose] public section

set_option maxRecDepth 16384

noncomputable section

namespace Cert.In

open Idealize.ShloMosaic Idealize.ShloMosaic.TcCoe Idealize.SL.Sem Cert.InprojRefIdeal.Read

variable (X : FVec Ideal Cert.InprojRefIdeal.S8448x4096 .f32) (G : FVec Ideal Cert.InprojRefIdeal.S2x4096 .f32)
  (M : FVec Ideal Cert.InprojRefIdeal.S2x24576 .f32) (W : FVec Ideal Cert.InprojRefIdeal.S2x4096x6720 .f32)

/-- The row's normalizing factor. -/
theorem norm_at (n : Fin 8448) (k : Fin 4096) : val_main_v8 (F := Ideal) X (ix2 n k) = scaleOf fun d => X (ix2 n d) := by
  rw [val_main_v8_apply, val_main_v7_apply, val_main_v6_apply, val_main_v4_apply, val_main_v2_apply, val_main_v1_apply, val_main_v3_apply, val_main_v5_apply,
    val_main_cst_apply, val_main_cst_0_apply, val_main_cst_1_apply]
  simp only [val_main_v0_apply]
  have hi : ∀ d : Fin 4096, idx_main_v1 (idx_main_v2 (idx_main_v8 (ix2 n k))) d = ix2 n d := fun d => funext fun a => by
    match a with
    | ⟨0, _⟩ => rfl
    | ⟨1, _⟩ => rfl
  simp only [hi]
  unfold scaleOf
  show Ideal.rsqrt (Ideal.div (Ideal.ofBits .f32 0x00000000#32 + ∑ d : Fin 4096, X (ix2 n d) * X (ix2 n d)) (Ideal.ofBits .f32 0x45800000#32) + Ideal.ofBits .f32 0x358637BD#32) = _
  rw [Ideal.ofBits_zero_f32, zero_add]

/-- The gain is the first layer's. -/
theorem gain_at (n : Fin 8448) (k : Fin 4096) : val_main_v13 (F := Ideal) G (ix2 n k) = G (ix2 (0 : Fin 2) k) := by
  have hk := k.isLt
  rw [val_main_v13_apply, val_main_v12_apply, val_main_v11_apply, val_main_v10_apply]
  refine congrArg G (funext fun a => Fin.ext ?_)
  match a with
  | ⟨0, _⟩ => rfl
  | ⟨1, _⟩ => show k.val % 4096 = k.val; omega

/-- The mask is true on the rows below 256. -/
theorem mask_at (n : Fin 8448) (k : Fin 4096) :
    val_main_call0_v0 (F := Ideal) (ix2 n k) = 1#1 ↔ n.val < 256 := by
  have hn := n.isLt
  rw [val_main_call0_v0_apply, val_main_v18_apply, val_main_v17_apply, val_main_v16_apply, val_main_c_apply, val_main_v15_apply]
  show IntOp.cmpi .slt (BitVec.ofNat 32 n.val) (BitVec.ofNat 32 256) = 1#1 ↔ _
  rw [WordCmp.cmpi_slt_ofNat_eq_one_iff (by norm_num; omega) (by norm_num)]

/-- The shift. -/
theorem shift_at (n : Fin 8448) (k : Fin 4096) :
    val_main_v23 (F := Ideal) M (ix2 n k)
      = if n.val < 256 then M (ix2 (1 : Fin 2) (Fin.ofNat 24576 k.val)) else M (ix2 (0 : Fin 2) (Fin.ofNat 24576 k.val)) := by
  have hk := k.isLt
  rw [val_main_v23_apply]
  have e1 : val_main_call0_v1 (F := Ideal) M (ix2 n k) = M (ix2 (1 : Fin 2) (Fin.ofNat 24576 (k.val))) := by
    rw [val_main_call0_v1_apply, val_main_v20_apply, val_main_v19_apply]
    refine congrArg M (funext fun a => Fin.ext ?_)
    match a with
    | ⟨0, _⟩ => rfl
    | ⟨1, _⟩ => show k.val % 4096 = (k.val) % 24576; omega
  have e0 : val_main_call0_v2 (F := Ideal) M (ix2 n k) = M (ix2 (0 : Fin 2) (Fin.ofNat 24576 (k.val))) := by
    rw [val_main_call0_v2_apply, val_main_v22_apply, val_main_v21_apply]
    refine congrArg M (funext fun a => Fin.ext ?_)
    match a with
    | ⟨0, _⟩ => rfl
    | ⟨1, _⟩ => show k.val % 4096 = (k.val) % 24576; omega
  rw [e1, e0]
  unfold Scalar.select
  exact if_congr (mask_at n k) rfl rfl

/-- The scale. -/
theorem scale_at (n : Fin 8448) (k : Fin 4096) :
    val_main_v28 (F := Ideal) M (ix2 n k)
      = if n.val < 256 then M (ix2 (1 : Fin 2) (Fin.ofNat 24576 (4096 + k.val))) else M (ix2 (0 : Fin 2) (Fin.ofNat 24576 (4096 + k.val))) := by
  have hk := k.isLt
  rw [val_main_v28_apply]
  have e1 : val_main_call1_v1 (F := Ideal) M (ix2 n k) = M (ix2 (1 : Fin 2) (Fin.ofNat 24576 (4096 + k.val))) := by
    rw [val_main_call1_v1_apply, val_main_v25_apply, val_main_v24_apply]
    refine congrArg M (funext fun a => Fin.ext ?_)
    match a with
    | ⟨0, _⟩ => rfl
    | ⟨1, _⟩ => show 4096 + k.val % 4096 = (4096 + k.val) % 24576; omega
  have e0 : val_main_call1_v2 (F := Ideal) M (ix2 n k) = M (ix2 (0 : Fin 2) (Fin.ofNat 24576 (4096 + k.val))) := by
    rw [val_main_call1_v2_apply, val_main_v27_apply, val_main_v26_apply]
    refine congrArg M (funext fun a => Fin.ext ?_)
    match a with
    | ⟨0, _⟩ => rfl
    | ⟨1, _⟩ => show 4096 + k.val % 4096 = (4096 + k.val) % 24576; omega
  rw [e1, e0]
  unfold Scalar.select
  exact if_congr (mask_at n k) rfl rfl

/-- The modulated, normalized rows. -/
theorem h_at (n : Fin 8448) (k : Fin 4096) : val_main_v32 (F := Ideal) X G M (ix2 n k) = hval X G M n k := by
  rw [val_main_v32_apply, val_main_v31_apply, val_main_v30_apply, val_main_v29_apply, val_main_v14_apply, val_main_v9_apply, norm_at, gain_at, shift_at, scale_at,
    val_main_cst_2_apply]
  unfold hval modulated
  have h1 : (FloatOps.ofBits .f32 0x3F800000#32 : Ideal .f32) = (1 : EReal) := Ideal.ofBits_one_f32
  rw [h1]
  rfl

/-- The weights are the first layer's. -/
theorem weight_at (k : Fin 4096) (e : Fin 6720) : val_main_v34 (F := Ideal) W (ix2 k e) = W (ix3 (0 : Fin 2) k e) := by
  have hk := k.isLt
  have he := e.isLt
  rw [val_main_v34_apply, val_main_v33_apply]
  refine congrArg W (funext fun a => Fin.ext ?_)
  match a with
  | ⟨0, _⟩ => rfl
  | ⟨1, _⟩ => show (k.val * 6720 + e.val) / 6720 % 4096 = k.val; omega
  | ⟨2, _⟩ => show (k.val * 6720 + e.val) % 6720 = e.val; omega

/-- The product. -/
theorem prod_at (n : Fin 8448) (e : Fin 6720) :
    val_main_v35 (F := Ideal) X G M W (ix2 n e) = ∑ k : Fin 4096, hval X G M n k * W (ix3 (0 : Fin 2) k e) := by
  rw [val_main_v35_apply]
  have hl : ∀ k : Fin 4096, lidx_main_v35 (ix2 n e) k = ix2 n k := fun k => funext fun a => by
    match a with
    | ⟨0, _⟩ => rfl
    | ⟨1, _⟩ => rfl
  have hr : ∀ k : Fin 4096, ridx_main_v35 (ix2 n e) k = ix2 k e := fun k => funext fun a => by
    match a with
    | ⟨0, _⟩ => rfl
    | ⟨1, _⟩ => rfl
  simp only [hl, hr, weight_at, h_at]

/-- THE REFERENCE'S RESULT is the array the kernel leaves. -/
theorem ref_eq : val_main_v41 (F := Ideal) X G M W = R X G M W := by
  suffices h : ∀ (n : Fin 8448) (e : Fin 7168), val_main_v40 (F := Ideal) X G M W (ix2 n e) = proj X G M W n e by
    funext j
    have hj : j = ix2 (j 0) (j 1) := funext fun a => by
      match a with
      | ⟨0, _⟩ => rfl
      | ⟨1, _⟩ => rfl
    rw [val_main_v41_apply]
    exact (congrArg _ hj).trans (h (j 0) (j 1))
  intro n e
  have he := e.isLt
  unfold val_main_v40 proj
  by_cases h1 : e.val < 5120
  · have hw : ∀ k, wcol W k e = W (ix3 (0 : Fin 2) k (Fin.ofNat 6720 (1600 + e.val))) := fun k => by rw [wcol, if_pos h1]
    simp only [hw]
    obtain ⟨d, hd⟩ : ∃ d : Fin 5120, 0 + d.val = e.val := ⟨⟨e.val - 0, by omega⟩, by show 0 + (e.val - 0) = e.val; omega⟩
    refine (concatenate_apply_piece (t := Cert.InprojRefIdeal.S8448x7168) 1 _ _ (ix2 n e) 0 (by show 0 < 4; decide) Cert.InprojRefIdeal.S8448x5120 (val_main_v38 (F := Ideal) X G M W) rfl rfl 0 rfl (ix2 n d)
      (fun b hb => by match b with
        | ⟨0, _⟩ => rfl
        | ⟨1, _⟩ => exact absurd rfl hb) (by exact hd)).trans ?_
    rw [val_main_v38_apply]
    have hi : idx_main_v38 (ix2 n d) = ix2 n (Fin.ofNat 6720 (1600 + e.val)) := funext fun a => by
      match a with
      | ⟨0, _⟩ => rfl
      | ⟨1, _⟩ => exact Fin.ext (by show 1600 + d.val = (1600 + e.val) % 6720; omega)
    rw [hi, prod_at]
  by_cases h2 : e.val < 6144
  · have hw : ∀ k, wcol W k e = W (ix3 (0 : Fin 2) k (Fin.ofNat 6720 (e.val - 4544))) := fun k => by rw [wcol, if_neg h1, if_pos h2]
    simp only [hw]
    obtain ⟨d, hd⟩ : ∃ d : Fin 1024, 5120 + d.val = e.val := ⟨⟨e.val - 5120, by omega⟩, by show 5120 + (e.val - 5120) = e.val; omega⟩
    refine (concatenate_apply_piece (t := Cert.InprojRefIdeal.S8448x7168) 1 _ _ (ix2 n e) 1 (by show 1 < 4; decide) Cert.InprojRefIdeal.S8448x1024 (val_main_v37 (F := Ideal) X G M W) rfl rfl 5120 rfl (ix2 n d)
      (fun b hb => by match b with
        | ⟨0, _⟩ => rfl
        | ⟨1, _⟩ => exact absurd rfl hb) (by exact hd)).trans ?_
    rw [val_main_v37_apply]
    have hi : idx_main_v37 (ix2 n d) = ix2 n (Fin.ofNat 6720 (e.val - 4544)) := funext fun a => by
      match a with
      | ⟨0, _⟩ => rfl
      | ⟨1, _⟩ => exact Fin.ext (by show 576 + d.val = (e.val - 4544) % 6720; omega)
    rw [hi, prod_at]
  by_cases h3 : e.val < 6720
  · have hw : ∀ k, wcol W k e = W (ix3 (0 : Fin 2) k (Fin.ofNat 6720 (e.val - 6144))) := fun k => by rw [wcol, if_neg h1, if_neg h2, if_pos h3]
    simp only [hw]
    obtain ⟨d, hd⟩ : ∃ d : Fin 576, 6144 + d.val = e.val := ⟨⟨e.val - 6144, by omega⟩, by show 6144 + (e.val - 6144) = e.val; omega⟩
    refine (concatenate_apply_piece (t := Cert.InprojRefIdeal.S8448x7168) 1 _ _ (ix2 n e) 2 (by show 2 < 4; decide) Cert.InprojRefIdeal.S8448x576 (val_main_v36 (F := Ideal) X G M W) rfl rfl 6144 rfl (ix2 n d)
      (fun b hb => by match b with
        | ⟨0, _⟩ => rfl
        | ⟨1, _⟩ => exact absurd rfl hb) (by exact hd)).trans ?_
    rw [val_main_v36_apply]
    have hi : idx_main_v36 (ix2 n d) = ix2 n (Fin.ofNat 6720 (e.val - 6144)) := funext fun a => by
      match a with
      | ⟨0, _⟩ => rfl
      | ⟨1, _⟩ => exact Fin.ext (by show d.val = (e.val - 6144) % 6720; omega)
    rw [hi, prod_at]
  · have hw : ∀ k, wcol W k e = 0 := fun k => by rw [wcol, if_neg h1, if_neg h2, if_neg h3]
    simp only [hw, mul_zero, Finset.sum_const_zero]
    obtain ⟨d, hd⟩ : ∃ d : Fin 448, 6720 + d.val = e.val := ⟨⟨e.val - 6720, by omega⟩, by show 6720 + (e.val - 6720) = e.val; omega⟩
    refine (concatenate_apply_piece (t := Cert.InprojRefIdeal.S8448x7168) 1 _ _ (ix2 n e) 3 (by show 3 < 4; decide) Cert.InprojRefIdeal.S8448x448 (val_main_v39 (F := Ideal)) rfl rfl 6720 rfl (ix2 n d)
      (fun b hb => by match b with
        | ⟨0, _⟩ => rfl
        | ⟨1, _⟩ => exact absurd rfl hb) (by exact hd)).trans ?_
    rw [val_main_v39_apply, val_main_cst_3_apply]
    pointwise

end Cert.In

end
-- ==== Proof.GmBlock.lean ====
/- What the gated MLP's kernel leaves in its result array. -/
module

public import proofs.«01_k».proof.Proof.Gen.GmlpIdeal.Value
public import Idealize.ShloMosaic.Lib.Pipeline.ValueKit
public import Idealize.ShloMosaic.Lib.Pipeline.ReadBack

@[expose] public section

set_option maxRecDepth 16384

noncomputable section

namespace Cert.Gm

open Cert.GmlpIdeal Cert.GmlpIdeal.Gen Idealize.ShloMosaic Idealize.ShloMosaic.TcCoe Idealize.SL.Sem

/-- A lane of a head's row, normalized and scaled by its gain. -/
def normed (f : Fin 128 → EReal) (g : EReal) (d : Fin 128) : EReal :=
  f d * Ideal.rsqrt (Ideal.div (∑ e, f e * f e) (Ideal.ofBits .f32 0x43000000#32) + Ideal.ofBits .f32 0x358637BD#32) * g

/-- One element of the result, from its gate, the weights of its row, its chunk's rows, its gain and its bias. -/
def gated (u : EReal) (w : Fin 128 → EReal) (v : Fin 128 → Fin 128 → EReal) (g b : EReal) (d : Fin 128) : EReal :=
  u * ((∑ q, w q * normed (v q) g d) + b)

/-- What one head of one chunk stores at row `r`, lane `d`. -/
theorem pay_at (v : Vec Ideal S128x128 .bf16) (g : Vec Ideal S1x128 .f32) (w : Vec Ideal S1x128x128 .bf16) (b : Vec Ideal S1x128x128 .f32) (u : Vec Ideal S128x128 .bf16)
    (r d : Fin 128) :
    k0_pay2 v g w b u (ix2 r d)
      = gated (u (ix2 r d)) (fun q => w (ix3 0 r q)) (fun q e => v (ix2 q e)) (g (ix2 0 d)) (b (ix3 0 r d)) d := by
  unfold k0_pay2 gated normed
  pointwise

/-- The row of a block's chunk. -/
def crow (r : Fin 256) (q : Fin 128) : Fin 256 := ⟨128 * (r.val / 128) + q.val, by omega⟩

/-- The column of a head's lane. -/
def hcol (h : Fin 8) (d : Fin 128) : Fin 1024 := ⟨128 * h.val + d.val, by omega⟩

/-- The head of a column. -/
def hd (e : Fin 1024) : Fin 8 := ⟨e.val / 128, by omega⟩

/-- The lane of a column. -/
def ln (e : Fin 1024) : Fin 128 := ⟨e.val % 128, by omega⟩

/-- The row within its chunk. -/
def cr (r : Fin 256) : Fin 128 := ⟨r.val % 128, by omega⟩

/-- The block that a point writes, from the blocks that it reads. -/
def blockG (u v : Vec Ideal S256x1024 .bf16) (w : Vec Ideal S8x128x128 .bf16) (b : Vec Ideal S8x128x128 .f32) (g : Vec Ideal S8x128 .f32)
    (r : Fin 256) (e : Fin 1024) : EReal :=
  gated (u (ix2 r e)) (fun q => w (ix3 (hd e) (cr r) q)) (fun q d => v (ix2 (crow r q) (hcol (hd e) d))) (g (ix2 (hd e) (ln e))) (b (ix3 (hd e) (cr r) (ln e))) (ln e)

/-- One head of one chunk stores its part of the block. -/
theorem piece_at (x0 x1 : Vec Ideal S256x1024 .bf16) (x2 : Vec Ideal S8x128x128 .bf16) (x3 : Vec Ideal S8x128x128 .f32) (x4 : Vec Ideal S8x128 .f32)
    (o : Fin 2) (h : Fin 8)
    (i1 : ∀ a, (![128 * o.val, 128 * h.val] : Fin 2 → ℕ) a + S128x128.size a ≤ S256x1024.size a)
    (i2 : ∀ a, (![h.val, 0] : Fin 2 → ℕ) a + S1x128.size a ≤ S8x128.size a)
    (i3 : ∀ a, (![h.val, 0, 0] : Fin 3 → ℕ) a + S1x128x128.size a ≤ S8x128x128.size a) (y : S128x128.Idx) :
    k0_pay2 (View.ld x1 (Rect.unit (s := S256x1024) ![128 * o.val, 128 * h.val] S128x128.size i1))
      (View.ld x4 (Rect.unit (s := S8x128) ![h.val, 0] S1x128.size i2))
      (View.ld x2 (Rect.unit (s := S8x128x128) ![h.val, 0, 0] S1x128x128.size i3))
      (View.ld x3 (Rect.unit (s := S8x128x128) ![h.val, 0, 0] S1x128x128.size i3))
      (View.ld x0 (Rect.unit (s := S256x1024) ![128 * o.val, 128 * h.val] S128x128.size i1)) y
      = (fun j : S256x1024.Idx => blockG x0 x1 x2 x3 x4 (j 0) (j 1)) ((Rect.unit (s := S256x1024) ![128 * o.val, 128 * h.val] S128x128.size i1).emb y) := by
  have hy : y = ix2 (y 0) (y 1) := funext fun a => by
    match a with
    | ⟨0, _⟩ => rfl
    | ⟨1, _⟩ => rfl
  have h0 : (y 0).val < 128 := (y 0).isLt
  have h1 : (y 1).val < 128 := (y 1).isLt
  have ho := o.isLt
  have hh := h.isLt
  have he : (Rect.unit (s := S256x1024) ![128 * o.val, 128 * h.val] S128x128.size i1).emb y
      = ix2 (⟨128 * o.val + (y 0).val, by omega⟩ : Fin 256) (⟨128 * h.val + (y 1).val, by omega⟩ : Fin 1024) := funext fun a => Fin.ext (by
    rw [ValueKit.rect_emb_unit_val]
    match a with
    | ⟨0, _⟩ => rfl
    | ⟨1, _⟩ => rfl)
  rw [he]
  refine (congrArg _ hy).trans ((pay_at _ _ _ _ _ (y 0) (y 1)).trans ?_)
  show _ = blockG x0 x1 x2 x3 x4 (⟨128 * o.val + (y 0).val, by omega⟩ : Fin 256) (⟨128 * h.val + (y 1).val, by omega⟩ : Fin 1024)
  have a1 : hd ⟨128 * h.val + (y 1).val, by omega⟩ = h := Fin.ext (by show (128 * h.val + (y 1).val) / 128 = h.val; omega)
  have a2 : ln ⟨128 * h.val + (y 1).val, by omega⟩ = y 1 := Fin.ext (by show (128 * h.val + (y 1).val) % 128 = (y 1).val; omega)
  have a3 : cr ⟨128 * o.val + (y 0).val, by omega⟩ = y 0 := Fin.ext (by show (128 * o.val + (y 0).val) % 128 = (y 0).val; omega)
  unfold blockG
  rw [a1, a2, a3]
  congr 1
  · exact View.ld_unit_apply_of _ _ _ _ _ _ fun a => by
      match a with
      | ⟨0, _⟩ => rfl
      | ⟨1, _⟩ => rfl
  · funext q
    exact View.ld_unit_apply_of _ _ _ _ _ _ fun a => by
      match a with
      | ⟨0, _⟩ => rfl
      | ⟨1, _⟩ => exact (Nat.zero_add _).symm
      | ⟨2, _⟩ => exact (Nat.zero_add _).symm
  · funext q e
    exact View.ld_unit_apply_of _ _ _ _ _ _ fun a => by
      match a with
      | ⟨0, _⟩ => show 128 * ((128 * o.val + (y 0).val) / 128) + q.val = 128 * o.val + q.val; omega
      | ⟨1, _⟩ => rfl
  · exact View.ld_unit_apply_of _ _ _ _ _ _ fun a => by
      match a with
      | ⟨0, _⟩ => rfl
      | ⟨1, _⟩ => exact (Nat.zero_add _).symm
  · exact View.ld_unit_apply_of _ _ _ _ _ _ fun a => by
      match a with
      | ⟨0, _⟩ => rfl
      | ⟨1, _⟩ => exact (Nat.zero_add _).symm
      | ⟨2, _⟩ => exact (Nat.zero_add _).symm

/-- A point leaves `blockG` of the blocks that it reads: its sixteen stores are the two chunks' eight heads. -/
theorem out_at (x0 x1 : Vec Ideal S256x1024 .bf16) (x2 : Vec Ideal S8x128x128 .bf16) (x3 : Vec Ideal S8x128x128 .f32) (x4 : Vec Ideal S8x128 .f32) (j : S256x1024.Idx) :
    out0_5 x0 x1 x2 x3 x4 j = blockG x0 x1 x2 x3 x4 (j 0) (j 1) := by
  unfold out0_5
  refine View.canon_eq_of_allAt _ j _ (cover0_5 _ _ _ _ _ _ _ _ _ _ _ _ _ _ _ _ j) ?_
  refine View.allAt_cons _ _ _ (fun y hy => ?_) (View.allAt_cons _ _ _ (fun y hy => ?_) (View.allAt_cons _ _ _ (fun y hy => ?_) (View.allAt_cons _ _ _ (fun y hy => ?_) (View.allAt_cons _ _ _ (fun y hy => ?_) (View.allAt_cons _ _ _ (fun y hy => ?_) (View.allAt_cons _ _ _ (fun y hy => ?_) (View.allAt_cons _ _ _ (fun y hy => ?_) (View.allAt_cons _ _ _ (fun y hy => ?_) (View.allAt_cons _ _ _ (fun y hy => ?_) (View.allAt_cons _ _ _ (fun y hy => ?_) (View.allAt_cons _ _ _ (fun y hy => ?_) (View.allAt_cons _ _ _ (fun y hy => ?_) (View.allAt_cons _ _ _ (fun y hy => ?_) (View.allAt_cons _ _ _ (fun y hy => ?_) (View.allAt_cons _ _ _ (fun y hy => ?_) (View.allAt_nil _ _)))))))))))))))) <;> subst hy
  · exact piece_at x0 x1 x2 x3 x4 1 7 inb_S256x1024_S128x128_128_896 inb_S8x128_S1x128_7_0 inb_S8x128x128_S1x128x128_7_0_0 y
  · exact piece_at x0 x1 x2 x3 x4 1 6 inb_S256x1024_S128x128_128_768 inb_S8x128_S1x128_6_0 inb_S8x128x128_S1x128x128_6_0_0 y
  · exact piece_at x0 x1 x2 x3 x4 1 5 inb_S256x1024_S128x128_128_640 inb_S8x128_S1x128_5_0 inb_S8x128x128_S1x128x128_5_0_0 y
  · exact piece_at x0 x1 x2 x3 x4 1 4 inb_S256x1024_S128x128_128_512 inb_S8x128_S1x128_4_0 inb_S8x128x128_S1x128x128_4_0_0 y
  · exact piece_at x0 x1 x2 x3 x4 1 3 inb_S256x1024_S128x128_128_384 inb_S8x128_S1x128_3_0 inb_S8x128x128_S1x128x128_3_0_0 y
  · exact piece_at x0 x1 x2 x3 x4 1 2 inb_S256x1024_S128x128_128_256 inb_S8x128_S1x128_2_0 inb_S8x128x128_S1x128x128_2_0_0 y
  · exact piece_at x0 x1 x2 x3 x4 1 1 inb_S256x1024_S128x128_128_128 inb_S8x128_S1x128_1_0 inb_S8x128x128_S1x128x128_1_0_0 y
  · exact piece_at x0 x1 x2 x3 x4 1 0 inb_S256x1024_S128x128_128_0 inb_S8x128_S1x128_0_0 inb_S8x128x128_S1x128x128_0_0_0 y
  · exact piece_at x0 x1 x2 x3 x4 0 7 inb_S256x1024_S128x128_0_896 inb_S8x128_S1x128_7_0 inb_S8x128x128_S1x128x128_7_0_0 y
  · exact piece_at x0 x1 x2 x3 x4 0 6 inb_S256x1024_S128x128_0_768 inb_S8x128_S1x128_6_0 inb_S8x128x128_S1x128x128_6_0_0 y
  · exact piece_at x0 x1 x2 x3 x4 0 5 inb_S256x1024_S128x128_0_640 inb_S8x128_S1x128_5_0 inb_S8x128x128_S1x128x128_5_0_0 y
  · exact piece_at x0 x1 x2 x3 x4 0 4 inb_S256x1024_S128x128_0_512 inb_S8x128_S1x128_4_0 inb_S8x128x128_S1x128x128_4_0_0 y
  · exact piece_at x0 x1 x2 x3 x4 0 3 inb_S256x1024_S128x128_0_384 inb_S8x128_S1x128_3_0 inb_S8x128x128_S1x128x128_3_0_0 y
  · exact piece_at x0 x1 x2 x3 x4 0 2 inb_S256x1024_S128x128_0_256 inb_S8x128_S1x128_2_0 inb_S8x128x128_S1x128x128_2_0_0 y
  · exact piece_at x0 x1 x2 x3 x4 0 1 inb_S256x1024_S128x128_0_128 inb_S8x128_S1x128_1_0 inb_S8x128x128_S1x128x128_1_0_0 y
  · exact piece_at x0 x1 x2 x3 x4 0 0 inb_S256x1024_S128x128_0_0 inb_S8x128_S1x128_0_0 inb_S8x128x128_S1x128x128_0_0_0 y

variable (m : (ℓ : Loc nD τ sig) → Buf (Elt Ideal) ℓ)

/-- Where the blocks of point `t` lie. -/
theorem idx : ∀ t : Fin cfg0.N, win0_0.index t = ![t.val, 2] ∧ win0_1.index t = ![t.val, 3] ∧ win0_2.index t = ![0, 0, 0]
    ∧ win0_3.index t = ![0, 0, 0] ∧ win0_4.index t = ![0, 0] ∧ win0_5.index t = ![t.val, 0] ∧ t.val < 33 :=
  (by decide +kernel : ∀ t : Fin grid0.N, _)

/-- The row of a row's chunk. -/
def nrow (n : Fin 8448) (q : Fin 128) : Fin 8448 := ⟨128 * (n.val / 128) + q.val, by omega⟩

/-- The result at row `n`, column `e`. -/
def gate (P : FVec Ideal S8448x7168 .bf16) (G : FVec Ideal S2x8x128 .f32) (W : FVec Ideal S2x8x128x128 .f32) (B : FVec Ideal S2x8x128 .f32)
    (n : Fin 8448) (e : Fin 1024) : EReal :=
  gated (P (ix2 n (Fin.ofNat 7168 (2048 + e.val)))) (fun q => W (ix4 (0 : Fin 2) (hd e) (Fin.ofNat 128 n.val) q))
    (fun q d => P (ix2 (nrow n q) (Fin.ofNat 7168 (3072 + (hcol (hd e) d).val)))) (G (ix3 (0 : Fin 2) (hd e) (ln e)))
    (B (ix3 (0 : Fin 2) (hd e) (Fin.ofNat 128 n.val))) (ln e)

/-- The whole result array. -/
def R (P : FVec Ideal S8448x7168 .bf16) (G : FVec Ideal S2x8x128 .f32) (W : FVec Ideal S2x8x128x128 .f32) (B : FVec Ideal S2x8x128 .f32) :
    FVec Ideal S8448x1024 .bf16 :=
  fun j => gate P G W B (j 0) (j 1)

/-- Row `r` of point `t`'s block. -/
def pn (t : Fin cfg0.N) (r : Fin 256) : Fin 8448 := ⟨256 * t.val + r.val, by have := (idx t).2.2.2.2.2.2; omega⟩

/-- Where point `t` reads its gates, … -/
theorem u_at (c : Dev nD) (t : Fin cfg0.N) (r : Fin 256) (e : Fin 1024) :
    (show FVec Ideal S256x1024 .bf16 from iblk m c 0 t) (ix2 r e) = (m ((c : Thread nD τ).loc main_arg0)) (ix2 (pn t r) (Fin.ofNat 7168 (2048 + e.val))) := by
  show iblk m c 0 t _ = _
  blk_ext [iblk, V, idx t, pn, Fin.val_ofNat]

/-- … and its values. -/
theorem v_at (c : Dev nD) (t : Fin cfg0.N) (r : Fin 256) (e : Fin 1024) :
    (show FVec Ideal S256x1024 .bf16 from iblk m c 1 t) (ix2 r e) = (m ((c : Thread nD τ).loc main_arg0)) (ix2 (pn t r) (Fin.ofNat 7168 (3072 + e.val))) := by
  show iblk m c 1 t _ = _
  blk_ext [iblk, V, idx t, pn, Fin.val_ofNat]

/-- The weights, the biases and the gains that the region finds are the first layer's. -/
theorem w_host (c : Dev nD) (h : Fin 8) (p q : Fin 128) :
    (show FVec Ideal S8x128x128 .bf16 from V m c main_v6) (ix3 h p q) = (m ((c : Thread nD τ).loc main_arg2)) (ix4 (0 : Fin 2) h p q) := by
  show V m c main_v6 _ = _
  entry_read
  pointwise

theorem b_host (c : Dev nD) (h : Fin 8) (p d : Fin 128) :
    (show FVec Ideal S8x128x128 .f32 from V m c main_v3) (ix3 h p d) = (m ((c : Thread nD τ).loc main_arg3)) (ix3 (0 : Fin 2) h p) := by
  show V m c main_v3 _ = _
  entry_read
  pointwise

theorem g_host (c : Dev nD) (h : Fin 8) (d : Fin 128) :
    (show FVec Ideal S8x128 .f32 from V m c main_v8) (ix2 h d) = (m ((c : Thread nD τ).loc main_arg1)) (ix3 (0 : Fin 2) h d) := by
  show V m c main_v8 _ = _
  entry_read
  pointwise

/-- Every point reads all the weights, the biases and the gains. -/
theorem w_at (c : Dev nD) (t : Fin cfg0.N) (h : Fin 8) (p q : Fin 128) :
    (show FVec Ideal S8x128x128 .bf16 from iblk m c 2 t) (ix3 h p q) = (m ((c : Thread nD τ).loc main_arg2)) (ix4 (0 : Fin 2) h p q) := by
  rw [← w_host m c]
  show iblk m c 2 t _ = V m c main_v6 _
  blk_ext [iblk, idx t]

theorem b_at (c : Dev nD) (t : Fin cfg0.N) (h : Fin 8) (p d : Fin 128) :
    (show FVec Ideal S8x128x128 .f32 from iblk m c 3 t) (ix3 h p d) = (m ((c : Thread nD τ).loc main_arg3)) (ix3 (0 : Fin 2) h p) := by
  rw [← b_host m c h p d]
  show iblk m c 3 t _ = V m c main_v3 _
  blk_ext [iblk, idx t]

theorem g_at (c : Dev nD) (t : Fin cfg0.N) (h : Fin 8) (d : Fin 128) :
    (show FVec Ideal S8x128 .f32 from iblk m c 4 t) (ix2 h d) = (m ((c : Thread nD τ).loc main_arg1)) (ix3 (0 : Fin 2) h d) := by
  rw [← g_host m c]
  show iblk m c 4 t _ = V m c main_v8 _
  blk_ext [iblk, idx t]

/-- What point `t` leaves at row `r`, column `e` of its block. -/
theorem point (c : Dev nD) (t : Fin cfg0.N) (r : Fin 256) (e : Fin 1024) :
    out0_5 (iblk m c 0 t) (iblk m c 1 t) (iblk m c 2 t) (iblk m c 3 t) (iblk m c 4 t) (ix2 r e)
      = gate (m ((c : Thread nD τ).loc main_arg0)) (m ((c : Thread nD τ).loc main_arg1)) (m ((c : Thread nD τ).loc main_arg2)) (m ((c : Thread nD τ).loc main_arg3))
          (pn t r) e := by
  refine (out_at _ _ _ _ _ (ix2 r e)).trans ?_
  show blockG _ _ _ _ _ r e = _
  have e1 : Fin.ofNat 128 (pn t r).val = cr r := Fin.ext (by show (256 * t.val + r.val) % 128 = r.val % 128; omega)
  have e2 : ∀ q, nrow (pn t r) q = pn t (crow r q) := fun q => Fin.ext (by
    show 128 * ((256 * t.val + r.val) / 128) + q.val = 256 * t.val + (128 * (r.val / 128) + q.val); omega)
  unfold blockG gate
  simp only [e1, e2]
  congr 1
  · exact u_at m c t r e
  · exact funext fun q => w_at m c t _ _ q
  · exact funext fun q => funext fun d => v_at m c t _ _
  · exact g_at m c t _ _
  · exact b_at m c t _ _ _

/-- THE RESULT ARRAY after the run. -/
theorem final (c : Dev nD) :
    (dats m 0 c).arrAt 5 cfg0.N
      = R (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  have hy : y = ix2 (y 0) (y 1) := by funext a; fin_cases a <;> rfl
  refine (congrArg _ hy).trans ((point m c t (y 0) (y 1)).trans ?_)
  show gate _ _ _ _ _ _ = gate _ _ _ _ _ _
  congr 1
  · apply Fin.ext
    show 256 * t.val + (y 0).val = _
    blk_simp [idx t]
    omega
  · apply Fin.ext
    show (y 1).val = _
    blk_simp [idx t]

end Cert.Gm

end
-- ==== Proof.GmRef.lean ====
/- The gated MLP's reference, read at an index: the array the kernel leaves. -/
module

public import proofs.«01_k».proof.Proof.GmBlock
public import proofs.«01_k».proof.Proof.Gen.GmlpRefIdeal.Read

@[expose] public section

set_option maxRecDepth 16384

noncomputable section

namespace Cert.Gm

open Idealize.ShloMosaic Idealize.ShloMosaic.TcCoe Idealize.SL.Sem Cert.GmlpRefIdeal.Read

variable (P : FVec Ideal Cert.GmlpRefIdeal.S8448x7168 .bf16) (G : FVec Ideal Cert.GmlpRefIdeal.S2x8x128 .f32)
  (W : FVec Ideal Cert.GmlpRefIdeal.S2x8x128x128 .f32) (B : FVec Ideal Cert.GmlpRefIdeal.S2x8x128 .f32)

/-- The values, by head. -/
theorem val_at (n : Fin 8448) (h : Fin 8) (d : Fin 128) :
    val_main_v4 (F := Ideal) P (ix3 n h d) = P (ix2 n (Fin.ofNat 7168 (3072 + (hcol h d).val))) := by
  have hn := n.isLt
  have hh := h.isLt
  have hd := d.isLt
  rw [val_main_v4_apply, val_main_v3_apply, val_main_v2_apply]
  refine congrArg P (funext fun a => Fin.ext ?_)
  match a with
  | ⟨0, _⟩ => show ((n.val * 8 + h.val) * 128 + d.val) / 1024 = n.val; omega
  | ⟨1, _⟩ => show 3072 + ((n.val * 8 + h.val) * 128 + d.val) % 1024 = (3072 + (128 * h.val + d.val)) % 7168; omega

/-- The gain is the first layer's. -/
theorem gain_at (n : Fin 8448) (h : Fin 8) (d : Fin 128) : val_main_v18 (F := Ideal) G (ix3 n h d) = G (ix3 (0 : Fin 2) h d) := by
  have hh := h.isLt
  have hd := d.isLt
  rw [val_main_v18_apply, val_main_v17_apply, val_main_v16_apply, val_main_v15_apply]
  refine congrArg G (funext fun a => Fin.ext ?_)
  match a with
  | ⟨0, _⟩ => rfl
  | ⟨1, _⟩ => show (h.val * 128 + d.val) / 128 % 8 = h.val; omega
  | ⟨2, _⟩ => show (h.val * 128 + d.val) % 128 = d.val; omega

/-- The normalized values. -/
theorem normed_at (n : Fin 8448) (h : Fin 8) (d : Fin 128) :
    val_main_v19 (F := Ideal) P G (ix3 n h d)
      = normed (fun e => P (ix2 n (Fin.ofNat 7168 (3072 + (hcol h e).val)))) (G (ix3 (0 : Fin 2) h d)) d := by
  rw [val_main_v19_apply, val_main_v14_apply, gain_at, val_main_v13_apply, val_main_v12_apply, val_main_v11_apply, val_main_v9_apply, val_main_v7_apply,
    val_main_v6_apply, val_main_v8_apply, val_main_v10_apply, val_main_cst_apply, val_main_cst_0_apply, val_main_cst_1_apply]
  simp only [val_main_v5_apply]
  have hi : ∀ e : Fin 128, idx_main_v6 (idx_main_v7 (idx_main_v13 (ix3 n h d))) e = ix3 n h e := fun e => funext fun a => by
    match a with
    | ⟨0, _⟩ => rfl
    | ⟨1, _⟩ => rfl
    | ⟨2, _⟩ => rfl
  simp only [hi, val_at]
  unfold normed
  show P _ * Ideal.rsqrt (Ideal.div (Ideal.ofBits .f32 0x00000000#32 + ∑ e : Fin 128, P (ix2 n (Fin.ofNat 7168 (3072 + (hcol h e).val))) * P (ix2 n (Fin.ofNat 7168 (3072 + (hcol h e).val))))
    (Ideal.ofBits .f32 0x43000000#32) + Ideal.ofBits .f32 0x358637BD#32) * _ = _
  rw [Ideal.ofBits_zero_f32, zero_add]

/-- The normalized values, by chunk. -/
theorem chunk_at (k : Fin 66) (q : Fin 128) (h : Fin 8) (d : Fin 128) (n : Fin 8448) (hn : n.val = 128 * k.val + q.val) :
    val_main_v20 (F := Ideal) P G (ix4 k q h d)
      = normed (fun e => P (ix2 n (Fin.ofNat 7168 (3072 + (hcol h e).val)))) (G (ix3 (0 : Fin 2) h d)) d := by
  have hk := k.isLt
  have hq := q.isLt
  have hh := h.isLt
  have hd := d.isLt
  rw [val_main_v20_apply, ← normed_at]
  refine congrArg _ (funext fun a => Fin.ext ?_)
  match a with
  | ⟨0, _⟩ => show (((k.val * 128 + q.val) * 8 + h.val) * 128 + d.val) / 1024 = n.val; omega
  | ⟨1, _⟩ => show (((k.val * 128 + q.val) * 8 + h.val) * 128 + d.val) / 128 % 8 = h.val; omega
  | ⟨2, _⟩ => show (((k.val * 128 + q.val) * 8 + h.val) * 128 + d.val) % 128 = d.val; omega

/-- The weights are the first layer's. -/
theorem weight_at (h : Fin 8) (p q : Fin 128) : val_main_v22 (F := Ideal) W (ix3 h p q) = W (ix4 (0 : Fin 2) h p q) := by
  have hh := h.isLt
  have hp := p.isLt
  have hq := q.isLt
  rw [val_main_v22_apply, val_main_v21_apply]
  refine congrArg W (funext fun a => Fin.ext ?_)
  match a with
  | ⟨0, _⟩ => rfl
  | ⟨1, _⟩ => show ((h.val * 128 + p.val) * 128 + q.val) / 16384 % 8 = h.val; omega
  | ⟨2, _⟩ => show ((h.val * 128 + p.val) * 128 + q.val) / 128 % 128 = p.val; omega
  | ⟨3, _⟩ => show ((h.val * 128 + p.val) * 128 + q.val) % 128 = q.val; omega

/-- The bias is the first layer's, one for each head and row of a chunk. -/
theorem bias_at (k : Fin 66) (p : Fin 128) (h : Fin 8) (d : Fin 128) : val_main_v30 (F := Ideal) B (ix4 k p h d) = B (ix3 (0 : Fin 2) h p) := by
  have hh := h.isLt
  have hp := p.isLt
  rw [val_main_v30_apply, val_main_v29_apply, val_main_v28_apply, val_main_v27_apply, val_main_v26_apply, val_main_v25_apply]
  refine congrArg B (funext fun a => Fin.ext ?_)
  match a with
  | ⟨0, _⟩ => rfl
  | ⟨1, _⟩ => show (h.val * 128 + p.val) / 128 % 8 = h.val; omega
  | ⟨2, _⟩ => show (h.val * 128 + p.val) % 128 = p.val; omega

/-- THE REFERENCE'S RESULT is the array the kernel leaves. -/
theorem ref_eq : val_main_v34 (F := Ideal) P G W B = R P G W B := by
  suffices hs : ∀ (n : Fin 8448) (e : Fin 1024), val_main_v33 (F := Ideal) P G W B (ix2 n e) = gate P G W B n e by
    funext j
    have hj : j = ix2 (j 0) (j 1) := funext fun a => by
      match a with
      | ⟨0, _⟩ => rfl
      | ⟨1, _⟩ => rfl
    rw [val_main_v34_apply]
    exact (congrArg _ hj).trans (hs (j 0) (j 1))
  intro n e
  have hn := n.isLt
  have he := e.isLt
  obtain ⟨k, hk⟩ : ∃ k : Fin 66, k.val = n.val / 128 := ⟨⟨n.val / 128, by omega⟩, rfl⟩
  have hi : idx_main_v32 (ix2 n e) = ix4 k (Fin.ofNat 128 n.val) (hd e) (ln e) := funext fun a => Fin.ext (by
    match a with
    | ⟨0, _⟩ => show (n.val * 1024 + e.val) / 131072 = k.val; omega
    | ⟨1, _⟩ => show (n.val * 1024 + e.val) / 1024 % 128 = n.val % 128; omega
    | ⟨2, _⟩ => show (n.val * 1024 + e.val) / 128 % 8 = e.val / 128; omega
    | ⟨3, _⟩ => show (n.val * 1024 + e.val) % 128 = e.val % 128; omega)
  have hu : idx_main_v0 (ix2 n e) = ix2 n (Fin.ofNat 7168 (2048 + e.val)) := funext fun a => Fin.ext (by
    match a with
    | ⟨0, _⟩ => rfl
    | ⟨1, _⟩ => show 2048 + e.val = (2048 + e.val) % 7168; omega)
  have hl : ∀ q : Fin 128, lidx_main_v23 (idx_main_v24 (ix4 k (Fin.ofNat 128 n.val) (hd e) (ln e))) q = ix4 k q (hd e) (ln e) := fun q => funext fun a => by
    match a with
    | ⟨0, _⟩ => rfl
    | ⟨1, _⟩ => rfl
    | ⟨2, _⟩ => rfl
    | ⟨3, _⟩ => rfl
  have hr : ∀ q : Fin 128, ridx_main_v23 (idx_main_v24 (ix4 k (Fin.ofNat 128 n.val) (hd e) (ln e))) q = ix3 (hd e) (Fin.ofNat 128 n.val) q := fun q => funext fun a => by
    match a with
    | ⟨0, _⟩ => rfl
    | ⟨1, _⟩ => rfl
    | ⟨2, _⟩ => rfl
  have hc : ∀ q : Fin 128, val_main_v20 (F := Ideal) P G (ix4 k q (hd e) (ln e))
      = normed (fun d => P (ix2 (nrow n q) (Fin.ofNat 7168 (3072 + (hcol (hd e) d).val)))) (G (ix3 (0 : Fin 2) (hd e) (ln e))) (ln e) := fun q =>
    chunk_at P G k q (hd e) (ln e) (nrow n q) (by show 128 * (n.val / 128) + q.val = _; rw [hk])
  rw [val_main_v33_apply, val_main_v1_apply, val_main_v0_apply, hu, val_main_v32_apply, hi, val_main_v31_apply, val_main_v24_apply, val_main_v23_apply, bias_at]
  simp only [hl, hr, hc, weight_at]
  unfold gate gated
  refine congrArg (fun z : EReal => P (ix2 n (Fin.ofNat 7168 (2048 + e.val))) * (z + B (ix3 (0 : Fin 2) (hd e) (Fin.ofNat 128 n.val)))) ?_
  exact Finset.sum_congr rfl fun q _ => mul_comm _ _

end Cert.Gm

end
-- ==== Proof.UpPlan.lean ====
/- The plan of the routed experts' steps: what the host computes from the number of rows each expert has, as natural
   numbers and as the words of the plan's tables. -/
module

public import Idealize.ShloMosaic.Lib.Routing.Words
public import Idealize.ShloMosaic.Lib.Routing.Ops
public import Idealize.ShloMosaic.Lib.PlanTiles.Rows
public import Idealize.ShloMosaic.Lib.SortFacts
public import Idealize.ShloMosaic.Lib.WordCmp
public import Idealize.ShloMosaic.Lib.Pipeline.ValueKit

@[expose] public section

set_option maxRecDepth 16384

noncomputable section

namespace Cert.Plan

open Idealize.ShloMosaic Idealize.ShloMosaic.Routing

/-! ## The plan in natural numbers -/

/-- The first row after expert `j`'s rows, when expert `i` has `f i` rows. -/
def ends (f : ℕ → ℕ) (j : ℕ) : ℕ := ((List.range (j + 1)).map f).sum

/-- The expert whose row `g` is: how many experts end at or before it, capped at the last expert. -/
def expert (f : ℕ → ℕ) (g : ℕ) : ℕ := min (Nat.count (fun j => ends f j ≤ g) 32) 31

/-- The break points before sorting: the ends of the 132 tiles, then the ends of the 32 experts. -/
def mark (f : ℕ → ℕ) (k : ℕ) : ℕ := if k < 132 then (1 + k) * 256 else ends f (k - 132)

/-- The first row of segment `s`, from the sorted break points `b`. -/
def lo (b : ℕ → ℕ) (s : ℕ) : ℕ := if s = 0 then 0 else b (s - 1)

/-- The tile of segment `s`. -/
def tile (b : ℕ → ℕ) (s : ℕ) : ℕ := min 131 (lo b s / 256)

/-- The expert of segment `s`. -/
def seg (f b : ℕ → ℕ) (s : ℕ) : ℕ := expert f (lo b s)

theorem tile_lt (b : ℕ → ℕ) (s : ℕ) : tile b s < 132 := by unfold tile; omega
theorem expert_lt (f : ℕ → ℕ) (g : ℕ) : expert f g < 32 := by unfold expert; omega

theorem ends_le (f : ℕ → ℕ) (h : ∀ i, f i ≤ 33792) (j : ℕ) (hj : j < 32) : ends f j ≤ 1081344 := by
  have h1 : ((List.range (j + 1)).map f).sum ≤ ((List.range (j + 1)).map f).length • 33792 :=
    List.sum_le_card_nsmul _ _ fun x hx => by
      obtain ⟨i, -, rfl⟩ := List.mem_map.1 hx
      exact h i
  unfold ends
  simp only [List.length_map, List.length_range, smul_eq_mul] at h1
  omega

theorem mark_le (f : ℕ → ℕ) (h : ∀ i, f i ≤ 33792) (k : ℕ) (hk : k < 164) : mark f k ≤ 1081344 := by
  unfold mark
  split
  · omega
  · exact ends_le f h _ (by omega)

/-- The sorted break points: in order, all of them the marks, and every mark among them. -/
structure Sorted (f b : ℕ → ℕ) : Prop where
  mono : ∀ i j, i ≤ j → j < 164 → b i ≤ b j
  all : ∀ k, k < 164 → ∃ i, i < 164 ∧ b i = mark f k
  le : ∀ i, i < 164 → b i ≤ 1081344

variable {f b : ℕ → ℕ}

theorem Sorted.lo_le (h : Sorted f b) (s : ℕ) (hs : s < 164) : lo b s ≤ 1081344 := by
  unfold lo
  split
  · omega
  · exact h.le _ (by omega)

theorem Sorted.lo_mono (h : Sorted f b) (s t : ℕ) (hst : s ≤ t) (ht : t < 164) : lo b s ≤ lo b t := by
  unfold lo
  split
  · exact Nat.zero_le _
  · rw [if_neg (by omega)]
    exact h.mono _ _ (by omega) (by omega)

theorem Sorted.tile_mono (h : Sorted f b) (s t : ℕ) (hst : s ≤ t) (ht : t < 164) : tile b s ≤ tile b t := by
  have := Nat.div_le_div_right (c := 256) (h.lo_mono s t hst ht)
  unfold tile
  omega

/-- A break point at or below row `g` is at or below the first row of the segment that holds `g`. -/
theorem Sorted.le_lo (h : Sorted f b) (u g k : ℕ) (hu : u < 164) (hg : g < b u) (hk : k < 164) (hm : mark f k ≤ g) :
    mark f k ≤ lo b u := by
  obtain ⟨i, hi, e⟩ := h.all k hk
  have hiu : i < u := by
    by_contra hc
    have := h.mono u i (by omega) hi
    omega
  unfold lo
  rw [if_neg (by omega), ← e]
  exact h.mono _ _ (by omega) (by omega)

/-- Every row lies in one segment, which is of the row's tile and expert. -/
theorem Sorted.owner (h : Sorted f b) (g : ℕ) (hg : g < 33792) :
    ∃ u, u < 164 ∧ lo b u ≤ g ∧ g < b u ∧ tile b u = g / 256 ∧ seg f b u = expert f g := by
  classical
  have hex : ∃ u, u < 164 ∧ g < b u := by
    obtain ⟨i, hi, e⟩ := h.all 131 (by omega)
    refine ⟨i, hi, ?_⟩
    rw [e, mark, if_pos (by omega)]
    omega
  have hu := Nat.find_spec hex
  have hmin := fun v => Nat.find_min hex (m := v)
  generalize Nat.find hex = u at hu hmin
  have hlo : lo b u ≤ g := by
    unfold lo
    split
    · omega
    · have := hmin (u - 1) (by omega)
      by_contra hc
      exact this ⟨by omega, by omega⟩
  refine ⟨u, hu.1, hlo, hu.2, ?_, ?_⟩
  · unfold tile
    have h1 : lo b u / 256 ≤ g / 256 := Nat.div_le_div_right hlo
    have h2 : g / 256 ≤ lo b u / 256 := by
      rcases Nat.eq_zero_or_pos (g / 256) with hz | hp
      · omega
      · have := h.le_lo u g (g / 256 - 1) hu.1 hu.2 (by omega) (by rw [mark, if_pos (by omega)]; omega)
        rw [mark, if_pos (by omega)] at this
        omega
    omega
  · unfold seg expert
    congr 1
    rw [Nat.count_eq_card_filter_range, Nat.count_eq_card_filter_range]
    congr 1
    refine Finset.filter_congr fun j hj => ⟨fun hh => hh.trans hlo, fun hh => ?_⟩
    have hj32 := Finset.mem_range.1 hj
    have := h.le_lo u g (132 + j) hu.1 hu.2 (by omega) (by rw [mark, if_neg (by omega), Nat.add_sub_cancel_left]; exact hh)
    rw [mark, if_neg (by omega), Nat.add_sub_cancel_left] at this
    exact this

/-- A later segment starts past the rows of an earlier one. -/
theorem Sorted.le_lo_of_lt (h : Sorted f b) (u v : ℕ) (huv : u < v) (hv : v < 164) : b u ≤ lo b v := by
  unfold lo
  rw [if_neg (by omega)]
  exact h.mono _ _ (by omega) (by omega)

/-! ## The plan's words -/

/-- The table that holds the numbers `g`. -/
def Holds {n : ℕ} (x : IVec (shape1 n) 32) (g : ℕ → ℕ) : Prop := ∀ i : Fin n, x (ValueIdx.ix1 i) = BitVec.ofNat 32 (g i.val)

/-- The numbers of the sorted table. -/
def pts (x : IVec (shape1 164) 32) (k : ℕ) : ℕ :=
  if h : k < 164 then (Host.sort (shape1 164) 0 (fun a b => IntOp.cmpi .slt a b) x (ValueIdx.ix1 ⟨k, h⟩)).toNat else 0

/-- The order in which the sorted table reads the table. -/
def perm (x : IVec (shape1 164) 32) : Fin 164 → Fin 164 :=
  sortedFrom (fun k k' => IntOp.cmpi .slt (x (ValueIdx.ix1 k)) (x (ValueIdx.ix1 k')) == 1#1)

theorem sort_at (x : IVec (shape1 164) 32) (hx : Holds x (mark f)) (k : Fin 164) :
    Host.sort (shape1 164) 0 (fun a b => IntOp.cmpi .slt a b) x (ValueIdx.ix1 k) = BitVec.ofNat 32 (mark f (perm x k).val) := by
  have e := Host.sort_rank1 (fun a b => IntOp.cmpi .slt a b) x (ValueIdx.ix1 k)
  simp only [ofFin_eq_ix1] at e
  exact e.trans (hx _)

theorem pts_holds (x : IVec (shape1 164) 32) : Holds (Host.sort (shape1 164) 0 (fun a b => IntOp.cmpi .slt a b) x) (pts x) := by
  intro i
  unfold pts
  rw [dif_pos i.isLt]
  apply BitVec.eq_of_toNat_eq
  rw [BitVec.toNat_ofNat, Nat.mod_eq_of_lt (BitVec.isLt _)]

theorem pts_val (x : IVec (shape1 164) 32) (hf : ∀ i, f i ≤ 33792) (hx : Holds x (mark f)) (k : Fin 164) :
    pts x k.val = mark f (perm x k).val := by
  have e := sort_at x hx k
  have hl := mark_le f hf _ (perm x k).isLt
  generalize perm x k = i at e hl
  unfold pts
  rw [dif_pos k.isLt]
  refine (congrArg BitVec.toNat e).trans ?_
  rw [BitVec.toNat_ofNat]
  exact Nat.mod_eq_of_lt (lt_of_le_of_lt hl (by norm_num))

/-- The sorted table's numbers are the sorted break points. -/
theorem pts_sorted (x : IVec (shape1 164) 32) (hf : ∀ i, f i ≤ 33792) (hx : Holds x (mark f)) : Sorted f (pts x) := by
  have hlt : ∀ a b : Fin 164, (IntOp.cmpi .slt (x (ValueIdx.ix1 a)) (x (ValueIdx.ix1 b)) == 1#1) = decide (mark f a.val < mark f b.val) := fun a b => by
    have ha := mark_le f hf _ a.isLt
    have hb := mark_le f hf _ b.isLt
    rw [hx, hx]
    have := WordCmp.cmpi_slt_ofNat_eq_one_iff (w := 32) (a := mark f a.val) (b := mark f b.val) (by norm_num; omega) (by norm_num; omega)
    rw [Bool.eq_iff_iff]
    simp only [beq_iff_eq, decide_eq_true_eq]
    exact this
  have hB : perm x = sortedFrom (fun k k' : Fin 164 => decide (mark f k.val < mark f k'.val)) :=
    congrArg sortedFrom (funext fun a => funext fun b => hlt a b)
  refine ⟨fun i j hij hj => ?_, fun k hk => ?_, fun i hi => ?_⟩
  · rcases Nat.eq_or_lt_of_le hij with rfl | hlt'
    · exact le_rfl
    · have e := sortedFrom_noInversion (n := 164) (fun k k' => decide (mark f k.val < mark f k'.val)) (fun k k' => decide (mark f k.val < mark f k'.val))
        (fun a b h => by simp only [decide_eq_true_eq, decide_eq_false_iff_not] at *; omega) (fun _ _ h => h)
        (fun a b c h1 h2 => by simp only [decide_eq_false_iff_not] at *; omega) ⟨i, by omega⟩ ⟨j, hj⟩ hlt'
      rw [← hB] at e
      have e1 := pts_val x hf hx ⟨i, by omega⟩
      have e2 := pts_val x hf hx ⟨j, hj⟩
      simp only [decide_eq_false_iff_not, not_lt] at e
      exact (e1.le.trans e).trans e2.ge
  · obtain ⟨i, hi⟩ := sortedFrom_surjective (fun k k' : Fin 164 => IntOp.cmpi .slt (x (ValueIdx.ix1 k)) (x (ValueIdx.ix1 k')) == 1#1) ⟨k, hk⟩
    exact ⟨i.val, i.isLt, (pts_val x hf hx i).trans (congrArg (fun z : Fin 164 => mark f z.val) hi)⟩
  · exact (pts_val x hf hx ⟨i, hi⟩).le.trans (mark_le f hf _ (Fin.isLt _))

end Cert.Plan

end
-- ==== Proof.UpWords.lean ====
/- The words of the plan's tables, step by step through the host operations that compute them. -/
module

public import proofs.«01_k».proof.Proof.UpPlan

@[expose] public section

set_option maxRecDepth 16384

noncomputable section

namespace Cert.Plan

open Idealize.ShloMosaic Idealize.ShloMosaic.Routing

variable {f b : ℕ → ℕ}

/-- The running sum of the counts is the ends of the experts' rows. -/
theorem ends_holds (x : IVec (shape1 32) 32) (hx : Holds x f) (init : IVec shape0 32) (hi : init ix0 = 0#32)
    (h : (shape1 32).ReduceWindows (![32] : Fin 1 → Nat) ![1] ![31] ![0] (shape1 32)) (hu : 0 < shape0.numel) :
    Holds (Host.reduceWindow IntOp.addi ![32] ![1] ![31] ![0] x init h hu) (ends f) := fun j =>
  cumsum1 (N := 32) (Nm1 := 31) rfl x f hx init hi h hu j

/-- The tiles' ends and the experts' ends, one after the other, are the break points. -/
theorem mark_holds (e : IVec (shape1 32) 32) (he : Holds e (ends f)) (hb : shape0.BroadcastsInDim (shape1 132) (![] : Fin 0 → Fin (shape1 132).rank))
    (h : Shape.Concatenates [shape1 132, shape1 32] (shape1 164) 0) :
    Holds (concatenate (shape1 164) 0 [⟨shape1 132, muli (addi (broadcastInDim (shape1 132) ![] hb (constantI shape0 32 1#32)) (iotaInDim (shape1 132) 32 0))
      (broadcastInDim (shape1 132) ![] hb (constantI shape0 32 256#32))⟩, ⟨shape1 32, e⟩] h) (mark f) := by
  intro i
  by_cases hi : i.val < 132
  · refine (concatenate_pair_apply_left (t := shape1 164) (s₁ := shape1 132) (s₂ := shape1 32) 0 _ _ _ (ValueIdx.ix1 i) rfl (ValueIdx.ix1 (⟨i.val, hi⟩ : Fin 132)) (fun b => by
      match b with
      | ⟨0, _⟩ => rfl)).trans ?_
    rw [muli_ap, addi_ap, bc0, bc0, iota1_ap]
    show (BitVec.ofNat 32 1 + BitVec.ofNat 32 i.val) * BitVec.ofNat 32 256 = _
    rw [BitVec.ofNat_add_ofNat, BitVec.ofNat_mul_ofNat]
    unfold mark
    rw [if_pos hi]
  · have hi' := i.isLt
    refine (concatenate_pair_apply_right (t := shape1 164) (s₁ := shape1 132) (s₂ := shape1 32) 0 _ _ _ (ValueIdx.ix1 i) rfl rfl (ValueIdx.ix1 (⟨i.val - 132, by omega⟩ : Fin 32)) (fun b hb => by
      match b with
      | ⟨0, _⟩ => exact absurd rfl hb) (by show i.val - 132 + 132 = i.val; omega)).trans ?_
    rw [he]
    unfold mark
    rw [if_neg hi]

/-- A zero and the sorted break points but the last are the segments' first rows. -/
theorem lo_holds (s : IVec (shape1 164) 32) (hs : Holds s b) (hb : shape0.BroadcastsInDim (shape1 1) (![] : Fin 0 → Fin (shape1 1).rank))
    (hsl : (shape1 164).Slices ![0] (shape1 163)) (h : Shape.Concatenates [shape1 1, shape1 163] (shape1 164) 0) :
    Holds (concatenate (shape1 164) 0 [⟨shape1 1, broadcastInDim (shape1 1) ![] hb (constantI shape0 32 0#32)⟩,
      ⟨shape1 163, extractStridedSlice (shape1 163) ![0] s hsl⟩] h) (lo b) := by
  intro i
  by_cases hi : i.val = 0
  · refine (concatenate_pair_apply_left (t := shape1 164) (s₁ := shape1 1) (s₂ := shape1 163) 0 _ _ _ (ValueIdx.ix1 i) rfl (ValueIdx.ix1 (0 : Fin 1)) (fun b => by
      match b with
      | ⟨0, _⟩ => exact hi.symm)).trans ?_
    rw [bc0]
    unfold lo
    rw [if_pos hi]
    rfl
  · have hi' := i.isLt
    refine (concatenate_pair_apply_right (t := shape1 164) (s₁ := shape1 1) (s₂ := shape1 163) 0 _ _ _ (ValueIdx.ix1 i) rfl rfl (ValueIdx.ix1 (⟨i.val - 1, by omega⟩ : Fin 163)) (fun b hb => by
      match b with
      | ⟨0, _⟩ => exact absurd rfl hb) (by show i.val - 1 + 1 = i.val; omega)).trans ?_
    rw [slice1 0 s hsl _ (by show 0 + (i.val - 1) < 164; omega), hs]
    unfold lo
    rw [if_neg hi]
    show BitVec.ofNat 32 (b (0 + (i.val - 1))) = _
    rw [Nat.zero_add]

/-- Whether a segment has a row. -/
theorem ok_holds (h : Sorted f b) (s l : IVec (shape1 164) 32) (hs : Holds s b) (hl : Holds l (lo b)) (hw : 1 < 32) :
    Holds (extui 32 (cmpi .sgt s l) hw) (fun t => if lo b t < b t then 1 else 0) := by
  intro i
  have h1 := h.le i.val i.isLt
  have h2 := h.lo_le i.val i.isLt
  have e : cmpi .sgt s l (ValueIdx.ix1 i) = IntOp.cmpi .sgt (BitVec.ofNat 32 (b i.val)) (BitVec.ofNat 32 (lo b i.val)) := by
    rw [← hs, ← hl]; rfl
  show (cmpi .sgt s l (ValueIdx.ix1 i)).setWidth 32 = _
  rw [e]
  by_cases hc : lo b i.val < b i.val
  · rw [(WordCmp.cmpi_sgt_ofNat_eq_one_iff (by norm_num; omega) (by norm_num; omega)).2 hc]; show _ = BitVec.ofNat 32 (if lo b i.val < b i.val then 1 else 0); rw [if_pos hc]; rfl
  · rw [(WordCmp.cmpi_sgt_ofNat_eq_zero_iff (by norm_num; omega) (by norm_num; omega)).2 hc]; show _ = BitVec.ofNat 32 (if lo b i.val < b i.val then 1 else 0); rw [if_neg hc]; rfl

/-- The tile of each segment. -/
theorem tile_holds (h : Sorted f b) (l : IVec (shape1 164) 32) (hl : Holds l (lo b)) (hb : shape0.BroadcastsInDim (shape1 164) (![] : Fin 0 → Fin (shape1 164).rank)) :
    Holds (minsi (pyDiv hb l (constantI shape0 32 256#32)) (broadcastInDim (shape1 164) ![] hb (constantI shape0 32 131#32))) (tile b) := by
  intro i
  have h2 := h.lo_le i.val i.isLt
  show IntOp.minsi (pyDiv hb l (constantI shape0 32 256#32) (ValueIdx.ix1 i)) (broadcastInDim (shape1 164) ![] hb (constantI shape0 32 131#32) (ValueIdx.ix1 i)) = _
  rw [pyDiv_ap (hb := hb) l _ (ValueIdx.ix1 i) (a := lo b i.val) (b := 256) (hl i) rfl (by norm_num; omega) (by norm_num) (by norm_num), bc0]
  show IntOp.minsi (BitVec.ofNat 32 (lo b i.val / 256)) (BitVec.ofNat 32 131) = _
  rw [PlanTiles.minsi_word (by norm_num; omega) (by norm_num)]
  rfl

/-- The expert of each segment. -/
theorem seg_holds (h : Sorted f b) (hf : ∀ i, f i ≤ 33792) (e : IVec (shape1 32) 32) (he : Holds e (ends f)) (l : IVec (shape1 164) 32) (hl : Holds l (lo b))
    (hb : shape0.BroadcastsInDim (shape1 164) (![] : Fin 0 → Fin (shape1 164).rank))
    (h₁ : (shape1 32).BroadcastsInDim (shape2 1 32) (![1] : Fin 1 → Fin (shape2 1 32).rank))
    (h₂ : (shape2 1 32).BroadcastsInDim (shape2 164 32) (![0, 1] : Fin 2 → Fin (shape2 164 32).rank))
    (h₃ : (shape1 164).BroadcastsInDim (shape2 164 1) (![0] : Fin 1 → Fin (shape2 164 1).rank))
    (h₄ : (shape2 164 1).BroadcastsInDim (shape2 164 32) (![0, 1] : Fin 2 → Fin (shape2 164 32).rank))
    (hw : 1 < 32) (hr : (shape2 164 32).ReducesTo [1] (shape1 164)) (hu : 0 < shape0.numel) :
    Holds (minsi (Host.reduce IntOp.addi (extui 32 (cmpi .sle (broadcastInDim (shape2 164 32) ![0, 1] h₂ (broadcastInDim (shape2 1 32) ![1] h₁ e))
        (broadcastInDim (shape2 164 32) ![0, 1] h₄ (broadcastInDim (shape2 164 1) ![0] h₃ l))) hw) (constantI shape0 32 0#32) hr hu)
      (broadcastInDim (shape1 164) ![] hb (constantI shape0 32 31#32))) (seg f b) := by
  intro i
  have h2 := h.lo_le i.val i.isLt
  show IntOp.minsi (Host.reduce IntOp.addi (extui 32 (cmpi .sle (broadcastInDim (shape2 164 32) ![0, 1] h₂ (broadcastInDim (shape2 1 32) ![1] h₁ e))
        (broadcastInDim (shape2 164 32) ![0, 1] h₄ (broadcastInDim (shape2 164 1) ![0] h₃ l))) hw) (constantI shape0 32 0#32) hr hu (ValueIdx.ix1 i))
      (broadcastInDim (shape1 164) ![] hb (constantI shape0 32 31#32) (ValueIdx.ix1 i)) = _
  rw [reduce_count (by norm_num) _ hw hr hu i (fun j => ends f j ≤ lo b i.val) (fun q => by
    show IntOp.cmpi .sle (broadcastInDim (shape2 164 32) ![0, 1] h₂ (broadcastInDim (shape2 1 32) ![1] h₁ e) (ValueIdx.ix2 i q))
      (broadcastInDim (shape2 164 32) ![0, 1] h₄ (broadcastInDim (shape2 164 1) ![0] h₃ l) (ValueIdx.ix2 i q)) = 1#1 ↔ _
    rw [bcCols, bcRows, he, hl]
    have h3 := ends_le f hf q.val q.isLt
    exact WordCmp.cmpi_sle_ofNat_eq_one_iff (by norm_num; omega) (by norm_num; omega)), bc0]
  show IntOp.minsi (BitVec.ofNat 32 _) (BitVec.ofNat 32 31) = _
  have h5 := Nat.count_le (p := fun j => ends f j ≤ lo b i.val) (n := 32)
  rw [PlanTiles.minsi_word (by norm_num; omega) (by norm_num)]
  show _ = BitVec.ofNat 32 (min _ 31)
  rw [min_comm]

/-- The first row of each segment within its tile. -/
theorem off_holds (l s : IVec (shape1 164) 32) (hl : Holds l (lo b)) (hs : Holds s (tile b)) (hb : shape0.BroadcastsInDim (shape1 164) (![] : Fin 0 → Fin (shape1 164).rank)) :
    Holds (subi l (muli s (broadcastInDim (shape1 164) ![] hb (constantI shape0 32 256#32)))) (fun t => lo b t - 256 * tile b t) := by
  intro i
  rw [subi_ap, muli_ap, bc0, hl, hs]
  show BitVec.ofNat 32 (lo b i.val) - BitVec.ofNat 32 (tile b i.val) * BitVec.ofNat 32 256 = _
  rw [BitVec.ofNat_mul_ofNat, ofNat32_sub (by unfold tile; omega), Nat.mul_comm]

end Cert.Plan

end
-- ==== Proof.UpIdealFrame.lean ====
/- The run of the idealized first half of the experts: what each step leaves in the result's block, and that the program
   runs and leaves its arguments as they were. -/
module

public import proofs.«01_k».proof.Proof.Gen.UpIdeal.Launch
public import proofs.«01_k».proof.Proof.Gen.UpIdeal.Skeleton
public import Idealize.ShloMosaic.Lib.Pipeline.FrameBody
public import Idealize.ShloMosaic.Lib.Pipeline.ValueKit
public import Idealize.ShloMosaic.Lib.Claim
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! ## What a step leaves in the result's block -/

abbrev rX (k : ℕ) (h : ∀ a, (![0, k] : Fin 2 → ℕ) a + S256x1024.size a ≤ S256x4096.size a) : Rect S256x4096 :=
  Rect.unit (s := S256x4096) ![0, k] S256x1024.size h
abbrev rW (k : ℕ) (h : ∀ a, (![0, 0, k, 0] : Fin 4 → ℕ) a + S1x1x1024x1024.size a ≤ S1x1x4096x1024.size a) : Rect S1x1x4096x1024 :=
  Rect.unit (s := S1x1x4096x1024) ![0, 0, k, 0] S1x1x1024x1024.size h

/-- The activation of a tile's rows under one expert's weights and bias. -/
def act (x : Vec F S256x1x4096 .f32) (w : Vec F S1x1x4096x1024 .f32) (b : Vec F S1x1x1x1024 .f32) : FVec F S256x512 .bf16 :=
  k0_pay1 (k0_pay4 b (View.ld (k0_pay3 x) (rX 0 inb_S256x4096_S256x1024_0_0)) (View.ld w (rW 0 inb_S1x1x4096x1024_S1x1x1024x1024_0_0_0_0))
      (View.ld (k0_pay3 x) (rX 1024 inb_S256x4096_S256x1024_0_1024)) (View.ld w (rW 1024 inb_S1x1x4096x1024_S1x1x1024x1024_0_0_1024_0)))
    (k0_pay5 (View.ld (k0_pay3 x) (rX 2048 inb_S256x4096_S256x1024_0_2048))) (k0_pay6 (View.ld w (rW 2048 inb_S1x1x4096x1024_S1x1x1024x1024_0_0_2048_0)))
    (View.ld (k0_pay3 x) (rX 3072 inb_S256x4096_S256x1024_0_3072)) (View.ld w (rW 3072 inb_S1x1x4096x1024_S1x1x1024x1024_0_0_3072_0))

/-- The block after a step of first row `lw` and flag `kw` that found `Y` there: a step that is not flagged leaves it, one
    that starts its tile overwrites it, and any other overwrites the rows from its first row on. -/
def step (lw kw : BitVec 32) (A Y : FVec F S256x512 .bf16) : FVec F S256x512 .bf16 :=
  if k0_cond1 kw = 1#1 then
    if k0_cond3 lw = 1#1 then
      select (cmpi .sge (iota .tc S256x512 32 [0] iota_S256x512_d0_w32) (broadcast S256x512 lw)) A
        (shapeCast S256x512 (if k0_cond2 lw = 1#1 then A else Y) shapeCasts_S256x512_S256x512)
    else if k0_cond2 lw = 1#1 then A else Y
  else Y

abbrev wd (T : IVec S164 32) (i : grid0.Coords) : BitVec 32 := T (ix1 (i 0))

/-- The index a step reads its tables at. -/
theorem point_idx (i : grid0.Coords) (h : ∀ a, k0_off1 i a + S1.size a ≤ S164.size a) (hf : 0 < (Rect.unit (s := S164) (k0_off1 i) S1.size h).shape.numel) :
    (Rect.unit (s := S164) (k0_off1 i) S1.size h).idx (Shape.Idx.first hf) = ix1 (i 0) := by
  funext a
  have ha : a = 0 := Subsingleton.elim _ _
  subst ha
  apply Fin.ext
  rw [Rect.idx_unit_val]
  have h2 : ((i 0).val % 2 ^ 32) = (i 0).val := Nat.mod_eq_of_lt (lt_of_lt_of_le (i 0).isLt (by decide))
  show (BitVec.ofNat 32 (i 0).val).toNat + 0 = (i 0).val
  rw [BitVec.toNat_ofNat, h2, Nat.add_zero]

/-- A load of part of a buffer that one store has filled is that part of what was stored. -/
theorem readCov_part {sp : Space} {e : EltTy} (v : View sig .tc sp S256x4096 e) (P : S256x4096.Idx → Elt F e) (R : Rect S256x4096) :
    v.readCov [(⟨Rect.unit (s := S256x4096) ![0, 0] ![256, 4096] inb_S256x4096_S256x4096_0_0, P⟩ : View.Piece (Elt F) S256x4096 e)] R.toLoadRect
      = View.ld P R := by
  show v.readAt (Elt F) R.toLoadRect (v.writes (Elt F) v.junk _) = _
  rw [View.readAt_eq_ld]
  exact congrArg (fun X => View.ld X R) (View.read_writes_full v v.junk inb_S256x4096_S256x4096_0_0 P [])

/-- A buffer one store has filled last holds what was stored. -/
theorem read_filled {sp : Space} {e : EltTy} (v : View sig .tc sp S256x512 e) (f : v.ty.Contents (Elt F)) (P : S256x512.Idx → Elt F e)
    (L : List (View.Piece (Elt F) S256x512 e)) :
    v.read (Elt F) (v.writes (Elt F) f ((⟨Rect.unit (s := S256x512) ![0, 0] ![256, 512] inb_S256x512_S256x512_0_0, P⟩ : View.Piece (Elt F) S256x512 e) :: L))
      = P :=
  View.read_writes_full v f inb_S256x512_S256x512_0_0 P L

set_option maxHeartbeats 4000000 in
/-- The kernel's body on whole buffers: the tables and the inputs' stay, the result's is stepped. -/
theorem sound_kernel (c : Dev nD) (E : Set ℕ) (i : grid0.Coords) (q : PosShare TreeShare)
    (arg1 : Memref sig .tc .smem S164 .i32) (harg1 : arg1.IsWhole) (arg2 : Memref sig .tc .smem S164 .i32) (harg2 : arg2.IsWhole)
    (arg3 : Memref sig .tc .smem S164 .i32) (harg3 : arg3.IsWhole) (arg4 : Memref sig .tc .smem S164 .i32) (harg4 : arg4.IsWhole)
    (arg5 : Memref sig .tc .vmem S256x1x4096 .f32) (harg5 : arg5.IsWhole)
    (arg6 : Memref sig .tc .vmem S1x1x4096x1024 .f32) (harg6 : arg6.IsWhole) (arg7 : Memref sig .tc .vmem S1x1x1x1024 .f32) (harg7 : arg7.IsWhole)
    (arg8 : Memref sig .tc .vmem S256x512 .bf16) (harg8 : arg8.IsWhole) (arg9 : Memref sig .tc .vmem S256x4096 .f32) (harg9 : arg9.IsWhole)
    (x0 : Vec F S256x1x4096 .f32) (x1 : Vec F S1x1x4096x1024 .f32)
    (x2 : Vec F S1x1x1x1024 .f32) (x3 : Vec F S256x512 .bf16) (T3 T4 : IVec S164 32) (K : PUnit → sProp 𝕄) :
    iprop(owns (c : Thread nD τ) arg3 q T3 ∗ owns (c : Thread nD τ) arg4 q T4
        ∗ owns (c : Thread nD τ) arg5 fullShare x0 ∗ owns (c : Thread nD τ) arg6 fullShare x1 ∗ owns (c : Thread nD τ) arg7 fullShare x2
        ∗ owns (c : Thread nD τ) arg8 fullShare x3 ∗ (∃ f, owns (c : Thread nD τ) arg9 fullShare f)
        ∗ (iprop(owns (c : Thread nD τ) arg3 q T3 ∗ owns (c : Thread nD τ) arg4 q T4
            ∗ owns (c : Thread nD τ) arg5 fullShare x0 ∗ owns (c : Thread nD τ) arg6 fullShare x1 ∗ owns (c : Thread nD τ) arg7 fullShare x2
            ∗ owns (c : Thread nD τ) arg8 fullShare (step (wd T3 i) (wd T4 i) (act x0 x1 x2) x3)
            ∗ (∃ f, owns (c : Thread nD τ) arg9 fullShare f)) -∗ K ⟨⟩))
      ⊢ wp frame (wpE (defs₀ (F := F)) Variants.none c none) E (cc0_moe_up i arg1 harg1 arg2 harg2 arg3 harg3 arg4 harg4
          arg5 harg5 arg6 harg6 arg7 harg7 arg8 harg8 arg9 harg9) K := by
  simp only [cc0_moe_up_eq_skeleton]; unfold cc0_moe_up_skel
  simp only [k0_part1_eq_skeleton]
  unfold owns
  iintro ⟨⟨%t3, %ht3, Ht3⟩, ⟨%t4, %ht4, Ht4⟩, ⟨%f0, %hf0, H0⟩, ⟨%f1, %hf1, H1⟩, ⟨%f2, %hf2, H2⟩, ⟨%f3, %hf3, H3⟩, ⟨%g, ⟨%g', %hg', Hg⟩⟩, Hk⟩
  subst ht3 ht4 hf0 hf1 hf2 hf3
  sl_exec
  sl_step
  iapply Hk
  isplitl [Ht3]
  · iexists t3; isplitr; · ipureintro; rfl
    iexact Ht3
  isplitl [Ht4]
  · iexists t4; isplitr; · ipureintro; rfl
    iexact Ht4
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    have e3 : sound_kernel.sl.r c i arg3 t3 = wd (View.read (Elt F) arg3.view t3) i := by
      unfold sound_kernel.sl.r
      rw [View.readAt_apply]
      exact congrArg _ (point_idx i _ _)
    have e4 : sound_kernel.sl.r_1 c i arg4 t4 = wd (View.read (Elt F) arg4.view t4) i := by
      unfold sound_kernel.sl.r_1
      rw [View.readAt_apply]
      exact congrArg _ (point_idx i _ _)
    rw [e3, e4]
    unfold sound_kernel.sl.v70
    rw [e3]
    unfold sound_kernel.sl.r_2 sound_kernel.sl.r_3 sound_kernel.sl.r_4 sound_kernel.sl.v38 sound_kernel.sl.v40 sound_kernel.sl.v17 sound_kernel.sl.v24 sound_kernel.sl.v31 sound_kernel.sl.Hg_1
    unfold step
    by_cases h1 : k0_cond1 (wd (View.read (Elt F) arg4.view t4) i) = 1#1
    · rw [dif_pos h1, if_pos h1]
      by_cases h2 : k0_cond2 (wd (View.read (Elt F) arg3.view t3) i) = 1#1
      · simp only [dif_pos h2, if_pos h2]
        by_cases h3 : k0_cond3 (wd (View.read (Elt F) arg3.view t3) i) = 1#1
        · simp only [dif_pos h3, if_pos h3]
          frame_out
          simp only [read_filled, readCov_part]
          rfl
        · simp only [dif_neg h3, if_neg h3]
          frame_out
          simp only [read_filled, readCov_part]
          rfl
      · simp only [dif_neg h2, if_neg h2]
        by_cases h3 : k0_cond3 (wd (View.read (Elt F) arg3.view t3) i) = 1#1
        · simp only [dif_pos h3, if_pos h3]
          frame_out
          simp only [read_filled, readCov_part]
          rfl
        · simp only [dif_neg h3, if_neg h3]
    · rw [dif_neg h1, if_neg h1]
  · iexists _; iexists _; isplitr
    swap; · iexact Hg
    ipureintro; rfl

/-! ## The pipeline's proof data -/

variable (a : (pcfg0 (F := F)).Adm) (V : (c : Dev nD) → (b : Ref sig .tc) → Buf (Elt F) ((c : Thread nD τ).loc b))

/-- A window's block at a point, of its array as the region finds it. -/
def iblk (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V c (Pipeline.arrRef spec0 w))

/-- The activation computed at a point. -/
def actAt (c : Dev nD) (t : Fin (cfg0 a).N) : FVec F S256x512 .bf16 := act (iblk a V c 0 t) (iblk a V c 1 t) (iblk a V c 2 t)

/-- The proof data: the inputs' buffers stay, the result's is stepped. -/
def rdat (c : Dev nD) : RDat τ (Elt F) Unit ℕ (UR sig nD τ) ℕ (cfg0 a) c where
  A w := V c (Pipeline.arrRef spec0 w)
  after w t Y X := match w with
    | ⟨0, _⟩ => X = Y
    | ⟨1, _⟩ => X = Y
    | ⟨2, _⟩ => X = Y
    | ⟨3, _⟩ => X = step (wd (a.1 2) (grid0.coords t)) (wd (a.1 3) (grid0.coords t)) (actAt a V c t) Y
  Φ _ := iprop(Pipeline.ΦA spec0 c ∗ Pipeline.ΦT pre0 a.1 c)
  q _ := fullShare
  owed _ := 0

theorem rdat_A (c : Dev nD) (w : Fin (cfg0 a).W) : (rdat a V c).A w = V c (Pipeline.arrRef spec0 w) := by dsimp only [rdat]

theorem after_3 (c : Dev nD) (t : Fin (cfg0 a).N) (Y X) : (rdat a V c).after 3 t Y X
    ↔ X = step (wd (a.1 2) (grid0.coords t)) (wd (a.1 3) (grid0.coords t)) (actAt a V c t) Y := by dsimp only [rdat]; rfl

theorem finds_0 (c : Dev nD) (t : Fin (cfg0 a).N) (Y) (h : (rdat a V c).Finds 0 t Y) : Y = iblk a V c 0 t := by
  obtain ⟨d, hd⟩ := (rdat a V c).finds_in_eq_fetched 0 rfl (fun _ _ _ => rfl) (fun _ _ _ h => h) t Y h
  rw [hd]; unfold RDat.fetched RDat.blockOf iblk; rw [rdat_A]; try rfl
theorem finds_1 (c : Dev nD) (t : Fin (cfg0 a).N) (Y) (h : (rdat a V c).Finds 1 t Y) : Y = iblk a V c 1 t := by
  obtain ⟨d, hd⟩ := (rdat a V c).finds_in_eq_fetched 1 rfl (fun _ _ _ => rfl) (fun _ _ _ h => h) t Y h
  rw [hd]; unfold RDat.fetched RDat.blockOf iblk; rw [rdat_A]; try rfl
theorem finds_2 (c : Dev nD) (t : Fin (cfg0 a).N) (Y) (h : (rdat a V c).Finds 2 t Y) : Y = iblk a V c 2 t := by
  obtain ⟨d, hd⟩ := (rdat a V c).finds_in_eq_fetched 2 rfl (fun _ _ _ => rfl) (fun _ _ _ h => h) t Y h
  rw [hd]; unfold RDat.fetched RDat.blockOf iblk; rw [rdat_A]; try rfl

/-! ## The body obligation -/

/-- The four tables conjoined one by one. -/
theorem prefHeld_four (c : Dev nD) (q : Fin 4 → PosShare TreeShare) (v : pre0.Contents (Elt F)) :
    (Pipeline.prefHeld pre0 c q v : sProp 𝕄)
      = iprop((((c : Thread nD τ).loc main_v17) ↦{q 0} v 0) ∗ (((c : Thread nD τ).loc main_v26) ↦{q 1} v 1)
          ∗ (((c : Thread nD τ).loc main_v29) ↦{q 2} v 2) ∗ (((c : Thread nD τ).loc main_v14) ↦{q 3} v 3)) :=
  bigSep_W0 fun k : Fin 4 => iprop(((c.tc : Thread nD τ).loc (pre0.ref k)) ↦{q k} v k)

theorem owns_of_whole (c : Dev nD) (b : Ref sig .tc) (q : PosShare TreeShare) (f : b.ty.Contents (Elt F)) :
    (((c : Thread nD τ).loc b) ↦{q} f : sProp 𝕄) ⊢ owns (c : Thread nD τ) (Memref.whole b) q f := by
  rw [owns_whole]
theorem whole_of_owns (c : Dev nD) (b : Ref sig .tc) (q : PosShare TreeShare) (f : b.ty.Contents (Elt F)) :
    (owns (c : Thread nD τ) (Memref.whole b) q f : sProp 𝕄) ⊢ (((c : Thread nD τ).loc b) ↦{q} f) := by
  rw [owns_whole]

/-- The body at a point, on the point's staging buffers. -/
abbrev bodyAt (t : Fin (cfg0 a).N) := defs₀ (F := F) .tc (cfg0 a).body ((cfg0 a).bodyArgs t ((cfg0 a).slots t))

abbrev stg (t : Fin (cfg0 a).N) (w : Fin 4) := ((cfg0 a).win w).stage ((cfg0 a).slots t w)

set_option maxHeartbeats 1000000 in
theorem sound_body (c : Dev nD) (t : Fin (cfg0 a).N) (Y3 : Vec F S256x512 .bf16) :
    iprop((rdat a V c).Φ t.castSucc ∗ (rdat a V c).owesAt () t.castSucc
      ∗ owns (c : Thread nD τ) (stg a t 0) fullShare (iblk a V c 0 t) ∗ owns (c : Thread nD τ) (stg a t 1) fullShare (iblk a V c 1 t)
      ∗ owns (c : Thread nD τ) (stg a t 2) fullShare (iblk a V c 2 t) ∗ owns (c : Thread nD τ) (stg a t 3) fullShare Y3)
    ⊢ wp frame (wpE (defs₀ (F := F)) Variants.none c none) Set.univ (bodyAt a t) fun _ =>
      iprop((rdat a V c).Φ t.succ ∗ (rdat a V c).owesAt () t.succ
      ∗ owns (c : Thread nD τ) (stg a t 0) fullShare (iblk a V c 0 t) ∗ owns (c : Thread nD τ) (stg a t 1) fullShare (iblk a V c 1 t)
      ∗ owns (c : Thread nD τ) (stg a t 2) fullShare (iblk a V c 2 t)
      ∗ owns (c : Thread nD τ) (stg a t 3) fullShare (step (wd (a.1 2) (grid0.coords t)) (wd (a.1 3) (grid0.coords t)) (actAt a V c t) Y3)) := by
  unfold bodyAt defs₀; rw [Defs.onTc_tc]
  rw [show (rdat a V c).Φ t.succ = (rdat a V c).Φ t.castSucc from rfl,
    show (rdat a V c).owesAt () t.succ = (rdat a V c).owesAt () t.castSucc from rfl,
    show (rdat a V c).Φ t.castSucc = iprop(Pipeline.ΦA spec0 c ∗ Pipeline.ΦT pre0 a.1 c) from rfl]
  unfold Pipeline.ΦA Pipeline.ΦT
  rw [scopedRest0_eq, prefHeld_four]
  iintro ⟨⟨⟨⟨%g, Hg⟩, Hr⟩, ⟨Ha, Hb, Hc, Hd⟩⟩, Ho, H0, H1, H2, H3⟩
  iapply (sound_kernel c Set.univ (grid0.coords t) fullShare.right _ _ _ _ _ _ _ _ _ _ _ _ _ _ _ _ _ _ (iblk a V c 0 t) (iblk a V c 1 t) (iblk a V c 2 t) Y3 (a.1 2) (a.1 3) _)
  isplitl [Hc]; · iapply (owns_of_whole c main_v29 fullShare.right (a.1 2)); iexact Hc
  isplitl [Hd]; · iapply (owns_of_whole c main_v14 fullShare.right (a.1 3)); iexact Hd
  isplitl [H0]; · iexact H0
  isplitl [H1]; · iexact H1
  isplitl [H2]; · iexact H2
  isplitl [H3]; · iexact H3
  isplitl [Hg]; · iexists g; iapply (owns_of_whole c cc0_scratch0 fullShare g); iexact Hg
  iintro ⟨Hc, Hd, H0, H1, H2, H3, ⟨%g', Hg⟩⟩
  isplitl [Ha Hb Hc Hd Hg Hr]
  · isplitl [Hg Hr]
    · isplitl [Hg]; · iexists g'; iapply (whole_of_owns c cc0_scratch0 fullShare g'); iexact Hg
      iexact Hr
    isplitl [Ha]; · iexact Ha
    isplitl [Hb]; · iexact Hb
    isplitl [Hc]; · iapply (whole_of_owns c main_v29 fullShare.right (a.1 2)); iexact Hc
    iapply (whole_of_owns c main_v14 fullShare.right (a.1 3)); iexact Hd
  isplitl [Ho]; · iexact Ho
  isplitl [H0]; · iexact H0
  isplitl [H1]; · iexact H1
  isplitl [H2]; · iexact H2
  iexact H3

theorem body_obligation (c : Dev nD) : (rdat a V c).BodyObligation (defs₀ (F := F)) Variants.none () Set.univ := fun t Y hY => by
  rw [bigSep_W0, bigSep_W0]
  have h0 := finds_0 a V c t _ (hY 0)
  have h1 := finds_1 a V c t _ (hY 1)
  have h2 := finds_2 a V c t _ (hY 2)
  rw [h0, h1, h2]
  refine triple_restated (sound_body a V c t (Y 3)) rfl .rfl fun _ => ?_
  iintro ⟨HΦ, Ho, H0, H1, H2, H3⟩
  isplitl [HΦ]; · iexact HΦ
  isplitl [Ho]; · iexact Ho
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  iexists _; isplitr; swap; · iexact H3
  ipureintro; rfl

end Cert.UpIdeal.Hand

end
-- ==== Proof.UpIdealRun.lean ====
/- The launch of the idealized first half of the experts: the plan's tables, the run, and that it leaves its arguments as
   they were. -/
module

public import proofs.«01_k».proof.Proof.UpIdealFrame
public import proofs.«01_k».proof.Proof.UpWords
public import Idealize.ShloMosaic.Lib.StableHlo.ReadAt

@[expose] public section

set_option maxRecDepth 16384

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

/-! ## The tables -/

/-- The experts' counts. -/
def w1 (x : IVec S8x128 32) : IVec S32 32 := shapeCast S32 (extractStridedSlice S1x32 ![0, 0] x slices_S8x128_S1x32_0_0) shapeCasts_S1x32_S32
/-- The ends of the experts' rows. -/
def w2 (x : IVec S8x128 32) : IVec S32 32 :=
  Host.reduceWindow IntOp.addi ![32] ![1] ![31] ![0] (w1 x) (broadcastInDim S_ ![] bcast_S_S_ (constantI S_ 32 0#32)) reduceWindows_S32_S32_w32s1p31_0 h_S_
/-- The break points. -/
def w8 (x : IVec S8x128 32) : IVec S164 32 :=
  concatenate S164 0 [⟨S132, muli (addi (broadcastInDim S132 ![] bcast_S_S132 (constantI S_ 32 1#32)) (iotaInDim S132 32 0))
    (broadcastInDim S132 ![] bcast_S_S132 (constantI S_ 32 256#32))⟩, ⟨S32, w2 x⟩] concatenates_S132_S32_S164_d0
/-- The break points in order. -/
def w9 (x : IVec S8x128 32) : IVec S164 32 := Host.sort S164 0 comparator_i32_d0 (w8 x)
/-- The segments' first rows. -/
def w12 (x : IVec S8x128 32) : IVec S164 32 :=
  concatenate S164 0 [⟨S1, broadcastInDim S1 ![] bcast_S_S1 (constantI S_ 32 0#32)⟩, ⟨S163, extractStridedSlice S163 ![0] (w9 x) slices_S164_S163_0⟩] concatenates_S1_S163_S164_d0
/-- Whether each segment has a row. -/
def w14 (x : IVec S8x128 32) : IVec S164 32 := extui 32 (cmpi .sgt (w9 x) (w12 x)) natLt_1_32
/-- The tile of each segment. -/
def w17 (x : IVec S8x128 32) : IVec S164 32 :=
  minsi (Routing.pyDiv bcast_S_S164 (w12 x) (constantI S_ 32 256#32)) (broadcastInDim S164 ![] bcast_S_S164 (constantI S_ 32 131#32))
/-- The expert of each segment. -/
def w26 (x : IVec S8x128 32) : IVec S164 32 :=
  minsi (Host.reduce IntOp.addi (extui 32 (cmpi .sle (broadcastInDim S164x32 ![0, 1] bcast_S1x32_S164x32_0_1 (broadcastInDim S1x32 ![1] bcast_S32_S1x32_1 (w2 x)))
      (broadcastInDim S164x32 ![0, 1] bcast_S164x1_S164x32_0_1 (broadcastInDim S164x1 ![0] bcast_S164_S164x1_0 (w12 x)))) natLt_1_32) (constantI S_ 32 0#32) reducesTo_S164x32_S164_d1 h_S_)
    (broadcastInDim S164 ![] bcast_S_S164 (constantI S_ 32 31#32))
/-- The first row of each segment within its tile. -/
def w29 (x : IVec S8x128 32) : IVec S164 32 := subi (w12 x) (muli (w17 x) (broadcastInDim S164 ![] bcast_S_S164 (constantI S_ 32 256#32)))

/-- The number of rows of expert `i`. -/
def cnt (x : IVec S8x128 32) (i : ℕ) : ℕ := if h : i < 32 then (x (ValueIdx.ix2 (0 : Fin 8) (⟨i, by omega⟩ : Fin 128))).toNat else 0

/-- The sorted break points of the counts. -/
def brk (x : IVec S8x128 32) : ℕ → ℕ := Plan.pts (w8 x)

theorem w1_holds (x : IVec S8x128 32) : Plan.Holds (n := 32) (w1 x) (cnt x) := by
  intro i
  have e : w1 x (ValueIdx.ix1 i) = x (ValueIdx.ix2 (0 : Fin 8) (⟨i.val, by omega⟩ : Fin 128)) := by
    unfold w1
    pointwise
    rfl
  rw [e]
  unfold cnt
  rw [dif_pos i.isLt]
  apply BitVec.eq_of_toNat_eq
  rw [BitVec.toNat_ofNat, Nat.mod_eq_of_lt (BitVec.isLt _)]

theorem w2_holds (x : IVec S8x128 32) : Plan.Holds (n := 32) (w2 x) (Plan.ends (cnt x)) :=
  Plan.ends_holds _ (w1_holds x) _ (by rfl) _ _

theorem w8_holds (x : IVec S8x128 32) : Plan.Holds (n := 164) (w8 x) (Plan.mark (cnt x)) :=
  Plan.mark_holds _ (w2_holds x) _ _

variable (x : IVec S8x128 32) (hx : ∀ i, cnt x i ≤ 33792)
include hx

theorem sorted : Plan.Sorted (cnt x) (brk x) := Plan.pts_sorted _ hx (w8_holds x)

omit hx in
theorem w9_holds : Plan.Holds (n := 164) (w9 x) (brk x) := Plan.pts_holds _
omit hx in
theorem w12_holds : Plan.Holds (n := 164) (w12 x) (Plan.lo (brk x)) := Plan.lo_holds _ (w9_holds x) _ _ _
theorem w14_holds : Plan.Holds (n := 164) (w14 x) (fun t => if Plan.lo (brk x) t < brk x t then 1 else 0) :=
  Plan.ok_holds (sorted x hx) _ _ (w9_holds x) (w12_holds x) _
theorem w17_holds : Plan.Holds (n := 164) (w17 x) (Plan.tile (brk x)) := Plan.tile_holds (sorted x hx) _ (w12_holds x) _
theorem w26_holds : Plan.Holds (n := 164) (w26 x) (Plan.seg (cnt x) (brk x)) :=
  Plan.seg_holds (sorted x hx) hx _ (w2_holds x) _ (w12_holds x) _ _ _ _ _ _ _ _
theorem w29_holds : Plan.Holds (n := 164) (w29 x) (fun t => Plan.lo (brk x) t - 256 * Plan.tile (brk x) t) :=
  Plan.off_holds _ _ (w12_holds x) (w17_holds x hx) _

omit hx
/-! ## @main up to the region -/

variable (m : (ℓ : Loc nD τ sig) → Buf (Elt F) ℓ) (ρ : Dev nD → PrngReg)

abbrev opss : List (List (HloOp τ sig (Elt F))) := [hostOps0, hostOps0_1, hostOps0_2, hostOps0_3, hostOps0_4, hostOps0_5, hostOps0_6]

/-- The buffers when the region is entered: after the host operations. -/
abbrev V (c : Dev nD) (b : Ref sig .tc) : Buf (Elt F) ((c : Thread nD τ).loc b) := StableHlo.after (opss (F := F)).flatten (fun b => m (c, b)) b

theorem opss_sub : (opss : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub⟩

theorem opss_fresh : (opss : List (List (HloOp τ sig (Elt F)))).Forall fun ops => ops.Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main opss opss_sub opss_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [opss, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [opss, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [opss, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [opss, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem u7 (c : Dev nD) : StableHlo.upto (opss (F := F)).flatten (fun b => m (c, b)) 12 (Proc.tc.devRef main_v7)
    = muli (addi (broadcastInDim S132 ![] bcast_S_S132 (constantI S_ 32 1#32)) (iotaInDim S132 32 0)) (broadcastInDim S132 ![] bcast_S_S132 (constantI S_ 32 256#32)) := by
  after_reads_simp
  try simp -implicitDefEqProofs only [StableHlo.TRef.toBuf, StableHlo.TRef.ofBuf, cast_cast, cast_eq, id_eq]
theorem u2 (c : Dev nD) : StableHlo.upto (opss (F := F)).flatten (fun b => m (c, b)) 12 (Proc.tc.devRef main_v2) = w2 (m ((c : Thread nD τ).loc main_arg0)) := by
  after_reads_simp
  try simp -implicitDefEqProofs only [StableHlo.TRef.toBuf, StableHlo.TRef.ofBuf, cast_cast, cast_eq, id_eq]
  unfold w2 w1
  rfl
theorem u10 (c : Dev nD) : StableHlo.upto (opss (F := F)).flatten (fun b => m (c, b)) 17 (Proc.tc.devRef main_v10)
    = broadcastInDim S1 ![] bcast_S_S1 (constantI S_ 32 0#32) := by
  after_reads_simp
  try simp -implicitDefEqProofs only [StableHlo.TRef.toBuf, StableHlo.TRef.ofBuf, cast_cast, cast_eq, id_eq]
theorem u11 (c : Dev nD) : StableHlo.upto (opss (F := F)).flatten (fun b => m (c, b)) 17 (Proc.tc.devRef main_v11)
    = extractStridedSlice S163 ![0] (w9 (m ((c : Thread nD τ).loc main_arg0))) slices_S164_S163_0 := by
  after_reads_simp
  try simp -implicitDefEqProofs only [StableHlo.TRef.toBuf, StableHlo.TRef.ofBuf, cast_cast, cast_eq, id_eq]
  rw [u7, u2]
  unfold w9 w8
  rfl

theorem V_main_v14 (c : Dev nD) : V m c main_v14 = w14 (m ((c : Thread nD τ).loc main_arg0)) := by
  unfold V; after_reads_simp
  try simp -implicitDefEqProofs only [StableHlo.TRef.toBuf, StableHlo.TRef.ofBuf, cast_cast, cast_eq, id_eq]
  rw [u7, u2, u10, u11]
  unfold w14 w12
  unfold w9 w8
  rfl
theorem V_main_v17 (c : Dev nD) : V m c main_v17 = w17 (m ((c : Thread nD τ).loc main_arg0)) := by
  unfold V; after_reads_simp
  try simp -implicitDefEqProofs only [StableHlo.TRef.toBuf, StableHlo.TRef.ofBuf, cast_cast, cast_eq, id_eq]
  rw [u10, u11]
  unfold w17 w12 Routing.pyDiv
  rfl
theorem V_main_v26 (c : Dev nD) : V m c main_v26 = w26 (m ((c : Thread nD τ).loc main_arg0)) := by
  unfold V; after_reads_simp
  try simp -implicitDefEqProofs only [StableHlo.TRef.toBuf, StableHlo.TRef.ofBuf, cast_cast, cast_eq, id_eq]
  rw [u10, u11]
  unfold w26 w12 w2 w1
  rfl
theorem V_main_v29 (c : Dev nD) : V m c main_v29 = w29 (m ((c : Thread nD τ).loc main_arg0)) := by
  unfold V; after_reads_simp
  try simp -implicitDefEqProofs only [StableHlo.TRef.toBuf, StableHlo.TRef.ofBuf, cast_cast, cast_eq, id_eq]
  rw [u10, u11]
  unfold w29 w17 w12 Routing.pyDiv
  rfl
/-- The bias with a row axis. -/
theorem V_main_v30 (c : Dev nD) : V m c main_v30 = shapeCast S2x32x1x1024 (m ((c : Thread nD τ).loc main_arg3)) shapeCasts_S2x32x1024_S2x32x1x1024 := by
  unfold V; after_reads_simp
  try simp -implicitDefEqProofs only [StableHlo.TRef.toBuf, StableHlo.TRef.ofBuf, cast_cast, cast_eq, id_eq]
  rfl

/-! ## The side condition on the tables -/

theorem tr0 (pf : pre0.Contents (Elt F)) (i : grid0.Coords) : cc0_transform_0 k0_off1_inb numel1_S1 pf i = ![(wd (pf 0) i).toNat, 0, 0] := by
  have e := congrArg (pf 0) (point_idx i (k0_off1_inb i) (by rw [show (Rect.unit (s := S164) (k0_off1 i) S1.size (k0_off1_inb i)).shape.numel = 1 from numel1_S1]; exact Nat.one_pos))
  exact congrArg (fun w : BitVec 32 => (![w.toNat, 0, 0] : Fin 3 → ℕ)) e
theorem tr1 (pf : pre0.Contents (Elt F)) (i : grid0.Coords) : cc0_transform_1 k0_off1_inb numel1_S1 pf i = ![0, (wd (pf 1) i).toNat, 0, 0] := by
  have e := congrArg (pf 1) (point_idx i (k0_off1_inb i) (by rw [show (Rect.unit (s := S164) (k0_off1 i) S1.size (k0_off1_inb i)).shape.numel = 1 from numel1_S1]; exact Nat.one_pos))
  exact congrArg (fun w : BitVec 32 => (![0, w.toNat, 0, 0] : Fin 4 → ℕ)) e
theorem tr2 (pf : pre0.Contents (Elt F)) (i : grid0.Coords) : cc0_transform_2 k0_off1_inb numel1_S1 pf i = ![0, (wd (pf 1) i).toNat, 0, 0] := by
  have e := congrArg (pf 1) (point_idx i (k0_off1_inb i) (by rw [show (Rect.unit (s := S164) (k0_off1 i) S1.size (k0_off1_inb i)).shape.numel = 1 from numel1_S1]; exact Nat.one_pos))
  exact congrArg (fun w : BitVec 32 => (![0, w.toNat, 0, 0] : Fin 4 → ℕ)) e
theorem tr3 (pf : pre0.Contents (Elt F)) (i : grid0.Coords) : cc0_transform_3 k0_off1_inb numel1_S1 pf i = ![(wd (pf 0) i).toNat, 0] := by
  have e := congrArg (pf 0) (point_idx i (k0_off1_inb i) (by rw [show (Rect.unit (s := S164) (k0_off1 i) S1.size (k0_off1_inb i)).shape.numel = 1 from numel1_S1]; exact Nat.one_pos))
  exact congrArg (fun w : BitVec 32 => (![w.toNat, 0] : Fin 2 → ℕ)) e

/-- Tables of tiles below 132 and experts below 32 are admissible. -/
theorem ok_of (pf : pre0.Contents (Elt F)) (h0 : ∀ i : grid0.Coords, (wd (pf 0) i).toNat < 132) (h1 : ∀ i : grid0.Coords, (wd (pf 1) i).toNat < 32) : ok0 pf := by
  refine ⟨fun i => ⟨fun a => ?_, .inl rfl⟩, fun i => ⟨fun a => ?_, .inl rfl⟩, fun i => ⟨fun a => ?_, .inl rfl⟩, fun i => ⟨fun a => ?_, .inr ?_⟩⟩
  · rw [tr0]
    have := h0 i
    match a with
    | ⟨0, _⟩ => show ((wd (pf 0) i).toNat + 1) * 256 ≤ 33792; omega
    | ⟨1, _⟩ => show (0 + 1) * 1 ≤ 1; omega
    | ⟨2, _⟩ => show (0 + 1) * 4096 ≤ 4096; omega
  · rw [tr1]
    have := h1 i
    match a with
    | ⟨0, _⟩ => show (0 + 1) * 1 ≤ 2; omega
    | ⟨1, _⟩ => show ((wd (pf 1) i).toNat + 1) * 1 ≤ 32; omega
    | ⟨2, _⟩ => show (0 + 1) * 4096 ≤ 4096; omega
    | ⟨3, _⟩ => show (0 + 1) * 1024 ≤ 1024; omega
  · rw [tr2]
    have := h1 i
    match a with
    | ⟨0, _⟩ => show (0 + 1) * 1 ≤ 2; omega
    | ⟨1, _⟩ => show ((wd (pf 1) i).toNat + 1) * 1 ≤ 32; omega
    | ⟨2, _⟩ => show (0 + 1) * 1 ≤ 1; omega
    | ⟨3, _⟩ => show (0 + 1) * 1024 ≤ 1024; omega
  · rw [tr3]
    have := h0 i
    match a with
    | ⟨0, _⟩ => show ((wd (pf 0) i).toNat + 1) * 256 ≤ 33792; omega
    | ⟨1, _⟩ => show (0 + 1) * 512 ≤ 512; omega
  · exact Idealize.ShloMosaic.Affine.block_words_dvd (by decide) (by decide)

/-- The tables the region finds. -/
def tbl : pre0.Contents (Elt F) := fun k => V m 0 (pre0.ref k)

/-- The counts' words as launched. -/
abbrev cw : IVec S8x128 32 := m (((0 : Dev nD) : Thread nD τ).loc main_arg0)

theorem tbl_0 : tbl m 0 = w17 (cw m) := V_main_v17 m 0
theorem tbl_1 : tbl m 1 = w26 (cw m) := V_main_v26 m 0
theorem tbl_2 : tbl m 2 = w29 (cw m) := V_main_v29 m 0
theorem tbl_3 : tbl m 3 = w14 (cw m) := V_main_v14 m 0

variable (hm : ∀ i, cnt (cw m) i ≤ 33792)
include hm

theorem toNat_wd {g : ℕ → ℕ} {T : IVec S164 32} (h : Plan.Holds (n := 164) T g) (i : grid0.Coords) (hg : g (i 0).val < 2 ^ 32) : (wd T i).toNat = g (i 0).val := by
  have e : wd T i = BitVec.ofNat 32 (g (i 0).val) := h ⟨(i 0).val, (i 0).isLt⟩
  rw [e, BitVec.toNat_ofNat, Nat.mod_eq_of_lt hg]

theorem ok_tbl : ok0 (tbl m) := by
  refine ok_of _ (fun i => ?_) fun i => ?_
  · rw [tbl_0, toNat_wd (m := m) hm (w17_holds _ hm) i (lt_trans (Plan.tile_lt _ _) (by norm_num))]
    exact Plan.tile_lt _ _
  · rw [tbl_1, toNat_wd (m := m) hm (w26_holds _ hm) i (lt_trans (Plan.expert_lt _ _) (by norm_num))]
    exact Plan.expert_lt _ _

/-- The tables, admissible. -/
def adm : (pcfg0 (F := F)).Adm := ⟨tbl m, ok_tbl m hm⟩

/-! ## The run -/

set_option backward.isDefEq.respectTransparency.types false in
set_option maxHeartbeats 800000 in
theorem run_main_quiescent : θ_run defs (onTc (τ := τ) (main (F := F))) (s₀ m ρ)
    (fun r => Pipeline.RDat.FramePost (cfg0 (adm m hm)) (rdat (adm m hm) (V m)) (V m) r ∧ r.2.sem = fun _ => 0) :=
  Pipeline.RDat.θ_run_frameP (Q' := _) pcfgs (fun _ => adm m hm) (0 : Fin 1) launch0 defs₀ Variants.none (rdat (adm m hm) (V m)) m ρ main
    (hbody := body_obligation (adm m hm) (V m)) (hshare := fun c => (rdat (adm m hm) (V m) c).share_full fun _ => rfl)
    (howed := fun _ _ => rfl) (V := V m) (hmain := hmain m Variants.none) (hA := rdat_A (adm m hm) (V m))
    (hpf := fun c k => by obtain rfl : c = 0 := Subsingleton.elim _ _; rfl) (hΦ := fun _ _ => rfl)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (run_main_quiescent m ρ hm)
  have hc := h.1 c
  refine ⟨(hc.2 main_arg0 (Pipeline.mem_restRefs_of main_arg0 (by decide) (show ∀ w : Fin 4, (spec0 w).arr.view.ref ≠ main_arg0 by decide))).trans (V_main_arg0 m c), ?_, ?_,
    (hc.2 main_arg3 (Pipeline.mem_restRefs_of main_arg3 (by decide) (show ∀ w : Fin 4, (spec0 w).arr.view.ref ≠ main_arg3 by decide))).trans (V_main_arg3 m c)⟩
  · exact (show r.2.mem _ = _ from (congrFun ((rdat (adm m hm) (V m) c).ArrAt_in 0 rfl _) _).mp (hc.1 0)).trans (V_main_arg1 m c)
  · exact (show r.2.mem _ = _ from (congrFun ((rdat (adm m hm) (V m) c).ArrAt_in 1 rfl _) _).mp (hc.1 1)).trans (V_main_arg2 m c)

/-- The program runs, leaves its arguments as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hm) ((θ_run defs _ _).mono (fun _ h => h.2) (run_main_quiescent m ρ hm))

end Cert.UpIdeal.Hand

end
-- ==== Proof.UpPre.lean ====
/- The precondition on the experts' counts, read: every count lies between zero and the number of the slots' rows. -/
module

public import proofs.«01_k».proof.Proof.UpRun
public import proofs.«01_k».proof.Proof.UpIdealRun
public import proofs.«01_k».proof.Pre_counts
public import Idealize.ShloMosaic.Lib.ReduceAll

@[expose] public section

set_option maxRecDepth 16384

noncomputable section

namespace Cert.UpV

open Idealize.ShloMosaic Idealize.ShloMosaic.TcCoe Idealize.SL.Sem

/-- The side conditions the precondition's operations state. -/
theorem preFacts : Cert.Pre_counts.Facts := ⟨by decide, by decide, by decide, by decide, by decide⟩

/-- A word that is signed nonnegative and signed at most a small bound is a number at most that bound. -/
theorem word_le (a : BitVec 32) (h0 : IntOp.cmpi .sge a 0#32 = 1#1) (h1 : IntOp.cmpi .sle a 33792#32 = 1#1) : a.toNat ≤ 33792 := by
  rcases Nat.lt_or_ge a.toNat (2 ^ 31) with ha | ha
  · by_contra hn
    have e : IntOp.cmpi .sle a 33792#32 = 0#1 := by
      simp only [IntOp.cmpi]
      have : a.sle 33792#32 = false := by
        rw [BitVec.sle_eq_decide, decide_eq_false_iff_not, BitVec.toInt_eq_toNat_of_lt (by omega)]
        have : (33792#32 : BitVec 32).toInt = 33792 := by decide
        omega
      simp [this]
    rw [e] at h1
    exact absurd h1 (by decide)
  · exfalso
    have e : IntOp.cmpi .sge a 0#32 = 0#1 := by
      have hz : (0#32 : BitVec 32).toInt = 0 := by decide
      have : (0#32 : BitVec 32).sle a = false := by
        rw [BitVec.sle_eq_decide, decide_eq_false_iff_not, hz, BitVec.toInt_eq_toNat_cond]
        have := a.isLt
        split <;> omega
      simp [IntOp.cmpi, this]
    rw [e] at h0
    exact absurd h0 (by decide)

/-- The bound of every count, from the precondition's word. -/
theorem bound_of_pre [hp : Cert.Pre_counts.Facts] {F : FTy → Type} [FloatOps F] (x : IVec Cert.Pre_counts.S8x128 32)
    (X : FVec F Cert.Pre_counts.S33792x1x4096 .f32) (W : FVec F Cert.Pre_counts.S2x32x4096x1024 .f32) (B : FVec F Cert.Pre_counts.S2x32x1024 .f32)
    (h : Cert.Pre_counts.fn (F := F) x X W B ix0 = 1#1) (i : Fin 32) : (x (ValueIdx.ix2 (0 : Fin 8) ⟨i.val, by omega⟩)).toNat ≤ 33792 := by
  dsimp only [Cert.Pre_counts.fn] at h
  obtain ⟨h1, h2⟩ := IntOp.andi_eq_one.1 h
  have g1 := Host.reduce_andi_all _ _ _ _ _ h1 (ValueIdx.ix1 i)
  have g2 := Host.reduce_andi_all _ _ _ _ _ h2 (ValueIdx.ix1 i)
  have ex : shapeCast Cert.Pre_counts.S32 (extractStridedSlice Cert.Pre_counts.S1x32 ![0, 0] x hp.slices_S8x128_S1x32_0_0) hp.shapeCasts_S1x32_S32
      (ValueIdx.ix1 i) = x (ValueIdx.ix2 (0 : Fin 8) ⟨i.val, by omega⟩) := by
    pointwise
    rfl
  rw [← ex]
  exact word_le _ g1 g2

/-- The kernel's counts are bounded. -/
theorem up_le [hp : Cert.Pre_counts.Facts] {F : FTy → Type} [FloatOps F] (x : IVec Cert.Pre_counts.S8x128 32)
    (X : FVec F Cert.Pre_counts.S33792x1x4096 .f32) (W : FVec F Cert.Pre_counts.S2x32x4096x1024 .f32) (B : FVec F Cert.Pre_counts.S2x32x1024 .f32)
    (h : Cert.Pre_counts.fn (F := F) x X W B = fun _ => 1#1) (i : ℕ) : Cert.Up.Hand.cnt x i ≤ 33792 := by
  unfold Cert.Up.Hand.cnt
  split
  case isTrue hi => exact bound_of_pre x X W B (congrFun h ix0) ⟨i, hi⟩
  case isFalse => exact Nat.zero_le _

/-- The idealized kernel's counts are bounded. -/
theorem upIdeal_le [hp : Cert.Pre_counts.Facts] {F : FTy → Type} [FloatOps F] (x : IVec Cert.Pre_counts.S8x128 32)
    (X : FVec F Cert.Pre_counts.S33792x1x4096 .f32) (W : FVec F Cert.Pre_counts.S2x32x4096x1024 .f32) (B : FVec F Cert.Pre_counts.S2x32x1024 .f32)
    (h : Cert.Pre_counts.fn (F := F) x X W B = fun _ => 1#1) (i : ℕ) : Cert.UpIdeal.Hand.cnt x i ≤ 33792 := by
  unfold Cert.UpIdeal.Hand.cnt
  split
  case isTrue hi => exact bound_of_pre x X W B (congrFun h ix0) ⟨i, hi⟩
  case isFalse => exact Nat.zero_le _

end Cert.UpV

end
-- ==== Proof.UpBlock.lean ====
/- What the first half of the experts leaves in its result: each step's block at an index, then the whole array. -/
module

public import proofs.«01_k».proof.Proof.UpIdealRun
public import Idealize.ShloMosaic.Lib.Pipeline.ArrRel

@[expose] public section

set_option maxRecDepth 16384

noncomputable section

namespace Cert.UpV

open Cert.UpIdeal Cert.UpIdeal.Gen Cert.UpIdeal.Hand Idealize.ShloMosaic Idealize.ShloMosaic.TcCoe Idealize.SL.Sem

/-- The clamped product of a gate and a linear part. -/
def glu (a b : EReal) : EReal :=
  min a (Ideal.ofBits .f32 0x40E00000#32) * Ideal.logistic (Ideal.ofBits .f32 0x3FD9DB23#32 * min a (Ideal.ofBits .f32 0x40E00000#32))
    * (min (Ideal.ofBits .f32 0x40E00000#32) (max (Ideal.ofBits .f32 0xC0E00000#32) b) + 1)

section
variable (x : Vec Ideal S256x1x4096 .f32) (w : Vec Ideal S1x1x4096x1024 .f32) (b : Vec Ideal S1x1x1x1024 .f32)

/-- What a load of 1024 columns reads … -/
theorem ldx (k : ℕ) (h) (r : Fin 256) (d : Fin 1024) (hk : k + d.val < 4096) :
    View.ld (k0_pay3 x) (rX k h) (ix2 r d) = x (ix3 r (0 : Fin 1) (⟨k + d.val, hk⟩ : Fin 4096)) := by
  rw [View.ld_unit_apply_of _ _ _ _ _ (ix2 r (⟨k + d.val, hk⟩ : Fin 4096)) (fun a => by fin_cases a <;> simp)]
  unfold k0_pay3
  pointwise

/-- … and of 1024 rows. -/
theorem ldw (k : ℕ) (h) (d e : Fin 1024) (hk : k + d.val < 4096) :
    View.ld w (rW k h) (ix4 (0 : Fin 1) (0 : Fin 1) d e) = w (ix4 (0 : Fin 1) (0 : Fin 1) (⟨k + d.val, hk⟩ : Fin 4096) e) := by
  rw [View.ld_unit_apply_of _ _ _ _ _ (ix4 (0 : Fin 1) (0 : Fin 1) (⟨k + d.val, hk⟩ : Fin 4096) e) (fun a => by fin_cases a <;> simp)]

/-- The bias plus the first two quarters of the products. -/
theorem pay4_apply (v13 : Vec Ideal S1x1x1x1024 .f32) (v17 : Vec Ideal S256x1024 .f32) (v19 : Vec Ideal S1x1x1024x1024 .f32) (v24 : Vec Ideal S256x1024 .f32) (v26 : Vec Ideal S1x1x1024x1024 .f32)
    (r : Fin 256) (j : Fin 1024) :
    k0_pay4 v13 v17 v19 v24 v26 (ix2 r j) = v13 (ix4 0 0 0 j) + (∑ d : Fin 1024, v17 (ix2 r d) * v19 (ix4 0 0 d j)) + (∑ d : Fin 1024, v24 (ix2 r d) * v26 (ix4 0 0 d j)) := by
  unfold k0_pay4
  pointwise

/-- The activation from the two columns' sums. -/
theorem pay1_apply (v30 : FVec Ideal S256x1024 .f32) (v31 : Vec Ideal S256x1024 .f32) (v33 : Vec Ideal S1x1x1024x1024 .f32) (v38 : Vec Ideal S256x1024 .f32) (v40 : Vec Ideal S1x1x1024x1024 .f32)
    (r : Fin 256) (e : Fin 512) (z : Fin 1024 → EReal)
    (hz : ∀ j, v30 (ix2 r j) + (∑ d : Fin 1024, v31 (ix2 r d) * v33 (ix4 0 0 d j)) + (∑ d : Fin 1024, v38 (ix2 r d) * v40 (ix4 0 0 d j)) = z j) :
    k0_pay1 v30 (k0_pay5 v31) (k0_pay6 v33) v38 v40 (ix2 r e) = glu (z ⟨e.val, by omega⟩) (z ⟨512 + e.val, by omega⟩) := by
  unfold k0_pay1 k0_pay5 k0_pay6
  pointwise
  rw [hz, hz]
  rfl

/-- One quarter of row `r`'s product with column `j`. -/
def part (k : ℕ) (hk : k + 1024 ≤ 4096) (f g : Fin 4096 → EReal) : EReal := ∑ d : Fin 1024, f ⟨k + d.val, by omega⟩ * g ⟨k + d.val, by omega⟩

/-- The bias plus the four quarters of a product, in the kernel's order. -/
def four (b : EReal) (f g : Fin 4096 → EReal) : EReal :=
  b + part 0 (by norm_num) f g + part 1024 (by norm_num) f g + part 2048 (by norm_num) f g + part 3072 (by norm_num) f g

/-- The activation of a block at an index. -/
theorem act_apply (r : Fin 256) (e : Fin 512) (f : Fin 4096 → EReal) (g : Fin 1024 → Fin 4096 → EReal) (c : Fin 1024 → EReal)
    (hx : ∀ d, x (ix3 r (0 : Fin 1) d) = f d) (hw : ∀ d j, w (ix4 (0 : Fin 1) (0 : Fin 1) d j) = g j d) (hb : ∀ j, b (ix4 (0 : Fin 1) (0 : Fin 1) (0 : Fin 1) j) = c j) :
    act x w b (ix2 r e) = glu (four (c ⟨e.val, by omega⟩) f (g ⟨e.val, by omega⟩)) (four (c ⟨512 + e.val, by omega⟩) f (g ⟨512 + e.val, by omega⟩)) := by
  unfold act
  refine pay1_apply _ _ _ _ _ r e (fun j => four (c j) f (g j)) fun j => ?_
  rw [pay4_apply]
  unfold four part
  rw [hb]
  refine congrArg₂ (· + ·) (congrArg₂ (· + ·) (congrArg₂ (· + ·) (congrArg₂ (· + ·) rfl ?_) ?_) ?_) ?_ <;>
    exact Finset.sum_congr rfl fun d _ => by rw [ldx _ _ _ _ _ (by omega), ldw _ _ _ _ _ (by omega), hx, hw]
end

/-- A step at row `r`: a flagged step overwrites the rows from its first row on. -/
theorem step_apply (l : ℕ) (hl : l < 2 ^ 31) (k : Prop) [Decidable k] (A Y : FVec Ideal S256x512 .bf16) (r : Fin 256) (e : Fin 512) :
    step (BitVec.ofNat 32 l) (BitVec.ofNat 32 (if k then 1 else 0)) A Y (ix2 r e) = if k ∧ l ≤ r.val then A (ix2 r e) else Y (ix2 r e) := by
  have h1 : (k0_cond1 (BitVec.ofNat 32 (if k then 1 else 0)) = 1#1) ↔ k := by
    by_cases hk : k
    · simp only [hk, if_true, iff_true]; decide
    · simp only [hk, if_false, iff_false]; decide
  have h2 : (k0_cond2 (BitVec.ofNat 32 l) = 1#1) ↔ l = 0 := by
    rw [← WordCmp.cmpi_eq_ofNat_eq_one_iff (w := 32) (a := l) (b := 0) (by norm_num; omega) (by norm_num)]
    simp only [k0_cond2]
    show (Scalar.cmpi .ne (Scalar.extui (IntOp.cmpi CmpIPredicate.eq (BitVec.ofNat 32 l) (BitVec.ofNat 32 0)) : BitVec 32) 0#32 = 1#1) ↔ _
    generalize IntOp.cmpi CmpIPredicate.eq (BitVec.ofNat 32 l) (BitVec.ofNat 32 0) = q
    clear hl; revert q; decide
  have h3 : (k0_cond3 (BitVec.ofNat 32 l) = 1#1) ↔ 0 < l := by
    rw [← WordCmp.cmpi_sgt_ofNat_eq_one_iff (w := 32) (a := l) (b := 0) (by norm_num; omega) (by norm_num)]
    simp only [k0_cond3]
    show (Scalar.cmpi .ne (Scalar.extui (IntOp.cmpi CmpIPredicate.sgt (BitVec.ofNat 32 l) (BitVec.ofNat 32 0)) : BitVec 32) 0#32 = 1#1) ↔ _
    generalize IntOp.cmpi CmpIPredicate.sgt (BitVec.ofNat 32 l) (BitVec.ofNat 32 0) = q
    clear hl; revert q; decide
  unfold step
  rw [if_congr h1 rfl rfl]
  by_cases hk : k
  · rw [if_pos hk]
    by_cases hz : l = 0
    · rw [if_neg (by rw [h3]; omega), if_pos (h2.2 hz), if_pos ⟨hk, by omega⟩]
    · rw [if_pos (h3.2 (by omega)), if_neg (fun hh => hz (h2.1 hh))]
      pointwise
      have hc := WordCmp.cmpi_sge_ofNat_eq_one_iff (w := 32) (a := r.val) (b := l) (by have := r.isLt; norm_num; omega) (by norm_num; omega)
      unfold Scalar.select
      exact if_congr (hc.trans ⟨fun h => ⟨hk, h⟩, fun h => h.2⟩) rfl rfl
  · rw [if_neg hk, if_neg (fun hh => hk hh.1)]

/-! ## The blocks a step reads and writes -/

variable (m : (ℓ : Loc nD τ sig) → Buf (Elt Ideal) ℓ) (hm : ∀ i, cnt (cw m) i ≤ 33792)

/-- The numbers of the plan: an expert's rows, and the sorted break points. -/
abbrev nf : ℕ → ℕ := cnt (cw m)
abbrev nb : ℕ → ℕ := brk (cw m)

/-- A step's number. -/
theorem coord (t : Fin (cfg0 (adm m hm)).N) : (grid0.coords t 0).val = t.val :=
  (by decide +kernel : ∀ t : Fin grid0.N, (grid0.coords t 0).val = t.val) t

theorem lt_164 (t : Fin (cfg0 (adm m hm)).N) : t.val < 164 := by
  have := (grid0.coords t 0).isLt
  rw [coord m hm t] at this
  exact this

theorem ix_0 (t : Fin (cfg0 (adm m hm)).N) : (pcfg0.win (adm m hm) 0).index t = ![Plan.tile (nb m) t.val, 0, 0] := by
  refine (tr0 (tbl m) (grid0.coords t)).trans ?_
  rw [tbl_0, toNat_wd (m := m) hm (w17_holds _ hm) _ (lt_trans (Plan.tile_lt _ _) (by norm_num)), coord m hm t]
theorem ix_1 (t : Fin (cfg0 (adm m hm)).N) : (pcfg0.win (adm m hm) 1).index t = ![0, Plan.seg (nf m) (nb m) t.val, 0, 0] := by
  refine (tr1 (tbl m) (grid0.coords t)).trans ?_
  rw [tbl_1, toNat_wd (m := m) hm (w26_holds _ hm) _ (lt_trans (Plan.expert_lt _ _) (by norm_num)), coord m hm t]
theorem ix_2 (t : Fin (cfg0 (adm m hm)).N) : (pcfg0.win (adm m hm) 2).index t = ![0, Plan.seg (nf m) (nb m) t.val, 0, 0] := by
  refine (tr2 (tbl m) (grid0.coords t)).trans ?_
  rw [tbl_1, toNat_wd (m := m) hm (w26_holds _ hm) _ (lt_trans (Plan.expert_lt _ _) (by norm_num)), coord m hm t]
theorem ix_3 (t : Fin (cfg0 (adm m hm)).N) : (pcfg0.win (adm m hm) 3).index t = ![Plan.tile (nb m) t.val, 0] := by
  refine (tr3 (tbl m) (grid0.coords t)).trans ?_
  rw [tbl_0, toNat_wd (m := m) hm (w17_holds _ hm) _ (lt_trans (Plan.tile_lt _ _) (by norm_num)), coord m hm t]

/-- Row `r` of step `t`'s tile. -/
def pn (t : Fin (cfg0 (adm m hm)).N) (r : Fin 256) : Fin 33792 :=
  ⟨256 * Plan.tile (nb m) t.val + r.val, by have := r.isLt; have := Plan.tile_lt (nb m) t.val; omega⟩

/-- Step `t`'s expert. -/
def pe (t : Fin (cfg0 (adm m hm)).N) : Fin 32 := ⟨Plan.seg (nf m) (nb m) t.val, Plan.expert_lt _ _⟩

/-- Where step `t` reads its rows … -/
theorem x_at (c : Dev nD) (t : Fin (cfg0 (adm m hm)).N) (r : Fin 256) (d : Fin 4096) :
    (show FVec Ideal S256x1x4096 .f32 from iblk (adm m hm) (V m) c 0 t) (ix3 r (0 : Fin 1) d) = (m ((c : Thread nD τ).loc main_arg1)) (ix3 (pn m hm t r) (0 : Fin 1) d) := by
  show iblk (adm m hm) (V m) c 0 t _ = _
  rw [← V_main_arg1 m c]
  blk_ext [iblk, pn]
  · exact (congrArg (fun n : ℕ => n * 256 + r.val) (congrFun (ix_0 m hm t) (0 : Fin 3))).trans (by show Plan.tile (nb m) t.val * 256 + r.val = _; omega)
  · exact congrArg (fun n : ℕ => n + 0) (congrFun (ix_0 m hm t) (1 : Fin 3))
  · exact (congrArg (fun n : ℕ => n * 4096 + d.val) (congrFun (ix_0 m hm t) (2 : Fin 3))).trans (by show 0 * 4096 + d.val = _; omega)

/-- … its expert's weights … -/
theorem w_at (c : Dev nD) (t : Fin (cfg0 (adm m hm)).N) (d : Fin 4096) (j : Fin 1024) :
    (show FVec Ideal S1x1x4096x1024 .f32 from iblk (adm m hm) (V m) c 1 t) (ix4 (0 : Fin 1) (0 : Fin 1) d j) = (m ((c : Thread nD τ).loc main_arg2)) (ix4 (0 : Fin 2) (pe m hm t) d j) := by
  show iblk (adm m hm) (V m) c 1 t _ = _
  rw [← V_main_arg2 m c]
  blk_ext [iblk, pe]
  · exact congrArg (fun n : ℕ => n + 0) (congrFun (ix_1 m hm t) (0 : Fin 4))
  · exact congrArg (fun n : ℕ => n + 0) (congrFun (ix_1 m hm t) (1 : Fin 4))
  · exact (congrArg (fun n : ℕ => n * 4096 + d.val) (congrFun (ix_1 m hm t) (2 : Fin 4))).trans (by show 0 * 4096 + d.val = _; omega)
  · exact (congrArg (fun n : ℕ => n * 1024 + j.val) (congrFun (ix_1 m hm t) (3 : Fin 4))).trans (by show 0 * 1024 + j.val = _; omega)

/-- … and bias. -/
theorem b_at (c : Dev nD) (t : Fin (cfg0 (adm m hm)).N) (j : Fin 1024) :
    (show FVec Ideal S1x1x1x1024 .f32 from iblk (adm m hm) (V m) c 2 t) (ix4 (0 : Fin 1) (0 : Fin 1) (0 : Fin 1) j) = (m ((c : Thread nD τ).loc main_arg3)) (ix3 (0 : Fin 2) (pe m hm t) j) := by
  have hb : (V m c main_v30) (ix4 (0 : Fin 2) (pe m hm t) (0 : Fin 1) j) = (m ((c : Thread nD τ).loc main_arg3)) (ix3 (0 : Fin 2) (pe m hm t) j) := by
    rw [V_main_v30]
    pointwise
  rw [← hb]
  show iblk (adm m hm) (V m) c 2 t _ = _
  blk_ext [iblk, pe]
  · exact congrArg (fun n : ℕ => n + 0) (congrFun (ix_2 m hm t) (0 : Fin 4))
  · exact congrArg (fun n : ℕ => n + 0) (congrFun (ix_2 m hm t) (1 : Fin 4))
  · exact congrArg (fun n : ℕ => n + 0) (congrFun (ix_2 m hm t) (2 : Fin 4))
  · exact (congrArg (fun n : ℕ => n * 1024 + j.val) (congrFun (ix_2 m hm t) (3 : Fin 4))).trans (by show 0 * 1024 + j.val = _; omega)

/-! ## The result -/

attribute [local irreducible] brk cnt Plan.tile Plan.lo Plan.seg Plan.expert

/-- The sum of row `g` of `X` against column `j` of expert `u`'s weights, with its bias. -/
def hid (X : FVec Ideal S33792x1x4096 .f32) (W : FVec Ideal S2x32x4096x1024 .f32) (B : FVec Ideal S2x32x1024 .f32)
    (u : Fin 32) (g : Fin 33792) (j : Fin 1024) : EReal :=
  four (B (ix3 (0 : Fin 2) u j)) (fun d => X (ix3 g (0 : Fin 1) d)) (fun d => W (ix4 (0 : Fin 2) u d j))

/-- The activation of row `g` at column `e`, under the expert whose row it is. -/
def val (f : ℕ → ℕ) (X : FVec Ideal S33792x1x4096 .f32) (W : FVec Ideal S2x32x4096x1024 .f32) (B : FVec Ideal S2x32x1024 .f32)
    (g : Fin 33792) (e : Fin 512) : EReal :=
  glu (hid X W B ⟨Plan.expert f g.val, Plan.expert_lt _ _⟩ g ⟨e.val, by omega⟩) (hid X W B ⟨Plan.expert f g.val, Plan.expert_lt _ _⟩ g ⟨512 + e.val, by omega⟩)

/-- The whole result array. -/
def G (f : ℕ → ℕ) (X : FVec Ideal S33792x1x4096 .f32) (W : FVec Ideal S2x32x4096x1024 .f32) (B : FVec Ideal S2x32x1024 .f32) :
    FVec Ideal S33792x512 .bf16 := fun j => val f X W B (j 0) (j 1)

/-- What a step's activation holds at a row of its expert. -/
theorem actAt_apply (c : Dev nD) (t : Fin (cfg0 (adm m hm)).N) (r : Fin 256) (e : Fin 512)
    (hu : Plan.seg (nf m) (nb m) t.val = Plan.expert (nf m) (pn m hm t r).val) :
    actAt (adm m hm) (V m) c t (ix2 r e)
      = val (nf m) (m ((c : Thread nD τ).loc main_arg1)) (m ((c : Thread nD τ).loc main_arg2)) (m ((c : Thread nD τ).loc main_arg3)) (pn m hm t r) e := by
  have hp : (⟨Plan.expert (nf m) (pn m hm t r).val, Plan.expert_lt _ _⟩ : Fin 32) = pe m hm t := Fin.ext hu.symm
  unfold actAt val
  rw [hp]
  exact act_apply (iblk (adm m hm) (V m) c 0 t) (iblk (adm m hm) (V m) c 1 t) (iblk (adm m hm) (V m) c 2 t) r e
    (fun d => (m ((c : Thread nD τ).loc main_arg1)) (ix3 (pn m hm t r) (0 : Fin 1) d))
    (fun j d => (m ((c : Thread nD τ).loc main_arg2)) (ix4 (0 : Fin 2) (pe m hm t) d j))
    (fun j => (m ((c : Thread nD τ).loc main_arg3)) (ix3 (0 : Fin 2) (pe m hm t) j))
    (fun d => x_at m hm c t r d) (fun d j => w_at m hm c t d j) (fun j => b_at m hm c t j)

/-- Segment `u` holds row `g`, and is of the row's tile and expert. -/
def Own (u g : ℕ) : Prop :=
  u < 164 ∧ Plan.lo (nb m) u ≤ g ∧ g < nb m u ∧ Plan.tile (nb m) u = g / 256 ∧ Plan.seg (nf m) (nb m) u = Plan.expert (nf m) g

theorem off_le (t : ℕ) : 256 * Plan.tile (nb m) t ≤ Plan.lo (nb m) t := by
  unfold Plan.tile; omega

/-- A step at an index of its block. -/
theorem after_apply (c : Dev nD) (t : Fin (cfg0 (adm m hm)).N) (Y : FVec Ideal S256x512 .bf16) (r : Fin 256) (e : Fin 512) :
    step (wd ((adm m hm).1 2) (grid0.coords t)) (wd ((adm m hm).1 3) (grid0.coords t)) (actAt (adm m hm) (V m) c t) Y (ix2 r e)
      = if Plan.lo (nb m) t.val < nb m t.val ∧ Plan.lo (nb m) t.val - 256 * Plan.tile (nb m) t.val ≤ r.val
          then actAt (adm m hm) (V m) c t (ix2 r e) else Y (ix2 r e) := by
  have ht := lt_164 m hm t
  have e2 : wd ((adm m hm).1 2) (grid0.coords t) = BitVec.ofNat 32 (Plan.lo (nb m) t.val - 256 * Plan.tile (nb m) t.val) := by
    have h := w29_holds (cw m) hm ⟨(grid0.coords t 0).val, (grid0.coords t 0).isLt⟩
    have h0 : (adm m hm).1 2 = w29 (cw m) := tbl_2 m
    rw [h0]
    refine h.trans ?_
    show BitVec.ofNat 32 (Plan.lo (nb m) (grid0.coords t 0).val - 256 * Plan.tile (nb m) (grid0.coords t 0).val) = _
    rw [coord m hm t]
  have e3 : wd ((adm m hm).1 3) (grid0.coords t) = BitVec.ofNat 32 (if Plan.lo (nb m) t.val < nb m t.val then 1 else 0) := by
    have h := w14_holds (cw m) hm ⟨(grid0.coords t 0).val, (grid0.coords t 0).isLt⟩
    have h0 : (adm m hm).1 3 = w14 (cw m) := tbl_3 m
    rw [h0]
    refine h.trans ?_
    show BitVec.ofNat 32 (if Plan.lo (nb m) (grid0.coords t 0).val < nb m (grid0.coords t 0).val then 1 else 0) = _
    rw [coord m hm t]
  rw [e2, e3]
  refine step_apply _ ?_ _ _ _ r e
  have h : Plan.lo (nb m) t.val ≤ 1081344 := (sorted (cw m) hm).lo_le t.val ht
  omega

/-- A step is written back if its tile is not the next step's, or it is the last. -/
theorem flush_of (t : Fin (cfg0 (adm m hm)).N) (h : ∀ h : t.val + 1 < 164, Plan.tile (nb m) (t.val + 1) ≠ Plan.tile (nb m) t.val) :
    ((cfg0 (adm m hm)).win 3).flush t = true := by
  rw [Pipeline.Window.flush_out _ rfl]
  by_cases hl : t.val + 1 < 164
  · refine Or.inr ⟨hl, fun he => h hl ?_⟩
    have e1 := ix_3 m hm t
    have e2 := ix_3 m hm ⟨t.val + 1, hl⟩
    exact congrFun ((e2.symm.trans he).trans e1) (0 : Fin 2)
  · exact Or.inl (by show t.val + 1 = 164; have := lt_164 m hm t; omega)

theorem tile_of_flush (t : Fin (cfg0 (adm m hm)).N) (h : ((cfg0 (adm m hm)).win 3).flush t = true) (hl : t.val + 1 < 164) :
    Plan.tile (nb m) (t.val + 1) ≠ Plan.tile (nb m) t.val := by
  rw [Pipeline.Window.flush_out _ rfl] at h
  intro he
  rcases h with h | ⟨h, hfl⟩
  · have h164 : t.val + 1 = 164 := h
    omega
  · refine hfl ?_
    have e1 := ix_3 m hm t
    have e2 := ix_3 m hm ⟨t.val + 1, hl⟩
    refine (e2.trans ?_).trans e1.symm
    show ![Plan.tile (nb m) (t.val + 1), 0] = ![Plan.tile (nb m) t.val, 0]
    rw [he]

/-- What a step that continues its tile finds is what the step before left. -/
theorem finds_left (c : Dev nD) (t s : Fin (cfg0 (adm m hm)).N) (hs : s.val + 1 = t.val) (he : Plan.tile (nb m) t.val = Plan.tile (nb m) s.val)
    (Y : FVec Ideal S256x512 .bf16) (hY : (rdat (adm m hm) (V m) c).Finds 3 t Y) : (rdat (adm m hm) (V m) c).Leaves 3 s Y := by
  have hfe : ((cfg0 (adm m hm)).win 3).fetch t = false := rfl
  have hst : (⟨t.val - 1, Nat.lt_of_le_of_lt (Nat.sub_le _ _) t.isLt⟩ : Fin (cfg0 (adm m hm)).N) = s := Fin.ext (by show t.val - 1 = s.val; omega)
  have h := ((rdat (adm m hm) (V m) c).finds_of_pos hfe (by omega) Y).1 hY
  rw [hst] at h
  rcases h with h | h
  · exact absurd (by rw [hs]; exact he) (tile_of_flush m hm s h (by have := lt_164 m hm t; omega))
  · exact h

/-- What a step leaves, from what it finds. -/
theorem left_of (c : Dev nD) (t : Fin (cfg0 (adm m hm)).N) (X : FVec Ideal S256x512 .bf16) (hX : (rdat (adm m hm) (V m) c).Leaves 3 t X) :
    ∃ Y : FVec Ideal S256x512 .bf16, (rdat (adm m hm) (V m) c).Finds 3 t Y ∧ ∀ (r : Fin 256) (e : Fin 512), X (ix2 r e)
      = if Plan.lo (nb m) t.val < nb m t.val ∧ Plan.lo (nb m) t.val - 256 * Plan.tile (nb m) t.val ≤ r.val
          then actAt (adm m hm) (V m) c t (ix2 r e) else Y (ix2 r e) := by
  obtain ⟨Y, hY, hXY⟩ := hX
  have h := (after_3 (adm m hm) (V m) c t Y X).1 hXY
  exact ⟨Y, hY, fun r e => (congrFun h _).trans (after_apply m hm c t Y r e)⟩

/-- After step `t` every row of its tile that a segment up to `t` holds has its activation. -/
theorem leaves_apply (c : Dev nD) (n : ℕ) : ∀ (t : Fin (cfg0 (adm m hm)).N) (ht : t.val = n) (X : FVec Ideal S256x512 .bf16),
    (rdat (adm m hm) (V m) c).Leaves 3 t X → ∀ (r : Fin 256) (e : Fin 512) (u : ℕ), u ≤ n → Own m u (pn m hm t r).val →
      X (ix2 r e) = val (nf m) (m ((c : Thread nD τ).loc main_arg1)) (m ((c : Thread nD τ).loc main_arg2)) (m ((c : Thread nD τ).loc main_arg3)) (pn m hm t r) e := by
  induction n with
  | zero =>
    intro t ht X hX r e u hu hO
    obtain ⟨Y, hY, hXY⟩ := left_of m hm c t X hX
    obtain ⟨hu1, hu2, hu3, hu4, hu5⟩ := hO
    obtain rfl : u = t.val := by omega
    have hg : (pn m hm t r).val = 256 * Plan.tile (nb m) t.val + r.val := rfl
    rw [hXY, if_pos ⟨by omega, by omega⟩]
    exact actAt_apply m hm c t r e hu5
  | succ n ih =>
    intro t ht X hX r e u hu hO
    obtain ⟨Y, hY, hXY⟩ := left_of m hm c t X hX
    obtain ⟨hu1, hu2, hu3, hu4, hu5⟩ := hO
    have hg : (pn m hm t r).val = 256 * Plan.tile (nb m) t.val + r.val := rfl
    have ht164 := lt_164 m hm t
    have hr := r.isLt
    have hoff := off_le m t.val
    by_cases hut : u = t.val
    · subst hut
      rw [hXY, if_pos ⟨by omega, by omega⟩]
      exact actAt_apply m hm c t r e hu5
    · have hS : Plan.Sorted (nf m) (nb m) := sorted (cw m) hm
      have hb : nb m u ≤ Plan.lo (nb m) t.val := hS.le_lo_of_lt u t.val (by omega) ht164
      rw [hXY, if_neg (fun hh => by have h2 := hh.2; omega)]
      have htile : Plan.tile (nb m) u = Plan.tile (nb m) t.val := by omega
      have hn : n < (cfg0 (adm m hm)).N := by have := t.isLt; omega
      have h1 : Plan.tile (nb m) u ≤ Plan.tile (nb m) n := hS.tile_mono u n (by omega) (by omega)
      have h2 : Plan.tile (nb m) n ≤ Plan.tile (nb m) t.val := hS.tile_mono n t.val (by omega) (by omega)
      have hL := finds_left m hm c t ⟨n, hn⟩ ht.symm (by show Plan.tile (nb m) t.val = Plan.tile (nb m) n; omega) Y hY
      have hp : pn m hm ⟨n, hn⟩ r = pn m hm t r := Fin.ext (by
        rw [hg]; show 256 * Plan.tile (nb m) n + r.val = _; omega)
      have := ih ⟨n, hn⟩ rfl Y hL r e u (by omega) (by rw [hp]; exact ⟨hu1, hu2, hu3, hu4, hu5⟩)
      rw [hp] at this
      exact this

/-- At a written-back step every row of the tile has its activation. -/
theorem flushed (c : Dev nD) (t : Fin (cfg0 (adm m hm)).N) (hf : ((cfg0 (adm m hm)).win 3).flush t = true) (X : FVec Ideal S256x512 .bf16)
    (hX : (rdat (adm m hm) (V m) c).Leaves 3 t X) (r : Fin 256) (e : Fin 512) :
    X (ix2 r e) = val (nf m) (m ((c : Thread nD τ).loc main_arg1)) (m ((c : Thread nD τ).loc main_arg2)) (m ((c : Thread nD τ).loc main_arg3)) (pn m hm t r) e := by
  have hS : Plan.Sorted (nf m) (nb m) := sorted (cw m) hm
  obtain ⟨u, h1, h2, h3, h4, h5⟩ := hS.owner (pn m hm t r).val (pn m hm t r).isLt
  have ht := lt_164 m hm t
  have hr := r.isLt
  have hg : (pn m hm t r).val = 256 * Plan.tile (nb m) t.val + r.val := rfl
  refine leaves_apply m hm c t.val t rfl X hX r e u ?_ ⟨h1, h2, h3, h4, h5⟩
  by_contra hc
  have hne := tile_of_flush m hm t hf (by omega)
  have h6 : Plan.tile (nb m) t.val ≤ Plan.tile (nb m) (t.val + 1) := hS.tile_mono _ _ (by omega) (by omega)
  have h7 : Plan.tile (nb m) (t.val + 1) ≤ Plan.tile (nb m) u := hS.tile_mono _ _ (by omega) (by omega)
  omega

/-- Every tile has a written-back step. -/
theorem tile_flushed (k : ℕ) (hk : k < 132) : ∃ t : Fin (cfg0 (adm m hm)).N, ((cfg0 (adm m hm)).win 3).flush t = true ∧ Plan.tile (nb m) t.val = k := by
  classical
  have hS : Plan.Sorted (nf m) (nb m) := sorted (cw m) hm
  obtain ⟨u, h1, -, -, h4, -⟩ := hS.owner (256 * k) (by omega)
  have h4' : Plan.tile (nb m) u = k := by omega
  obtain ⟨v, ⟨hv, hvk⟩, hmax⟩ : ∃ v, (v < 164 ∧ Plan.tile (nb m) v = k) ∧ ∀ w, w < 164 → Plan.tile (nb m) w = k → w ≤ v := by
    refine ⟨Nat.findGreatest (fun v => v < 164 ∧ Plan.tile (nb m) v = k) 164, Nat.findGreatest_spec (P := fun v => v < 164 ∧ Plan.tile (nb m) v = k) (m := u) (by omega) ⟨h1, h4'⟩, fun w hw hwk => ?_⟩
    exact Nat.le_findGreatest (by omega) ⟨hw, hwk⟩
  refine ⟨⟨v, hv⟩, flush_of m hm ⟨v, hv⟩ fun hl he => ?_, hvk⟩
  have := hmax (v + 1) hl (he.trans hvk)
  omega

/-- The written-back blocks cover the result. -/
theorem covers : ((cfg0 (adm m hm)).win 3).Covers := by
  refine ⟨fun a => ?_, fun β => ?_⟩
  · exact (by decide : ∀ a : Fin 2, 0 < ![256, 512] a) a
  · have h0 : (β (0 : Fin 2)).val < 132 := lt_of_lt_of_eq (β (0 : Fin 2)).isLt (by unfold Pipeline.Window.nblk; exact (show (33792 + 256 - 1) / 256 = 132 by norm_num))
    have h1 : (β (1 : Fin 2)).val < 1 := lt_of_lt_of_eq (β (1 : Fin 2)).isLt (by unfold Pipeline.Window.nblk; exact (show (512 + 512 - 1) / 512 = 1 by norm_num))
    obtain ⟨t, hf, ht⟩ := tile_flushed m hm _ h0
    refine ⟨t, hf, fun a => ⟨?_, Or.inl ?_⟩⟩
    · match a with
      | ⟨0, _⟩ => exact (congrFun (ix_3 m hm t) (0 : Fin 2)).trans ht
      | ⟨1, _⟩ => exact (congrFun (ix_3 m hm t) (1 : Fin 2)).trans (show 0 = (β (1 : Fin 2)).val by omega)
    · match a with
      | ⟨0, _⟩ => rfl
      | ⟨1, _⟩ => rfl

/-- Where step `t` writes. -/
theorem emb_3 (t : Fin (cfg0 (adm m hm)).N) (y : S256x512.Idx) :
    ((((cfg0 (adm m hm)).win 3).blk t).view.emb y : S33792x512.Idx) = ix2 (pn m hm t (y 0)) (y 1) := by
  funext a
  match a with
  | ⟨0, _⟩ =>
    apply Fin.ext
    show _ = 256 * Plan.tile (nb m) t.val + (y 0).val
    blk_simp
    exact (congrArg (fun n : ℕ => n * 256 + (y 0).val) (congrFun (ix_3 m hm t) (0 : Fin 2))).trans (by show Plan.tile (nb m) t.val * 256 + (y 0).val = _; omega)
  | ⟨1, _⟩ =>
    apply Fin.ext
    show _ = (y 1).val
    blk_simp
    exact (congrArg (fun n : ℕ => n * 512 + (y 1).val) (congrFun (ix_3 m hm t) (1 : Fin 2))).trans (by show 0 * 512 + (y 1).val = _; omega)

/-- The result array after the run. -/
theorem result (c : Dev nD) (r : PUnit × MemSt nD τ sig (Elt Ideal)) (h : Pipeline.RDat.FramePost (cfg0 (adm m hm)) (rdat (adm m hm) (V m)) (V m) r) :
    r.2.mem ((c : Thread nD τ).loc main_v31)
      = G (nf m) (m ((c : Thread nD τ).loc main_arg1)) (m ((c : Thread nD τ).loc main_arg2)) (m ((c : Thread nD τ).loc main_arg3)) := by
  obtain ⟨after, hL, hA⟩ := h.exists_exact c
  refine (hA 3).trans ?_
  refine ((rdat (adm m hm) (V m) c).withAfter after).arrAt_eq_of_covers 3 _ (covers m hm) fun t hf y => ?_
  have key : ∀ y : S256x512.Idx, after 3 t y
      = G (nf m) (m ((c : Thread nD τ).loc main_arg1)) (m ((c : Thread nD τ).loc main_arg2)) (m ((c : Thread nD τ).loc main_arg3))
          ((((cfg0 (adm m hm)).win 3).blk t).view.emb y) := fun y => by
    have hX := flushed m hm c t hf (after 3 t) (hL 3 t hf) (y 0) (y 1)
    have hy : y = ix2 (y 0) (y 1) := by funext a; fin_cases a <;> rfl
    refine (congrArg (after 3 t) hy).trans ?_
    exact hX.trans (congrArg (G (nf m) (m ((c : Thread nD τ).loc main_arg1)) (m ((c : Thread nD τ).loc main_arg2)) (m ((c : Thread nD τ).loc main_arg3))) (emb_3 m hm t y)).symm
  exact key y

end Cert.UpV

end
-- ==== Proof.UpRef.lean ====
/- The experts' reference, read at an index: the array the kernel leaves. -/
module

public import proofs.«01_k».proof.Proof.UpBlock
public import proofs.«01_k».proof.Proof.OutRef
public import proofs.«01_k».proof.Proof.Gen.UpRefIdeal.Read

@[expose] public section

set_option maxRecDepth 16384

noncomputable section

namespace Cert.UpV

open Idealize.ShloMosaic Idealize.ShloMosaic.TcCoe Idealize.SL.Sem Cert.UpRefIdeal.Read
open Cert.UpIdeal.Hand (cnt w1 w1_holds)

/-- A product is the sum of its four quarters. -/
theorem sum_parts (f g : Fin 4096 → EReal) :
    ∑ k, f k * g k = part 0 (by norm_num) f g + part 1024 (by norm_num) f g + part 2048 (by norm_num) f g + part 3072 (by norm_num) f g := by
  have h : ∀ (p : ℕ) (hp : p + 1024 ≤ 4096), part p hp f g = ∑ d : Fin 1024, f (Fin.ofNat 4096 (p + d.val)) * g (Fin.ofNat 4096 (p + d.val)) := fun p hp =>
    Finset.sum_congr rfl fun d _ => by
      have hk : (⟨p + d.val, by omega⟩ : Fin 4096) = Fin.ofNat 4096 (p + d.val) :=
        Fin.ext (by show p + d.val = (p + d.val) % 4096; have := d.isLt; omega)
      rw [hk]
  rw [h, h, h, h]
  exact Cert.Out.sum_quarters fun k => f k * g k

/-- The bias first or the product first. -/
theorem four_eq (b : EReal) (f g : Fin 4096 → EReal) : four b f g = ∑ k, f k * g k + b := by
  rw [sum_parts, four]
  abel

variable (x : IVec Cert.UpRefIdeal.S8x128 32) (X : FVec Ideal Cert.UpRefIdeal.S33792x1x4096 .f32) (W : FVec Ideal Cert.UpRefIdeal.S2x32x4096x1024 .f32)
  (B : FVec Ideal Cert.UpRefIdeal.S2x32x1024 .f32)

/-! ## Whose row a row is -/

section
variable (hx : ∀ i, cnt x i ≤ 33792)

theorem ends_at : Plan.Holds (n := 32) (val_main_v3 (F := Ideal) x) (Plan.ends (cnt x)) :=
  Plan.ends_holds _ (w1_holds x) _ rfl _ _

include hx in
/-- The expert of a row. -/
theorem owner_at (g : Fin 33792) : val_main_v13 (F := Ideal) x (ValueIdx.ix1 g) = BitVec.ofNat 32 (Plan.expert (cnt x) g.val) := by
  have hg := g.isLt
  have hc : val_main_v11 (F := Ideal) x (ValueIdx.ix1 g) = BitVec.ofNat 32 (Nat.count (fun j => Plan.ends (cnt x) j ≤ g.val) 32) := by
    unfold val_main_v11 val_main_v10
    refine Routing.reduce_count (n := 33792) (m := 32) (by norm_num) (val_main_v9 (F := Ideal) x) (by norm_num) _ _ g _ fun q => ?_
    have h3 := Plan.ends_le (cnt x) hx q.val q.isLt
    have e := ends_at x q
    have e7 : val_main_v7 (F := Ideal) x (ValueIdx.ix2 g q) = BitVec.ofNat 32 (Plan.ends (cnt x) q.val) := by
      rw [val_main_v7_apply, val_main_v5_apply]
      exact (congrArg (val_main_v3 (F := Ideal) x) (funext fun a => by match a with | ⟨0, _⟩ => rfl)).trans e
    have e8 : val_main_v8 (F := Ideal) (ValueIdx.ix2 g q) = BitVec.ofNat 32 g.val := by
      rw [val_main_v8_apply, val_main_v6_apply, val_main_v4_apply]
    rw [val_main_v9_apply, e7, e8]
    exact WordCmp.cmpi_sle_ofNat_eq_one_iff (by norm_num; omega) (by norm_num; omega)
  have h5 := Nat.count_le (p := fun j => Plan.ends (cnt x) j ≤ g.val) (n := 32)
  rw [val_main_v13_apply, val_main_v12_apply]
  refine (congrArg (fun w => IntOp.minsi w (BitVec.ofNat 32 31)) hc).trans ?_
  rw [PlanTiles.minsi_word (by norm_num; omega) (by norm_num)]
  show BitVec.ofNat 32 (min 31 (Nat.count _ 32)) = BitVec.ofNat 32 (min (Nat.count _ 32) 31)
  rw [min_comm]

include hx in
/-- The mask marks a row's own expert. -/
theorem mask_at (g : Fin 33792) (u : Fin 32) : val_main_v19 (F := Ideal) x (ix2 g u) = 1#1 ↔ Plan.expert (cnt x) g.val = u.val := by
  have he := Plan.expert_lt (cnt x) g.val
  have hu := u.isLt
  have e17 : val_main_v17 (F := Ideal) x (ix2 g u) = BitVec.ofNat 32 (Plan.expert (cnt x) g.val) := by
    rw [val_main_v17_apply, val_main_v14_apply, ← owner_at x hx g]
    exact congrArg (val_main_v13 (F := Ideal) x) (funext fun a => by match a with | ⟨0, _⟩ => rfl)
  have e18 : val_main_v18 (F := Ideal) (ix2 g u) = BitVec.ofNat 32 u.val := by
    rw [val_main_v18_apply, val_main_v16_apply, val_main_v15_apply]; rfl
  rw [val_main_v19_apply, e17, e18]
  exact WordCmp.cmpi_eq_ofNat_eq_one_iff (by norm_num; omega) (by norm_num; omega)
end

/-! ## Every expert's activation of a row -/

theorem row_at (g : Fin 33792) (k : Fin 4096) : val_main_v0 (F := Ideal) X (ix2 g k) = X (ix3 g (0 : Fin 1) k) := by
  have hg := g.isLt
  have hk := k.isLt
  rw [val_main_v0_apply]
  refine congrArg X (funext fun a => Fin.ext ?_)
  match a with
  | ⟨0, _⟩ => show (g.val * 4096 + k.val) / 4096 = g.val; omega
  | ⟨1, _⟩ => rfl
  | ⟨2, _⟩ => show (g.val * 4096 + k.val) % 4096 = k.val; omega

theorem weight_at (u : Fin 32) (k : Fin 4096) (j : Fin 1024) : val_main_v21 (F := Ideal) W (ix3 u k j) = W (ix4 (0 : Fin 2) u k j) := by
  have hu := u.isLt
  have hk := k.isLt
  have hj := j.isLt
  rw [val_main_v21_apply, val_main_v20_apply]
  refine congrArg W (funext fun a => Fin.ext ?_)
  match a with
  | ⟨0, _⟩ => rfl
  | ⟨1, _⟩ => show ((u.val * 4096 + k.val) * 1024 + j.val) / 4194304 % 32 = u.val; omega
  | ⟨2, _⟩ => show ((u.val * 4096 + k.val) * 1024 + j.val) / 1024 % 4096 = k.val; omega
  | ⟨3, _⟩ => show ((u.val * 4096 + k.val) * 1024 + j.val) % 1024 = j.val; omega

theorem bias_at (g : Fin 33792) (u : Fin 32) (j : Fin 1024) : val_main_v26 (F := Ideal) B (ix3 g u j) = B (ix3 (0 : Fin 2) u j) := by
  have hu := u.isLt
  have hj := j.isLt
  rw [val_main_v26_apply, val_main_v25_apply, val_main_v24_apply, val_main_v23_apply]
  refine congrArg B (funext fun a => Fin.ext ?_)
  match a with
  | ⟨0, _⟩ => rfl
  | ⟨1, _⟩ => show (u.val * 1024 + j.val) / 1024 % 32 = u.val; omega
  | ⟨2, _⟩ => show (u.val * 1024 + j.val) % 1024 = j.val; omega

theorem hid_at (g : Fin 33792) (u : Fin 32) (j : Fin 1024) : val_main_v27 (F := Ideal) X W B (ix3 g u j) = hid X W B u g j := by
  have hl : ∀ k : Fin 4096, lidx_main_v22 (ix3 g u j) k = ix2 g k := fun k => funext fun a => by
    match a with
    | ⟨0, _⟩ => rfl
    | ⟨1, _⟩ => rfl
  have hr : ∀ k : Fin 4096, ridx_main_v22 (ix3 g u j) k = ix3 u k j := fun k => funext fun a => by
    match a with
    | ⟨0, _⟩ => rfl
    | ⟨1, _⟩ => rfl
    | ⟨2, _⟩ => rfl
  rw [val_main_v27_apply, val_main_v22_apply, bias_at]
  simp only [hl, hr, row_at, weight_at]
  unfold hid
  rw [four_eq]
  rfl

theorem glu_at (g : Fin 33792) (u : Fin 32) (e : Fin 512) :
    val_main_v44 (F := Ideal) X W B (ix3 g u e) = glu (hid X W B u g ⟨e.val, by omega⟩) (hid X W B u g ⟨512 + e.val, by omega⟩) := by
  have h1 : val_main_v28 (F := Ideal) X W B (ix3 g u e) = hid X W B u g ⟨e.val, by omega⟩ := by
    rw [val_main_v28_apply, ← hid_at]
    refine congrArg _ (funext fun a => Fin.ext ?_)
    match a with
    | ⟨0, _⟩ => rfl
    | ⟨1, _⟩ => rfl
    | ⟨2, _⟩ => rfl
  have h2 : val_main_v31 (F := Ideal) X W B (ix3 g u e) = hid X W B u g ⟨512 + e.val, by omega⟩ := by
    rw [val_main_v31_apply, ← hid_at]
    refine congrArg _ (funext fun a => Fin.ext ?_)
    match a with
    | ⟨0, _⟩ => rfl
    | ⟨1, _⟩ => rfl
    | ⟨2, _⟩ => rfl
  have h3 : val_main_v30 (F := Ideal) X W B (ix3 g u e) = min (hid X W B u g ⟨e.val, by omega⟩) (Ideal.ofBits .f32 0x40E00000#32) := by
    rw [val_main_v30_apply, h1, val_main_v29_apply]; rfl
  have h4 : val_main_v32 (F := Ideal) X W B (ix3 g u e)
      = min (Ideal.ofBits .f32 0x40E00000#32) (max (Ideal.ofBits .f32 0xC0E00000#32) (hid X W B u g ⟨512 + e.val, by omega⟩)) := by
    rw [val_main_v32_apply, val_main_call1_v2_apply, h2, val_main_call1_v4_apply, val_main_call1_v1_apply]; rfl
  have o : Ideal.ofBits .f32 0x3F800000#32 = 1 := by norm_num
  rw [val_main_v44_apply, val_main_v41_apply, val_main_v43_apply, val_main_v40_apply, val_main_v38_apply, val_main_v36_apply, val_main_v35_apply,
    val_main_v34_apply, h3, h4, val_main_v33_apply, val_main_v37_apply, val_main_v39_apply, val_main_v42_apply]
  unfold glu Ideal.logistic
  rw [← o]
  rfl

/-- THE REFERENCE'S RESULT is the array the kernel leaves. -/
theorem ref_eq (hx : ∀ i, cnt x i ≤ 33792) : val_main_v48 (F := Ideal) x X W B = G (cnt x) X W B := by
  suffices h : ∀ (g : Fin 33792) (e : Fin 512), val_main_v48 (F := Ideal) x X W B (ix2 g e) = val (cnt x) X W B g e by
    funext j
    have hj : j = ix2 (j 0) (j 1) := funext fun a => by
      match a with
      | ⟨0, _⟩ => rfl
      | ⟨1, _⟩ => rfl
    exact (congrArg _ hj).trans (h (j 0) (j 1))
  intro g e
  have he := Plan.expert_lt (cnt x) g.val
  have hs : ∀ k : Fin 32, val_main_v46 (F := Ideal) x X W B (idx_main_v47 (ix2 g e) k)
      = if k = ⟨Plan.expert (cnt x) g.val, he⟩ then val_main_v44 (F := Ideal) X W B (ix3 g k e) else 0 := fun k => by
    have hk : idx_main_v47 (ix2 g e) k = ix3 g k e := funext fun a => by
      match a with
      | ⟨0, _⟩ => rfl
      | ⟨1, _⟩ => rfl
      | ⟨2, _⟩ => rfl
    have hm : val_main_call2_v1 (F := Ideal) x (ix3 g k e) = val_main_v19 (F := Ideal) x (ix2 g k) := by
      rw [val_main_call2_v1_apply, val_main_v45_apply]
      refine congrArg _ (funext fun a => Fin.ext ?_)
      match a with
      | ⟨0, _⟩ => rfl
      | ⟨1, _⟩ => rfl
    have hz : val_main_call2_v2 (F := Ideal) (ix3 g k e) = (0 : EReal) := by
      rw [val_main_call2_v2_apply, val_main_call2_v0_apply, val_main_cst_7_apply]
      show Ideal.ofBits .f32 0x00000000#32 = 0
      norm_num
    rw [hk, val_main_v46_apply, hm, hz]
    unfold Scalar.select
    exact if_congr ((mask_at x hx g k).trans ⟨fun h => Fin.ext h.symm, fun h => (Fin.val_eq_of_eq h).symm⟩) rfl rfl
  have h0 : ∀ i, val_main_cst_8 (F := Ideal) i = (0 : EReal) := fun i => by
    show Ideal.ofBits .f32 0x00000000#32 = 0
    norm_num
  rw [val_main_v48_apply, val_main_v47_apply, h0]
  refine (zero_add _).trans ?_
  rw [Finset.sum_congr rfl fun k _ => hs k, Finset.sum_ite_eq' Finset.univ _ _, if_pos (Finset.mem_univ _), glu_at]
  rfl

end Cert.UpV

end
-- ==== Proof.DownIdealFrame.lean ====
/- The run of the idealized second half of the experts: what each step leaves in the result's block, and that the program
   runs and leaves its arguments as they were. -/
module

public import proofs.«01_k».proof.Proof.Gen.DownIdeal.Launch
public import proofs.«01_k».proof.Proof.Gen.DownIdeal.Skeleton
public import Idealize.ShloMosaic.Lib.Pipeline.FrameBody
public import Idealize.ShloMosaic.Lib.Pipeline.ValueKit
public import Idealize.ShloMosaic.Lib.Claim
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.DownIdeal.Hand

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! ## What a step leaves in the result's block -/

/-- Whether a step starts its tile … -/
def starts (lw : BitVec 32) : BitVec 1 := Scalar.cmpi .ne (Scalar.extui (Scalar.cmpi .eq lw 0#32) : BitVec 32) 0#32
/-- … or continues one. -/
def goesOn (lw : BitVec 32) : BitVec 1 := Scalar.cmpi .ne (Scalar.extui (Scalar.cmpi .sgt lw 0#32) : BitVec 32) 0#32

/-- The rows' buffer after a step of first row `lw` and flag `kw` that found `B` there: a step that is not flagged leaves
    it, one that starts its tile overwrites it, and any other overwrites the rows from its first row on. -/
def step (lw kw : BitVec 32) (x : Vec F S256x512 .bf16) (w : Vec F S1x1x512x4096 .f32) (b : Vec F S1x1x1x4096 .f32) (B : FVec F S256x4096 .f32) :
    FVec F S256x4096 .f32 :=
  if k0_cond1 kw = 1#1 then
    if goesOn lw = 1#1 then k0_pay3 lw x w b (if starts lw = 1#1 then k0_pay2 x w b else B)
    else if starts lw = 1#1 then k0_pay2 x w b else B
  else B

/-- The result's block after a step that leaves `B` in the rows' buffer. -/
def out (kw : BitVec 32) (B : FVec F S256x4096 .f32) (Y : FVec F S256x1x4096 .f32) : FVec F S256x1x4096 .f32 :=
  if k0_cond1 kw = 1#1 then k0_pay4 B else Y

abbrev wd (T : IVec S164 32) (i : grid0.Coords) : BitVec 32 := T (ix1 (i 0))

/-- The index a step reads its tables at. -/
theorem point_idx (i : grid0.Coords) (h : ∀ a, k0_off1 i a + S1.size a ≤ S164.size a) (hf : 0 < (Rect.unit (s := S164) (k0_off1 i) S1.size h).shape.numel) :
    (Rect.unit (s := S164) (k0_off1 i) S1.size h).idx (Shape.Idx.first hf) = ix1 (i 0) := by
  funext a
  have ha : a = 0 := Subsingleton.elim _ _
  subst ha
  apply Fin.ext
  rw [Rect.idx_unit_val]
  have h2 : ((i 0).val % 2 ^ 32) = (i 0).val := Nat.mod_eq_of_lt (lt_of_lt_of_le (i 0).isLt (by decide))
  show (BitVec.ofNat 32 (i 0).val).toNat + 0 = (i 0).val
  rw [BitVec.toNat_ofNat, h2, Nat.add_zero]

/-- A load of a whole buffer reads what it holds. -/
theorem read_all_4096 {sp : Space} {e : EltTy} (v : View sig .tc sp S256x4096 e) (f : v.ty.Contents (Elt F)) :
    v.readAt (Elt F) (Rect.unit (s := S256x4096) ![0, 0] ![256, 4096] inb_S256x4096_S256x4096_0_0).toLoadRect f = v.read (Elt F) f :=
  View.readAt_full v f _
theorem read_all_512 {sp : Space} {e : EltTy} (v : View sig .tc sp S256x512 e) (f : v.ty.Contents (Elt F)) :
    v.readAt (Elt F) (Rect.unit (s := S256x512) ![0, 0] ![256, 512] inb_S256x512_S256x512_0_0).toLoadRect f = v.read (Elt F) f :=
  View.readAt_full v f _
theorem read_all_w {sp : Space} {e : EltTy} (v : View sig .tc sp S1x1x512x4096 e) (f : v.ty.Contents (Elt F)) :
    v.readAt (Elt F) (Rect.unit (s := S1x1x512x4096) ![0, 0, 0, 0] ![1, 1, 512, 4096] inb_S1x1x512x4096_S1x1x512x4096_0_0_0_0).toLoadRect f = v.read (Elt F) f :=
  View.readAt_full v f _
theorem read_all_b {sp : Space} {e : EltTy} (v : View sig .tc sp S1x1x1x4096 e) (f : v.ty.Contents (Elt F)) :
    v.readAt (Elt F) (Rect.unit (s := S1x1x1x4096) ![0, 0, 0, 0] ![1, 1, 1, 4096] inb_S1x1x1x4096_S1x1x1x4096_0_0_0_0).toLoadRect f = v.read (Elt F) f :=
  View.readAt_full v f _

/-- A buffer one store has filled last holds what was stored. -/
theorem read_filled {sp : Space} {e : EltTy} (v : View sig .tc sp S256x4096 e) (f : v.ty.Contents (Elt F)) (P : S256x4096.Idx → Elt F e)
    (L : List (View.Piece (Elt F) S256x4096 e)) :
    v.read (Elt F) (v.writes (Elt F) f ((⟨Rect.unit (s := S256x4096) ![0, 0] ![256, 4096] inb_S256x4096_S256x4096_0_0, P⟩ : View.Piece (Elt F) S256x4096 e) :: L))
      = P :=
  View.read_writes_full v f inb_S256x4096_S256x4096_0_0 P L
theorem read_filled3 {sp : Space} {e : EltTy} (v : View sig .tc sp S256x1x4096 e) (f : v.ty.Contents (Elt F)) (P : S256x1x4096.Idx → Elt F e)
    (L : List (View.Piece (Elt F) S256x1x4096 e)) :
    v.read (Elt F) (v.writes (Elt F) f ((⟨Rect.unit (s := S256x1x4096) ![0, 0, 0] ![256, 1, 4096] inb_S256x1x4096_S256x1x4096_0_0_0, P⟩ : View.Piece (Elt F) S256x1x4096 e) :: L))
      = P :=
  View.read_writes_full v f inb_S256x1x4096_S256x1x4096_0_0_0 P L

set_option maxHeartbeats 4000000 in
/-- The kernel's body on whole buffers: the tables and the inputs' stay, the result's is stepped. -/
theorem sound_kernel (c : Dev nD) (E : Set ℕ) (i : grid0.Coords) (q : PosShare TreeShare)
    (arg1 : Memref sig .tc .smem S164 .i32) (harg1 : arg1.IsWhole) (arg2 : Memref sig .tc .smem S164 .i32) (harg2 : arg2.IsWhole)
    (arg3 : Memref sig .tc .smem S164 .i32) (harg3 : arg3.IsWhole) (arg4 : Memref sig .tc .smem S164 .i32) (harg4 : arg4.IsWhole)
    (arg5 : Memref sig .tc .vmem S256x512 .bf16) (harg5 : arg5.IsWhole)
    (arg6 : Memref sig .tc .vmem S1x1x512x4096 .f32) (harg6 : arg6.IsWhole) (arg7 : Memref sig .tc .vmem S1x1x1x4096 .f32) (harg7 : arg7.IsWhole)
    (arg8 : Memref sig .tc .vmem S256x1x4096 .f32) (harg8 : arg8.IsWhole) (arg9 : Memref sig .tc .vmem S256x4096 .f32) (harg9 : arg9.IsWhole)
    (x0 : Vec F S256x512 .bf16) (x1 : Vec F S1x1x512x4096 .f32)
    (x2 : Vec F S1x1x1x4096 .f32) (x3 : Vec F S256x1x4096 .f32) (x4 : Vec F S256x4096 .f32) (T3 T4 : IVec S164 32) (K : PUnit → sProp 𝕄) :
    iprop(owns (c : Thread nD τ) arg3 q T3 ∗ owns (c : Thread nD τ) arg4 q T4
        ∗ owns (c : Thread nD τ) arg5 fullShare x0 ∗ owns (c : Thread nD τ) arg6 fullShare x1 ∗ owns (c : Thread nD τ) arg7 fullShare x2
        ∗ owns (c : Thread nD τ) arg8 fullShare x3 ∗ owns (c : Thread nD τ) arg9 fullShare x4
        ∗ (iprop(owns (c : Thread nD τ) arg3 q T3 ∗ owns (c : Thread nD τ) arg4 q T4
            ∗ owns (c : Thread nD τ) arg5 fullShare x0 ∗ owns (c : Thread nD τ) arg6 fullShare x1 ∗ owns (c : Thread nD τ) arg7 fullShare x2
            ∗ owns (c : Thread nD τ) arg8 fullShare (out (wd T4 i) (step (wd T3 i) (wd T4 i) x0 x1 x2 x4) x3)
            ∗ owns (c : Thread nD τ) arg9 fullShare (step (wd T3 i) (wd T4 i) x0 x1 x2 x4)) -∗ K ⟨⟩))
      ⊢ wp frame (wpE (defs₀ (F := F)) Variants.none c none) E (cc0_moe_down i arg1 harg1 arg2 harg2 arg3 harg3 arg4 harg4
          arg5 harg5 arg6 harg6 arg7 harg7 arg8 harg8 arg9 harg9) K := by
  simp only [cc0_moe_down_eq_skeleton]; unfold cc0_moe_down_skel
  unfold owns
  iintro ⟨⟨%t3, %ht3, Ht3⟩, ⟨%t4, %ht4, Ht4⟩, ⟨%f0, %hf0, H0⟩, ⟨%f1, %hf1, H1⟩, ⟨%f2, %hf2, H2⟩, ⟨%f3, %hf3, H3⟩, ⟨%f4, %hf4, H4⟩, Hk⟩
  subst ht3 ht4 hf0 hf1 hf2 hf3 hf4
  sl_exec
  sl_step
  iapply Hk
  isplitl [Ht3]
  · iexists t3; isplitr; · ipureintro; rfl
    iexact Ht3
  isplitl [Ht4]
  · iexists t4; isplitr; · ipureintro; rfl
    iexact Ht4
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  have e3 : sound_kernel.sl.r c i arg3 t3 = wd (View.read (Elt F) arg3.view t3) i := by
    unfold sound_kernel.sl.r
    rw [View.readAt_apply]
    exact congrArg _ (point_idx i _ _)
  have e4 : sound_kernel.sl.r_1 c i arg4 t4 = wd (View.read (Elt F) arg4.view t4) i := by
    unfold sound_kernel.sl.r_1
    rw [View.readAt_apply]
    exact congrArg _ (point_idx i _ _)
  isplitl [H3]
  · iexists _; isplitr
    swap; · iexact H3
    ipureintro
    rw [e4]
    unfold sound_kernel.sl.v22 sound_kernel.sl.v28 sound_kernel.sl.v21 sound_kernel.sl.v18 sound_kernel.sl.v20 sound_kernel.sl.v17 sound_kernel.sl.v19 sound_kernel.sl.v16
    rw [e3]
    unfold out step starts goesOn
    by_cases h1 : k0_cond1 (wd (View.read (Elt F) arg4.view t4) i) = 1#1
    · rw [dif_pos h1, if_pos h1, if_pos h1]
      by_cases h2 : Scalar.cmpi .ne (Scalar.extui (Scalar.cmpi .eq (wd (View.read (Elt F) arg3.view t3) i) 0#32) : BitVec 32) 0#32 = 1#1
      · by_cases h3 : Scalar.cmpi .ne (Scalar.extui (Scalar.cmpi .sgt (wd (View.read (Elt F) arg3.view t3) i) 0#32) : BitVec 32) 0#32 = 1#1
        · simp only [dif_pos h2, if_pos h2, dif_pos h3, if_pos h3, read_all_4096, read_all_512, read_all_w, read_all_b, read_filled, read_filled3]
        · simp only [dif_pos h2, if_pos h2, dif_neg h3, if_neg h3, read_all_4096, read_all_512, read_all_w, read_all_b, read_filled, read_filled3]
      · by_cases h3 : Scalar.cmpi .ne (Scalar.extui (Scalar.cmpi .sgt (wd (View.read (Elt F) arg3.view t3) i) 0#32) : BitVec 32) 0#32 = 1#1
        · simp only [dif_neg h2, if_neg h2, dif_pos h3, if_pos h3, read_all_4096, read_all_512, read_all_w, read_all_b, read_filled, read_filled3]
        · simp only [dif_neg h2, if_neg h2, dif_neg h3, if_neg h3, read_all_4096, read_all_512, read_all_w, read_all_b, read_filled, read_filled3]
    · rw [dif_neg h1, if_neg h1]
  · iexists _; isplitr
    swap; · iexact H4
    ipureintro
    rw [e4]
    unfold sound_kernel.sl.v28 sound_kernel.sl.v21 sound_kernel.sl.v18 sound_kernel.sl.v20 sound_kernel.sl.v17 sound_kernel.sl.v19 sound_kernel.sl.v16
    rw [e3]
    unfold step starts goesOn
    by_cases h1 : k0_cond1 (wd (View.read (Elt F) arg4.view t4) i) = 1#1
    · rw [dif_pos h1, if_pos h1]
      by_cases h2 : Scalar.cmpi .ne (Scalar.extui (Scalar.cmpi .eq (wd (View.read (Elt F) arg3.view t3) i) 0#32) : BitVec 32) 0#32 = 1#1
      · by_cases h3 : Scalar.cmpi .ne (Scalar.extui (Scalar.cmpi .sgt (wd (View.read (Elt F) arg3.view t3) i) 0#32) : BitVec 32) 0#32 = 1#1
        · simp only [dif_pos h2, if_pos h2, dif_pos h3, if_pos h3, read_all_4096, read_all_512, read_all_w, read_all_b, read_filled]
        · simp only [dif_pos h2, if_pos h2, dif_neg h3, if_neg h3, read_all_4096, read_all_512, read_all_w, read_all_b, read_filled]
      · by_cases h3 : Scalar.cmpi .ne (Scalar.extui (Scalar.cmpi .sgt (wd (View.read (Elt F) arg3.view t3) i) 0#32) : BitVec 32) 0#32 = 1#1
        · simp only [dif_neg h2, if_neg h2, dif_pos h3, if_pos h3, read_all_4096, read_all_512, read_all_w, read_all_b, read_filled]
        · simp only [dif_neg h2, if_neg h2, dif_neg h3, if_neg h3, read_all_4096, read_all_512, read_all_w, read_all_b, read_filled]
    · rw [dif_neg h1, if_neg h1]

/-! ## The pipeline's proof data -/

variable (a : (pcfg0 (F := F)).Adm) (V : (c : Dev nD) → (b : Ref sig .tc) → Buf (Elt F) ((c : Thread nD τ).loc b))

/-- A window's block at a point, of its array as the region finds it. -/
def iblk (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V c (Pipeline.arrRef spec0 w))

/-- The rows' buffer after step `n`, of what it held when the region was entered. -/
def stepAt (c : Dev nD) (n : ℕ) (B : FVec F S256x4096 .f32) : FVec F S256x4096 .f32 :=
  if h : n < (cfg0 a).N then
    step (wd (a.1 2) (grid0.coords ⟨n, h⟩)) (wd (a.1 3) (grid0.coords ⟨n, h⟩)) (iblk a V c 0 ⟨n, h⟩) (iblk a V c 1 ⟨n, h⟩) (iblk a V c 2 ⟨n, h⟩) B
  else B

/-- The rows' buffer before step `n`, of what it held when the region was entered. -/
def rows (c : Dev nD) (B : FVec F S256x4096 .f32) : ℕ → FVec F S256x4096 .f32
  | 0 => B
  | n + 1 => stepAt a V c n (rows c B n)

/-- The proof data: the inputs' buffers stay, the rows' buffer is stepped from what it held, and a flagged step copies it
    to the result's block. -/
def rdat (c : Dev nD) : RDat τ (Elt F) Unit ℕ (UR sig nD τ) ℕ (cfg0 a) c where
  A w := V c (Pipeline.arrRef spec0 w)
  after w t Y X := match w with
    | ⟨0, _⟩ => X = Y
    | ⟨1, _⟩ => X = Y
    | ⟨2, _⟩ => X = Y
    | ⟨3, _⟩ => ∃ B, X = out (wd (a.1 3) (grid0.coords t)) (rows a V c B (t.val + 1)) Y
  Φ t := iprop(((∃ B, owns (c : Thread nD τ) (Memref.whole cc0_scratch0) fullShare (rows a V c B t.val)) ∗ ∃ r, prngReg c r) ∗ Pipeline.ΦT pre0 a.1 c)
  q _ := fullShare
  owed _ := 0

theorem rdat_A (c : Dev nD) (w : Fin (cfg0 a).W) : (rdat a V c).A w = V c (Pipeline.arrRef spec0 w) := by dsimp only [rdat]

theorem after_3 (c : Dev nD) (t : Fin (cfg0 a).N) (Y X) : (rdat a V c).after 3 t Y X
    ↔ ∃ B, X = out (wd (a.1 3) (grid0.coords t)) (rows a V c B (t.val + 1)) Y := by dsimp only [rdat]; rfl

theorem finds_0 (c : Dev nD) (t : Fin (cfg0 a).N) (Y) (h : (rdat a V c).Finds 0 t Y) : Y = iblk a V c 0 t := by
  obtain ⟨d, hd⟩ := (rdat a V c).finds_in_eq_fetched 0 rfl (fun _ _ _ => rfl) (fun _ _ _ h => h) t Y h
  rw [hd]; unfold RDat.fetched RDat.blockOf iblk; rw [rdat_A]; try rfl
theorem finds_1 (c : Dev nD) (t : Fin (cfg0 a).N) (Y) (h : (rdat a V c).Finds 1 t Y) : Y = iblk a V c 1 t := by
  obtain ⟨d, hd⟩ := (rdat a V c).finds_in_eq_fetched 1 rfl (fun _ _ _ => rfl) (fun _ _ _ h => h) t Y h
  rw [hd]; unfold RDat.fetched RDat.blockOf iblk; rw [rdat_A]; try rfl
theorem finds_2 (c : Dev nD) (t : Fin (cfg0 a).N) (Y) (h : (rdat a V c).Finds 2 t Y) : Y = iblk a V c 2 t := by
  obtain ⟨d, hd⟩ := (rdat a V c).finds_in_eq_fetched 2 rfl (fun _ _ _ => rfl) (fun _ _ _ h => h) t Y h
  rw [hd]; unfold RDat.fetched RDat.blockOf iblk; rw [rdat_A]; try rfl

/-! ## The body obligation -/

/-- The four tables conjoined one by one. -/
theorem prefHeld_four (c : Dev nD) (q : Fin 4 → PosShare TreeShare) (v : pre0.Contents (Elt F)) :
    (Pipeline.prefHeld pre0 c q v : sProp 𝕄)
      = iprop((((c : Thread nD τ).loc main_v17) ↦{q 0} v 0) ∗ (((c : Thread nD τ).loc main_v26) ↦{q 1} v 1)
          ∗ (((c : Thread nD τ).loc main_v29) ↦{q 2} v 2) ∗ (((c : Thread nD τ).loc main_v14) ↦{q 3} v 3)) :=
  bigSep_W0 fun k : Fin 4 => iprop(((c.tc : Thread nD τ).loc (pre0.ref k)) ↦{q k} v k)

theorem owns_of_whole (c : Dev nD) (b : Ref sig .tc) (q : PosShare TreeShare) (f : b.ty.Contents (Elt F)) :
    (((c : Thread nD τ).loc b) ↦{q} f : sProp 𝕄) ⊢ owns (c : Thread nD τ) (Memref.whole b) q f := by
  rw [owns_whole]
theorem whole_of_owns (c : Dev nD) (b : Ref sig .tc) (q : PosShare TreeShare) (f : b.ty.Contents (Elt F)) :
    (owns (c : Thread nD τ) (Memref.whole b) q f : sProp 𝕄) ⊢ (((c : Thread nD τ).loc b) ↦{q} f) := by
  rw [owns_whole]

/-- The body at a point, on the point's staging buffers. -/
abbrev bodyAt (t : Fin (cfg0 a).N) := defs₀ (F := F) .tc (cfg0 a).body ((cfg0 a).bodyArgs t ((cfg0 a).slots t))

abbrev stg (t : Fin (cfg0 a).N) (w : Fin 4) := ((cfg0 a).win w).stage ((cfg0 a).slots t w)

theorem rows_succ (c : Dev nD) (t : Fin (cfg0 a).N) (B : FVec F S256x4096 .f32) : rows a V c B (t.val + 1)
    = step (wd (a.1 2) (grid0.coords t)) (wd (a.1 3) (grid0.coords t)) (iblk a V c 0 t) (iblk a V c 1 t) (iblk a V c 2 t) (rows a V c B t.val) := by
  show stepAt a V c t.val _ = _
  unfold stepAt
  rw [dif_pos t.isLt]

/-- Before the first step the rows' buffer holds anything … -/
theorem enter (c : Dev nD) : (iprop(Pipeline.ΦA spec0 c ∗ Pipeline.ΦT pre0 a.1 c) : sProp 𝕄) ⊢ (rdat a V c).Φ 0 := by
  rw [show (rdat a V c).Φ 0 = iprop(((∃ B, owns (c : Thread nD τ) (Memref.whole cc0_scratch0) fullShare (rows a V c B 0)) ∗ ∃ r, prngReg c r) ∗ Pipeline.ΦT pre0 a.1 c) from rfl]
  unfold Pipeline.ΦA
  rw [scopedRest0_eq]
  iintro ⟨⟨⟨%g, Hg⟩, Hr⟩, HT⟩
  isplitl [Hg Hr]
  · isplitl [Hg]
    · iexists g; iapply (owns_of_whole c cc0_scratch0 fullShare g); iexact Hg
    iexact Hr
  iexact HT

/-- … and after the last it is let go. -/
theorem leave (c : Dev nD) : (rdat a V c).Φ (Fin.last (cfg0 a).N) ⊢ (Pipeline.ΦA spec0 c : sProp 𝕄) := by
  rw [show (rdat a V c).Φ (Fin.last (cfg0 a).N) = iprop(((∃ B, owns (c : Thread nD τ) (Memref.whole cc0_scratch0) fullShare (rows a V c B (Fin.last (cfg0 a).N).val)) ∗ ∃ r, prngReg c r) ∗ Pipeline.ΦT pre0 a.1 c) from rfl]
  unfold Pipeline.ΦA
  rw [scopedRest0_eq]
  iintro ⟨⟨⟨%B, Hg⟩, Hr⟩, -⟩
  isplitl [Hg]
  · iexists _; iapply (whole_of_owns c cc0_scratch0 fullShare _); iexact Hg
  iexact Hr

set_option maxHeartbeats 1000000 in
theorem sound_body (c : Dev nD) (t : Fin (cfg0 a).N) (Y3 : Vec F S256x1x4096 .f32) :
    iprop((rdat a V c).Φ t.castSucc ∗ (rdat a V c).owesAt () t.castSucc
      ∗ owns (c : Thread nD τ) (stg a t 0) fullShare (iblk a V c 0 t) ∗ owns (c : Thread nD τ) (stg a t 1) fullShare (iblk a V c 1 t)
      ∗ owns (c : Thread nD τ) (stg a t 2) fullShare (iblk a V c 2 t) ∗ owns (c : Thread nD τ) (stg a t 3) fullShare Y3)
    ⊢ wp frame (wpE (defs₀ (F := F)) Variants.none c none) Set.univ (bodyAt a t) fun _ =>
      iprop((rdat a V c).Φ t.succ ∗ (rdat a V c).owesAt () t.succ
      ∗ owns (c : Thread nD τ) (stg a t 0) fullShare (iblk a V c 0 t) ∗ owns (c : Thread nD τ) (stg a t 1) fullShare (iblk a V c 1 t)
      ∗ owns (c : Thread nD τ) (stg a t 2) fullShare (iblk a V c 2 t)
      ∗ ∃ B, owns (c : Thread nD τ) (stg a t 3) fullShare (out (wd (a.1 3) (grid0.coords t)) (rows a V c B (t.val + 1)) Y3)) := by
  unfold bodyAt defs₀; rw [Defs.onTc_tc]
  rw [show (rdat a V c).Φ t.succ = iprop(((∃ B, owns (c : Thread nD τ) (Memref.whole cc0_scratch0) fullShare (rows a V c B (t.val + 1))) ∗ ∃ r, prngReg c r) ∗ Pipeline.ΦT pre0 a.1 c) from rfl,
    show (rdat a V c).owesAt () t.succ = (rdat a V c).owesAt () t.castSucc from rfl,
    show (rdat a V c).Φ t.castSucc = iprop(((∃ B, owns (c : Thread nD τ) (Memref.whole cc0_scratch0) fullShare (rows a V c B t.val)) ∗ ∃ r, prngReg c r) ∗ Pipeline.ΦT pre0 a.1 c) from rfl]
  unfold Pipeline.ΦT
  rw [prefHeld_four]
  iintro ⟨⟨⟨⟨%B, Hg⟩, Hr⟩, ⟨Ha, Hb, Hc, Hd⟩⟩, Ho, H0, H1, H2, H3⟩
  iapply (sound_kernel c Set.univ (grid0.coords t) fullShare.right _ _ _ _ _ _ _ _ _ _ _ _ _ _ _ _ _ _ (iblk a V c 0 t) (iblk a V c 1 t) (iblk a V c 2 t) Y3 (rows a V c B t.val) (a.1 2) (a.1 3) _)
  isplitl [Hc]; · iapply (owns_of_whole c main_v29 fullShare.right (a.1 2)); iexact Hc
  isplitl [Hd]; · iapply (owns_of_whole c main_v14 fullShare.right (a.1 3)); iexact Hd
  isplitl [H0]; · iexact H0
  isplitl [H1]; · iexact H1
  isplitl [H2]; · iexact H2
  isplitl [H3]; · iexact H3
  isplitl [Hg]; · iexact Hg
  rw [← rows_succ a V c t B]
  iintro ⟨Hc, Hd, H0, H1, H2, H3, Hg⟩
  isplitl [Ha Hb Hc Hd Hg Hr]
  · isplitl [Hg Hr]
    · isplitl [Hg]; · iexists B; iexact Hg
      iexact Hr
    isplitl [Ha]; · iexact Ha
    isplitl [Hb]; · iexact Hb
    isplitl [Hc]; · iapply (whole_of_owns c main_v29 fullShare.right (a.1 2)); iexact Hc
    iapply (whole_of_owns c main_v14 fullShare.right (a.1 3)); iexact Hd
  isplitl [Ho]; · iexact Ho
  isplitl [H0]; · iexact H0
  isplitl [H1]; · iexact H1
  isplitl [H2]; · iexact H2
  iexists B; iexact H3

theorem body_obligation (c : Dev nD) : (rdat a V c).BodyObligation (defs₀ (F := F)) Variants.none () Set.univ := fun t Y hY => by
  rw [bigSep_W0, bigSep_W0]
  have h0 := finds_0 a V c t _ (hY 0)
  have h1 := finds_1 a V c t _ (hY 1)
  have h2 := finds_2 a V c t _ (hY 2)
  rw [h0, h1, h2]
  refine triple_restated (sound_body a V c t (Y 3)) rfl .rfl fun _ => ?_
  iintro ⟨HΦ, Ho, H0, H1, H2, ⟨%B, H3⟩⟩
  isplitl [HΦ]; · iexact HΦ
  isplitl [Ho]; · iexact Ho
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  iexists _; isplitr; swap; · iexact H3
  ipureintro; exact ⟨B, rfl⟩

end Cert.DownIdeal.Hand

end
-- ==== Proof.DownIdealRun.lean ====
/- The launch of the idealized second half of the experts: the plan's tables, the run, and that it leaves its arguments as
   they were. -/
module

public import proofs.«01_k».proof.Proof.DownIdealFrame
public import proofs.«01_k».proof.Proof.UpWords
public import Idealize.ShloMosaic.Lib.StableHlo.ReadAt

@[expose] public section

set_option maxRecDepth 16384

noncomputable section

namespace Cert.DownIdeal.Hand

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

/-! ## The tables -/

/-- The experts' counts. -/
def w1 (x : IVec S8x128 32) : IVec S32 32 := shapeCast S32 (extractStridedSlice S1x32 ![0, 0] x slices_S8x128_S1x32_0_0) shapeCasts_S1x32_S32
/-- The ends of the experts' rows. -/
def w2 (x : IVec S8x128 32) : IVec S32 32 :=
  Host.reduceWindow IntOp.addi ![32] ![1] ![31] ![0] (w1 x) (broadcastInDim S_ ![] bcast_S_S_ (constantI S_ 32 0#32)) reduceWindows_S32_S32_w32s1p31_0 h_S_
/-- The break points. -/
def w8 (x : IVec S8x128 32) : IVec S164 32 :=
  concatenate S164 0 [⟨S132, muli (addi (broadcastInDim S132 ![] bcast_S_S132 (constantI S_ 32 1#32)) (iotaInDim S132 32 0))
    (broadcastInDim S132 ![] bcast_S_S132 (constantI S_ 32 256#32))⟩, ⟨S32, w2 x⟩] concatenates_S132_S32_S164_d0
/-- The break points in order. -/
def w9 (x : IVec S8x128 32) : IVec S164 32 := Host.sort S164 0 comparator_i32_d0 (w8 x)
/-- The segments' first rows. -/
def w12 (x : IVec S8x128 32) : IVec S164 32 :=
  concatenate S164 0 [⟨S1, broadcastInDim S1 ![] bcast_S_S1 (constantI S_ 32 0#32)⟩, ⟨S163, extractStridedSlice S163 ![0] (w9 x) slices_S164_S163_0⟩] concatenates_S1_S163_S164_d0
/-- Whether each segment has a row. -/
def w14 (x : IVec S8x128 32) : IVec S164 32 := extui 32 (cmpi .sgt (w9 x) (w12 x)) natLt_1_32
/-- The tile of each segment. -/
def w17 (x : IVec S8x128 32) : IVec S164 32 :=
  minsi (Routing.pyDiv bcast_S_S164 (w12 x) (constantI S_ 32 256#32)) (broadcastInDim S164 ![] bcast_S_S164 (constantI S_ 32 131#32))
/-- The expert of each segment. -/
def w26 (x : IVec S8x128 32) : IVec S164 32 :=
  minsi (Host.reduce IntOp.addi (extui 32 (cmpi .sle (broadcastInDim S164x32 ![0, 1] bcast_S1x32_S164x32_0_1 (broadcastInDim S1x32 ![1] bcast_S32_S1x32_1 (w2 x)))
      (broadcastInDim S164x32 ![0, 1] bcast_S164x1_S164x32_0_1 (broadcastInDim S164x1 ![0] bcast_S164_S164x1_0 (w12 x)))) natLt_1_32) (constantI S_ 32 0#32) reducesTo_S164x32_S164_d1 h_S_)
    (broadcastInDim S164 ![] bcast_S_S164 (constantI S_ 32 31#32))
/-- The first row of each segment within its tile. -/
def w29 (x : IVec S8x128 32) : IVec S164 32 := subi (w12 x) (muli (w17 x) (broadcastInDim S164 ![] bcast_S_S164 (constantI S_ 32 256#32)))

/-- The number of rows of expert `i`. -/
def cnt (x : IVec S8x128 32) (i : ℕ) : ℕ := if h : i < 32 then (x (ValueIdx.ix2 (0 : Fin 8) (⟨i, by omega⟩ : Fin 128))).toNat else 0

/-- The sorted break points of the counts. -/
def brk (x : IVec S8x128 32) : ℕ → ℕ := Plan.pts (w8 x)

theorem w1_holds (x : IVec S8x128 32) : Plan.Holds (n := 32) (w1 x) (cnt x) := by
  intro i
  have e : w1 x (ValueIdx.ix1 i) = x (ValueIdx.ix2 (0 : Fin 8) (⟨i.val, by omega⟩ : Fin 128)) := by
    unfold w1
    pointwise
    rfl
  rw [e]
  unfold cnt
  rw [dif_pos i.isLt]
  apply BitVec.eq_of_toNat_eq
  rw [BitVec.toNat_ofNat, Nat.mod_eq_of_lt (BitVec.isLt _)]

theorem w2_holds (x : IVec S8x128 32) : Plan.Holds (n := 32) (w2 x) (Plan.ends (cnt x)) :=
  Plan.ends_holds _ (w1_holds x) _ (by rfl) _ _

theorem w8_holds (x : IVec S8x128 32) : Plan.Holds (n := 164) (w8 x) (Plan.mark (cnt x)) :=
  Plan.mark_holds _ (w2_holds x) _ _

variable (x : IVec S8x128 32) (hx : ∀ i, cnt x i ≤ 33792)
include hx

theorem sorted : Plan.Sorted (cnt x) (brk x) := Plan.pts_sorted _ hx (w8_holds x)

omit hx in
theorem w9_holds : Plan.Holds (n := 164) (w9 x) (brk x) := Plan.pts_holds _
omit hx in
theorem w12_holds : Plan.Holds (n := 164) (w12 x) (Plan.lo (brk x)) := Plan.lo_holds _ (w9_holds x) _ _ _
theorem w14_holds : Plan.Holds (n := 164) (w14 x) (fun t => if Plan.lo (brk x) t < brk x t then 1 else 0) :=
  Plan.ok_holds (sorted x hx) _ _ (w9_holds x) (w12_holds x) _
theorem w17_holds : Plan.Holds (n := 164) (w17 x) (Plan.tile (brk x)) := Plan.tile_holds (sorted x hx) _ (w12_holds x) _
theorem w26_holds : Plan.Holds (n := 164) (w26 x) (Plan.seg (cnt x) (brk x)) :=
  Plan.seg_holds (sorted x hx) hx _ (w2_holds x) _ (w12_holds x) _ _ _ _ _ _ _ _
theorem w29_holds : Plan.Holds (n := 164) (w29 x) (fun t => Plan.lo (brk x) t - 256 * Plan.tile (brk x) t) :=
  Plan.off_holds _ _ (w12_holds x) (w17_holds x hx) _

omit hx
/-! ## @main up to the region -/

variable (m : (ℓ : Loc nD τ sig) → Buf (Elt F) ℓ) (ρ : Dev nD → PrngReg)

abbrev opss : List (List (HloOp τ sig (Elt F))) := [hostOps0, hostOps0_1, hostOps0_2, hostOps0_3, hostOps0_4, hostOps0_5, hostOps0_6]

/-- The buffers when the region is entered: after the host operations. -/
abbrev V (c : Dev nD) (b : Ref sig .tc) : Buf (Elt F) ((c : Thread nD τ).loc b) := StableHlo.after (opss (F := F)).flatten (fun b => m (c, b)) b

theorem opss_sub : (opss : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub⟩

theorem opss_fresh : (opss : List (List (HloOp τ sig (Elt F)))).Forall fun ops => ops.Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main opss opss_sub opss_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [opss, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [opss, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [opss, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [opss, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem u7 (c : Dev nD) : StableHlo.upto (opss (F := F)).flatten (fun b => m (c, b)) 12 (Proc.tc.devRef main_v7)
    = muli (addi (broadcastInDim S132 ![] bcast_S_S132 (constantI S_ 32 1#32)) (iotaInDim S132 32 0)) (broadcastInDim S132 ![] bcast_S_S132 (constantI S_ 32 256#32)) := by
  after_reads_simp
  try simp -implicitDefEqProofs only [StableHlo.TRef.toBuf, StableHlo.TRef.ofBuf, cast_cast, cast_eq, id_eq]
theorem u2 (c : Dev nD) : StableHlo.upto (opss (F := F)).flatten (fun b => m (c, b)) 12 (Proc.tc.devRef main_v2) = w2 (m ((c : Thread nD τ).loc main_arg0)) := by
  after_reads_simp
  try simp -implicitDefEqProofs only [StableHlo.TRef.toBuf, StableHlo.TRef.ofBuf, cast_cast, cast_eq, id_eq]
  unfold w2 w1
  rfl
theorem u10 (c : Dev nD) : StableHlo.upto (opss (F := F)).flatten (fun b => m (c, b)) 17 (Proc.tc.devRef main_v10)
    = broadcastInDim S1 ![] bcast_S_S1 (constantI S_ 32 0#32) := by
  after_reads_simp
  try simp -implicitDefEqProofs only [StableHlo.TRef.toBuf, StableHlo.TRef.ofBuf, cast_cast, cast_eq, id_eq]
theorem u11 (c : Dev nD) : StableHlo.upto (opss (F := F)).flatten (fun b => m (c, b)) 17 (Proc.tc.devRef main_v11)
    = extractStridedSlice S163 ![0] (w9 (m ((c : Thread nD τ).loc main_arg0))) slices_S164_S163_0 := by
  after_reads_simp
  try simp -implicitDefEqProofs only [StableHlo.TRef.toBuf, StableHlo.TRef.ofBuf, cast_cast, cast_eq, id_eq]
  rw [u7, u2]
  unfold w9 w8
  rfl

theorem V_main_v14 (c : Dev nD) : V m c main_v14 = w14 (m ((c : Thread nD τ).loc main_arg0)) := by
  unfold V; after_reads_simp
  try simp -implicitDefEqProofs only [StableHlo.TRef.toBuf, StableHlo.TRef.ofBuf, cast_cast, cast_eq, id_eq]
  rw [u7, u2, u10, u11]
  unfold w14 w12
  unfold w9 w8
  rfl
theorem V_main_v17 (c : Dev nD) : V m c main_v17 = w17 (m ((c : Thread nD τ).loc main_arg0)) := by
  unfold V; after_reads_simp
  try simp -implicitDefEqProofs only [StableHlo.TRef.toBuf, StableHlo.TRef.ofBuf, cast_cast, cast_eq, id_eq]
  rw [u10, u11]
  unfold w17 w12 Routing.pyDiv
  rfl
theorem V_main_v26 (c : Dev nD) : V m c main_v26 = w26 (m ((c : Thread nD τ).loc main_arg0)) := by
  unfold V; after_reads_simp
  try simp -implicitDefEqProofs only [StableHlo.TRef.toBuf, StableHlo.TRef.ofBuf, cast_cast, cast_eq, id_eq]
  rw [u10, u11]
  unfold w26 w12 w2 w1
  rfl
theorem V_main_v29 (c : Dev nD) : V m c main_v29 = w29 (m ((c : Thread nD τ).loc main_arg0)) := by
  unfold V; after_reads_simp
  try simp -implicitDefEqProofs only [StableHlo.TRef.toBuf, StableHlo.TRef.ofBuf, cast_cast, cast_eq, id_eq]
  rw [u10, u11]
  unfold w29 w17 w12 Routing.pyDiv
  rfl
/-- The bias with a row axis. -/
theorem V_main_v30 (c : Dev nD) : V m c main_v30 = shapeCast S2x32x1x4096 (m ((c : Thread nD τ).loc main_arg3)) shapeCasts_S2x32x4096_S2x32x1x4096 := by
  unfold V; after_reads_simp
  try simp -implicitDefEqProofs only [StableHlo.TRef.toBuf, StableHlo.TRef.ofBuf, cast_cast, cast_eq, id_eq]
  rfl

/-! ## The side condition on the tables -/

theorem tr0 (pf : pre0.Contents (Elt F)) (i : grid0.Coords) : cc0_transform_0 k0_off1_inb numel1_S1 pf i = ![(wd (pf 0) i).toNat, 0] := by
  have e := congrArg (pf 0) (point_idx i (k0_off1_inb i) (by rw [show (Rect.unit (s := S164) (k0_off1 i) S1.size (k0_off1_inb i)).shape.numel = 1 from numel1_S1]; exact Nat.one_pos))
  exact congrArg (fun w : BitVec 32 => (![w.toNat, 0] : Fin 2 → ℕ)) e
theorem tr1 (pf : pre0.Contents (Elt F)) (i : grid0.Coords) : cc0_transform_1 k0_off1_inb numel1_S1 pf i = ![0, (wd (pf 1) i).toNat, 0, 0] := by
  have e := congrArg (pf 1) (point_idx i (k0_off1_inb i) (by rw [show (Rect.unit (s := S164) (k0_off1 i) S1.size (k0_off1_inb i)).shape.numel = 1 from numel1_S1]; exact Nat.one_pos))
  exact congrArg (fun w : BitVec 32 => (![0, w.toNat, 0, 0] : Fin 4 → ℕ)) e
theorem tr2 (pf : pre0.Contents (Elt F)) (i : grid0.Coords) : cc0_transform_2 k0_off1_inb numel1_S1 pf i = ![0, (wd (pf 1) i).toNat, 0, 0] := by
  have e := congrArg (pf 1) (point_idx i (k0_off1_inb i) (by rw [show (Rect.unit (s := S164) (k0_off1 i) S1.size (k0_off1_inb i)).shape.numel = 1 from numel1_S1]; exact Nat.one_pos))
  exact congrArg (fun w : BitVec 32 => (![0, w.toNat, 0, 0] : Fin 4 → ℕ)) e
theorem tr3 (pf : pre0.Contents (Elt F)) (i : grid0.Coords) : cc0_transform_3 k0_off1_inb numel1_S1 pf i = ![(wd (pf 0) i).toNat, 0, 0] := by
  have e := congrArg (pf 0) (point_idx i (k0_off1_inb i) (by rw [show (Rect.unit (s := S164) (k0_off1 i) S1.size (k0_off1_inb i)).shape.numel = 1 from numel1_S1]; exact Nat.one_pos))
  exact congrArg (fun w : BitVec 32 => (![w.toNat, 0, 0] : Fin 3 → ℕ)) e

/-- Tables of tiles below 132 and experts below 32 are admissible. -/
theorem ok_of (pf : pre0.Contents (Elt F)) (h0 : ∀ i : grid0.Coords, (wd (pf 0) i).toNat < 132) (h1 : ∀ i : grid0.Coords, (wd (pf 1) i).toNat < 32) : ok0 pf := by
  refine ⟨fun i => ⟨fun a => ?_, .inr ?_⟩, fun i => ⟨fun a => ?_, .inl rfl⟩, fun i => ⟨fun a => ?_, .inl rfl⟩, fun i => ⟨fun a => ?_, .inl rfl⟩⟩
  · rw [tr0]
    have := h0 i
    match a with
    | ⟨0, _⟩ => show ((wd (pf 0) i).toNat + 1) * 256 ≤ 33792; omega
    | ⟨1, _⟩ => show (0 + 1) * 512 ≤ 512; omega
  · exact Idealize.ShloMosaic.Affine.block_words_dvd (by decide) (by decide)
  · rw [tr1]
    have := h1 i
    match a with
    | ⟨0, _⟩ => show (0 + 1) * 1 ≤ 2; omega
    | ⟨1, _⟩ => show ((wd (pf 1) i).toNat + 1) * 1 ≤ 32; omega
    | ⟨2, _⟩ => show (0 + 1) * 512 ≤ 512; omega
    | ⟨3, _⟩ => show (0 + 1) * 4096 ≤ 4096; omega
  · rw [tr2]
    have := h1 i
    match a with
    | ⟨0, _⟩ => show (0 + 1) * 1 ≤ 2; omega
    | ⟨1, _⟩ => show ((wd (pf 1) i).toNat + 1) * 1 ≤ 32; omega
    | ⟨2, _⟩ => show (0 + 1) * 1 ≤ 1; omega
    | ⟨3, _⟩ => show (0 + 1) * 4096 ≤ 4096; omega
  · rw [tr3]
    have := h0 i
    match a with
    | ⟨0, _⟩ => show ((wd (pf 0) i).toNat + 1) * 256 ≤ 33792; omega
    | ⟨1, _⟩ => show (0 + 1) * 1 ≤ 1; omega
    | ⟨2, _⟩ => show (0 + 1) * 4096 ≤ 4096; omega

/-- The tables the region finds. -/
def tbl : pre0.Contents (Elt F) := fun k => V m 0 (pre0.ref k)

/-- The counts' words as launched. -/
abbrev cw : IVec S8x128 32 := m (((0 : Dev nD) : Thread nD τ).loc main_arg0)

theorem tbl_0 : tbl m 0 = w17 (cw m) := V_main_v17 m 0
theorem tbl_1 : tbl m 1 = w26 (cw m) := V_main_v26 m 0
theorem tbl_2 : tbl m 2 = w29 (cw m) := V_main_v29 m 0
theorem tbl_3 : tbl m 3 = w14 (cw m) := V_main_v14 m 0

variable (hm : ∀ i, cnt (cw m) i ≤ 33792)
include hm

theorem toNat_wd {g : ℕ → ℕ} {T : IVec S164 32} (h : Plan.Holds (n := 164) T g) (i : grid0.Coords) (hg : g (i 0).val < 2 ^ 32) : (wd T i).toNat = g (i 0).val := by
  have e : wd T i = BitVec.ofNat 32 (g (i 0).val) := h ⟨(i 0).val, (i 0).isLt⟩
  rw [e, BitVec.toNat_ofNat, Nat.mod_eq_of_lt hg]

theorem ok_tbl : ok0 (tbl m) := by
  refine ok_of _ (fun i => ?_) fun i => ?_
  · rw [tbl_0, toNat_wd (m := m) hm (w17_holds _ hm) i (lt_trans (Plan.tile_lt _ _) (by norm_num))]
    exact Plan.tile_lt _ _
  · rw [tbl_1, toNat_wd (m := m) hm (w26_holds _ hm) i (lt_trans (Plan.expert_lt _ _) (by norm_num))]
    exact Plan.expert_lt _ _

/-- The tables, admissible. -/
def adm : (pcfg0 (F := F)).Adm := ⟨tbl m, ok_tbl m hm⟩

/-! ## The run -/

set_option backward.isDefEq.respectTransparency.types false in
set_option maxHeartbeats 800000 in
theorem run_main_quiescent : θ_run defs (onTc (τ := τ) (main (F := F))) (s₀ m ρ)
    (fun r => Pipeline.RDat.FramePost (cfg0 (adm m hm)) (rdat (adm m hm) (V m)) (V m) r ∧ r.2.sem = fun _ => 0) :=
  Pipeline.RDat.θ_run_frameP_track (Q' := _) pcfgs (fun _ => adm m hm) (0 : Fin 1) launch0 defs₀ Variants.none (rdat (adm m hm) (V m)) m ρ main
    (hbody := body_obligation (adm m hm) (V m)) (hshare := fun c => (rdat (adm m hm) (V m) c).share_full fun _ => rfl)
    (howed := fun _ _ => rfl) (V := V m) (hmain := hmain m Variants.none) (hA := rdat_A (adm m hm) (V m))
    (hpf := fun c k => by obtain rfl : c = 0 := Subsingleton.elim _ _; rfl) (hin := enter (adm m hm) (V m)) (hout := leave (adm m hm) (V m))

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (run_main_quiescent m ρ hm)
  have hc := h.1 c
  refine ⟨(hc.2 main_arg0 (Pipeline.mem_restRefs_of main_arg0 (by decide) (show ∀ w : Fin 4, (spec0 w).arr.view.ref ≠ main_arg0 by decide))).trans (V_main_arg0 m c), ?_, ?_,
    (hc.2 main_arg3 (Pipeline.mem_restRefs_of main_arg3 (by decide) (show ∀ w : Fin 4, (spec0 w).arr.view.ref ≠ main_arg3 by decide))).trans (V_main_arg3 m c)⟩
  · exact (show r.2.mem _ = _ from (congrFun ((rdat (adm m hm) (V m) c).ArrAt_in 0 rfl _) _).mp (hc.1 0)).trans (V_main_arg1 m c)
  · exact (show r.2.mem _ = _ from (congrFun ((rdat (adm m hm) (V m) c).ArrAt_in 1 rfl _) _).mp (hc.1 1)).trans (V_main_arg2 m c)

/-- The program runs, leaves its arguments as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hm) ((θ_run defs _ _).mono (fun _ h => h.2) (run_main_quiescent m ρ hm))

end Cert.DownIdeal.Hand

end
-- ==== Proof.DownPre.lean ====
/- The precondition on the experts' counts, read: every count lies between zero and the number of the slots' rows. -/
module

public import proofs.«01_k».proof.Proof.UpPre
public import proofs.«01_k».proof.Proof.DownRun
public import proofs.«01_k».proof.Proof.DownIdealRun
public import proofs.«01_k».proof.Pre_counts_down
public import Idealize.ShloMosaic.Lib.ReduceAll

@[expose] public section

set_option maxRecDepth 16384

noncomputable section

namespace Cert.DownV

open Idealize.ShloMosaic Idealize.ShloMosaic.TcCoe Idealize.SL.Sem

/-- The side conditions the precondition's operations state. -/
theorem preFacts : Cert.Pre_counts_down.Facts := ⟨by decide, by decide, by decide, by decide, by decide⟩

/-- The bound of every count, from the precondition's word. -/
theorem bound_of_pre [hp : Cert.Pre_counts_down.Facts] {F : FTy → Type} [FloatOps F] (x : IVec Cert.Pre_counts_down.S8x128 32)
    (X : FVec F Cert.Pre_counts_down.S33792x512 .bf16) (W : FVec F Cert.Pre_counts_down.S2x32x512x4096 .f32) (B : FVec F Cert.Pre_counts_down.S2x32x4096 .f32)
    (h : Cert.Pre_counts_down.fn (F := F) x X W B ix0 = 1#1) (i : Fin 32) : (x (ValueIdx.ix2 (0 : Fin 8) ⟨i.val, by omega⟩)).toNat ≤ 33792 := by
  dsimp only [Cert.Pre_counts_down.fn] at h
  obtain ⟨h1, h2⟩ := IntOp.andi_eq_one.1 h
  have g1 := Host.reduce_andi_all _ _ _ _ _ h1 (ValueIdx.ix1 i)
  have g2 := Host.reduce_andi_all _ _ _ _ _ h2 (ValueIdx.ix1 i)
  have ex : shapeCast Cert.Pre_counts_down.S32 (extractStridedSlice Cert.Pre_counts_down.S1x32 ![0, 0] x hp.slices_S8x128_S1x32_0_0) hp.shapeCasts_S1x32_S32
      (ValueIdx.ix1 i) = x (ValueIdx.ix2 (0 : Fin 8) ⟨i.val, by omega⟩) := by
    pointwise
    rfl
  rw [← ex]
  exact Cert.UpV.word_le _ g1 g2

/-- The kernel's counts are bounded. -/
theorem down_le [hp : Cert.Pre_counts_down.Facts] {F : FTy → Type} [FloatOps F] (x : IVec Cert.Pre_counts_down.S8x128 32)
    (X : FVec F Cert.Pre_counts_down.S33792x512 .bf16) (W : FVec F Cert.Pre_counts_down.S2x32x512x4096 .f32) (B : FVec F Cert.Pre_counts_down.S2x32x4096 .f32)
    (h : Cert.Pre_counts_down.fn (F := F) x X W B = fun _ => 1#1) (i : ℕ) : Cert.Down.Hand.cnt x i ≤ 33792 := by
  unfold Cert.Down.Hand.cnt
  split
  case isTrue hi => exact bound_of_pre x X W B (congrFun h ix0) ⟨i, hi⟩
  case isFalse => exact Nat.zero_le _

/-- The idealized kernel's counts are bounded. -/
theorem downIdeal_le [hp : Cert.Pre_counts_down.Facts] {F : FTy → Type} [FloatOps F] (x : IVec Cert.Pre_counts_down.S8x128 32)
    (X : FVec F Cert.Pre_counts_down.S33792x512 .bf16) (W : FVec F Cert.Pre_counts_down.S2x32x512x4096 .f32) (B : FVec F Cert.Pre_counts_down.S2x32x4096 .f32)
    (h : Cert.Pre_counts_down.fn (F := F) x X W B = fun _ => 1#1) (i : ℕ) : Cert.DownIdeal.Hand.cnt x i ≤ 33792 := by
  unfold Cert.DownIdeal.Hand.cnt
  split
  case isTrue hi => exact bound_of_pre x X W B (congrFun h ix0) ⟨i, hi⟩
  case isFalse => exact Nat.zero_le _

end Cert.DownV

end
-- ==== Proof.DownBlock.lean ====
/- What the second half of the experts leaves in its result: each step's block at an index, then the whole array. -/
module

public import proofs.«01_k».proof.Proof.DownIdealRun
public import Idealize.ShloMosaic.Lib.Pipeline.ArrRel

@[expose] public section

set_option maxRecDepth 16384

noncomputable section

namespace Cert.DownV

open Cert.DownIdeal Cert.DownIdeal.Gen Cert.DownIdeal.Hand Idealize.ShloMosaic Idealize.ShloMosaic.TcCoe Idealize.SL.Sem

/-- The new rows of a step at an index. -/
theorem new_apply (x : Vec Ideal S256x512 .bf16) (w : Vec Ideal S1x1x512x4096 .f32) (b : Vec Ideal S1x1x1x4096 .f32) (r : Fin 256) (e : Fin 4096) :
    k0_pay1 x w b (ix2 r e) = (∑ d : Fin 512, x (ix2 r d) * w (ix4 (0 : Fin 1) (0 : Fin 1) d e)) + b (ix4 (0 : Fin 1) (0 : Fin 1) (0 : Fin 1) e) := by
  unfold k0_pay1
  pointwise

/-- Whether a word flags a step. -/
theorem flag_iff (k : Prop) [Decidable k] : (k0_cond1 (BitVec.ofNat 32 (if k then 1 else 0)) = 1#1) ↔ k := by
  by_cases hk : k
  · simp only [hk, if_true, iff_true]; decide
  · simp only [hk, if_false, iff_false]; decide

/-- A step at row `r`: a flagged step overwrites the rows from its first row on. -/
theorem step_apply (l : ℕ) (hl : l < 2 ^ 31) (k : Prop) [Decidable k] (x : Vec Ideal S256x512 .bf16) (w : Vec Ideal S1x1x512x4096 .f32) (b : Vec Ideal S1x1x1x4096 .f32)
    (B : FVec Ideal S256x4096 .f32) (r : Fin 256) (e : Fin 4096) :
    step (BitVec.ofNat 32 l) (BitVec.ofNat 32 (if k then 1 else 0)) x w b B (ix2 r e) = if k ∧ l ≤ r.val then k0_pay1 x w b (ix2 r e) else B (ix2 r e) := by
  have h1 := flag_iff k
  have h2 : (starts (BitVec.ofNat 32 l) = 1#1) ↔ l = 0 := by
    rw [← WordCmp.cmpi_eq_ofNat_eq_one_iff (w := 32) (a := l) (b := 0) (by norm_num; omega) (by norm_num)]
    simp only [starts]
    show (Scalar.cmpi .ne (Scalar.extui (IntOp.cmpi CmpIPredicate.eq (BitVec.ofNat 32 l) (BitVec.ofNat 32 0)) : BitVec 32) 0#32 = 1#1) ↔ _
    generalize IntOp.cmpi CmpIPredicate.eq (BitVec.ofNat 32 l) (BitVec.ofNat 32 0) = q
    clear hl; revert q; decide
  have h3 : (goesOn (BitVec.ofNat 32 l) = 1#1) ↔ 0 < l := by
    rw [← WordCmp.cmpi_sgt_ofNat_eq_one_iff (w := 32) (a := l) (b := 0) (by norm_num; omega) (by norm_num)]
    simp only [goesOn]
    show (Scalar.cmpi .ne (Scalar.extui (IntOp.cmpi CmpIPredicate.sgt (BitVec.ofNat 32 l) (BitVec.ofNat 32 0)) : BitVec 32) 0#32 = 1#1) ↔ _
    generalize IntOp.cmpi CmpIPredicate.sgt (BitVec.ofNat 32 l) (BitVec.ofNat 32 0) = q
    clear hl; revert q; decide
  have h4 : k0_pay2 x w b (ix2 r e) = k0_pay1 x w b (ix2 r e) := by
    unfold k0_pay2
    generalize k0_pay1 x w b = A
    pointwise
  have h5 : k0_pay3 (BitVec.ofNat 32 l) x w b B (ix2 r e) = if l ≤ r.val then k0_pay1 x w b (ix2 r e) else B (ix2 r e) := by
    unfold k0_pay3
    generalize k0_pay1 x w b = A
    pointwise
    have hc := WordCmp.cmpi_sge_ofNat_eq_one_iff (w := 32) (a := r.val) (b := l) (by have := r.isLt; norm_num; omega) (by norm_num; omega)
    unfold Scalar.select
    exact if_congr hc rfl rfl
  unfold step
  rw [if_congr h1 rfl rfl]
  by_cases hk : k
  · rw [if_pos hk]
    by_cases hz : l = 0
    · rw [if_neg (by rw [h3]; omega), if_pos (h2.2 hz), if_pos ⟨hk, by omega⟩, h4]
    · rw [if_pos (h3.2 (by omega)), if_neg (fun hh => hz (h2.1 hh)), h5]
      exact if_congr ⟨fun h => ⟨hk, h⟩, fun h => h.2⟩ rfl rfl
  · rw [if_neg hk, if_neg (fun hh => hk hh.1)]

/-- The result's block at an index: a flagged step copies the rows' buffer there. -/
theorem out_apply (k : Prop) [Decidable k] (B : FVec Ideal S256x4096 .f32) (Y : FVec Ideal S256x1x4096 .f32) (r : Fin 256) (e : Fin 4096) :
    out (BitVec.ofNat 32 (if k then 1 else 0)) B Y (ix3 r (0 : Fin 1) e) = if k then B (ix2 r e) else Y (ix3 r (0 : Fin 1) e) := by
  have h4 : k0_pay4 B (ix3 r (0 : Fin 1) e) = B (ix2 r e) := by
    unfold k0_pay4
    pointwise
  unfold out
  rw [if_congr (flag_iff k) rfl rfl]
  by_cases hk : k
  · rw [if_pos hk, if_pos hk, h4]
  · rw [if_neg hk, if_neg hk]

/-! ## The blocks a step reads and writes -/

variable (m : (ℓ : Loc nD τ sig) → Buf (Elt Ideal) ℓ) (hm : ∀ i, cnt (cw m) i ≤ 33792)

/-- The numbers of the plan: an expert's rows, and the sorted break points. -/
abbrev nf : ℕ → ℕ := cnt (cw m)
abbrev nb : ℕ → ℕ := brk (cw m)

/-- A step's number. -/
theorem coord (t : Fin (cfg0 (adm m hm)).N) : (grid0.coords t 0).val = t.val :=
  (by decide +kernel : ∀ t : Fin grid0.N, (grid0.coords t 0).val = t.val) t

theorem lt_164 (t : Fin (cfg0 (adm m hm)).N) : t.val < 164 := by
  have := (grid0.coords t 0).isLt
  rw [coord m hm t] at this
  exact this

theorem ix_0 (t : Fin (cfg0 (adm m hm)).N) : (pcfg0.win (adm m hm) 0).index t = ![Plan.tile (nb m) t.val, 0] := by
  refine (tr0 (tbl m) (grid0.coords t)).trans ?_
  rw [tbl_0, toNat_wd (m := m) hm (w17_holds _ hm) _ (lt_trans (Plan.tile_lt _ _) (by norm_num)), coord m hm t]
theorem ix_1 (t : Fin (cfg0 (adm m hm)).N) : (pcfg0.win (adm m hm) 1).index t = ![0, Plan.seg (nf m) (nb m) t.val, 0, 0] := by
  refine (tr1 (tbl m) (grid0.coords t)).trans ?_
  rw [tbl_1, toNat_wd (m := m) hm (w26_holds _ hm) _ (lt_trans (Plan.expert_lt _ _) (by norm_num)), coord m hm t]
theorem ix_2 (t : Fin (cfg0 (adm m hm)).N) : (pcfg0.win (adm m hm) 2).index t = ![0, Plan.seg (nf m) (nb m) t.val, 0, 0] := by
  refine (tr2 (tbl m) (grid0.coords t)).trans ?_
  rw [tbl_1, toNat_wd (m := m) hm (w26_holds _ hm) _ (lt_trans (Plan.expert_lt _ _) (by norm_num)), coord m hm t]
theorem ix_3 (t : Fin (cfg0 (adm m hm)).N) : (pcfg0.win (adm m hm) 3).index t = ![Plan.tile (nb m) t.val, 0, 0] := by
  refine (tr3 (tbl m) (grid0.coords t)).trans ?_
  rw [tbl_0, toNat_wd (m := m) hm (w17_holds _ hm) _ (lt_trans (Plan.tile_lt _ _) (by norm_num)), coord m hm t]

/-- Row `r` of step `t`'s tile. -/
def pn (t : Fin (cfg0 (adm m hm)).N) (r : Fin 256) : Fin 33792 :=
  ⟨256 * Plan.tile (nb m) t.val + r.val, by have := r.isLt; have := Plan.tile_lt (nb m) t.val; omega⟩

/-- Step `t`'s expert. -/
def pe (t : Fin (cfg0 (adm m hm)).N) : Fin 32 := ⟨Plan.seg (nf m) (nb m) t.val, Plan.expert_lt _ _⟩

/-- Where step `t` reads its rows … -/
theorem x_at (c : Dev nD) (t : Fin (cfg0 (adm m hm)).N) (r : Fin 256) (d : Fin 512) :
    (show FVec Ideal S256x512 .bf16 from iblk (adm m hm) (V m) c 0 t) (ix2 r d) = (m ((c : Thread nD τ).loc main_arg1)) (ix2 (pn m hm t r) d) := by
  show iblk (adm m hm) (V m) c 0 t _ = _
  rw [← V_main_arg1 m c]
  blk_ext [iblk, pn]
  · exact (congrArg (fun n : ℕ => n * 256 + r.val) (congrFun (ix_0 m hm t) (0 : Fin 2))).trans (by show Plan.tile (nb m) t.val * 256 + r.val = _; omega)
  · exact (congrArg (fun n : ℕ => n * 512 + d.val) (congrFun (ix_0 m hm t) (1 : Fin 2))).trans (by show 0 * 512 + d.val = _; omega)

/-- … its expert's weights … -/
theorem w_at (c : Dev nD) (t : Fin (cfg0 (adm m hm)).N) (d : Fin 512) (j : Fin 4096) :
    (show FVec Ideal S1x1x512x4096 .f32 from iblk (adm m hm) (V m) c 1 t) (ix4 (0 : Fin 1) (0 : Fin 1) d j) = (m ((c : Thread nD τ).loc main_arg2)) (ix4 (0 : Fin 2) (pe m hm t) d j) := by
  show iblk (adm m hm) (V m) c 1 t _ = _
  rw [← V_main_arg2 m c]
  blk_ext [iblk, pe]
  · exact congrArg (fun n : ℕ => n + 0) (congrFun (ix_1 m hm t) (0 : Fin 4))
  · exact congrArg (fun n : ℕ => n + 0) (congrFun (ix_1 m hm t) (1 : Fin 4))
  · exact (congrArg (fun n : ℕ => n * 512 + d.val) (congrFun (ix_1 m hm t) (2 : Fin 4))).trans (by show 0 * 512 + d.val = _; omega)
  · exact (congrArg (fun n : ℕ => n * 4096 + j.val) (congrFun (ix_1 m hm t) (3 : Fin 4))).trans (by show 0 * 4096 + j.val = _; omega)

/-- The bias with a row axis, at an index … -/
theorem bias_cast (B : FVec Ideal S2x32x4096 .f32) (h) (u : Fin 32) (j : Fin 4096) :
    shapeCast S2x32x1x4096 B h (ix4 (0 : Fin 2) u (0 : Fin 1) j) = B (ix3 (0 : Fin 2) u j) := by
  pointwise

set_option maxHeartbeats 1000000 in
/-- … and bias. -/
theorem b_at (c : Dev nD) (t : Fin (cfg0 (adm m hm)).N) (j : Fin 4096) :
    (show FVec Ideal S1x1x1x4096 .f32 from iblk (adm m hm) (V m) c 2 t) (ix4 (0 : Fin 1) (0 : Fin 1) (0 : Fin 1) j) = (m ((c : Thread nD τ).loc main_arg3)) (ix3 (0 : Fin 2) (pe m hm t) j) := by
  have hb : (V m c main_v30) (ix4 (0 : Fin 2) (pe m hm t) (0 : Fin 1) j) = (m ((c : Thread nD τ).loc main_arg3)) (ix3 (0 : Fin 2) (pe m hm t) j) := by
    rw [V_main_v30]
    exact bias_cast _ _ _ _
  rw [← hb]
  show iblk (adm m hm) (V m) c 2 t _ = _
  blk_ext [iblk, pe]
  · exact congrArg (fun n : ℕ => n + 0) (congrFun (ix_2 m hm t) (0 : Fin 4))
  · exact congrArg (fun n : ℕ => n + 0) (congrFun (ix_2 m hm t) (1 : Fin 4))
  · exact congrArg (fun n : ℕ => n + 0) (congrFun (ix_2 m hm t) (2 : Fin 4))
  · exact (congrArg (fun n : ℕ => n * 4096 + j.val) (congrFun (ix_2 m hm t) (3 : Fin 4))).trans (by show 0 * 4096 + j.val = _; omega)

/-! ## The result -/

attribute [local irreducible] brk cnt Plan.tile Plan.lo Plan.seg Plan.expert

/-- Row `g` of `X` against column `e` of the weights of the expert whose row it is, with its bias. -/
def val (f : ℕ → ℕ) (X : FVec Ideal S33792x512 .bf16) (W : FVec Ideal S2x32x512x4096 .f32) (B : FVec Ideal S2x32x4096 .f32)
    (g : Fin 33792) (e : Fin 4096) : EReal :=
  (∑ d : Fin 512, X (ix2 g d) * W (ix4 (0 : Fin 2) (⟨Plan.expert f g.val, Plan.expert_lt _ _⟩ : Fin 32) d e)) + B (ix3 (0 : Fin 2) (⟨Plan.expert f g.val, Plan.expert_lt _ _⟩ : Fin 32) e)

/-- The whole result array. -/
def G (f : ℕ → ℕ) (X : FVec Ideal S33792x512 .bf16) (W : FVec Ideal S2x32x512x4096 .f32) (B : FVec Ideal S2x32x4096 .f32) :
    FVec Ideal S33792x1x4096 .f32 := fun j => val f X W B (j 0) (j 2)

/-- The new rows of step `t`. -/
abbrev newAt (c : Dev nD) (t : Fin (cfg0 (adm m hm)).N) : FVec Ideal S256x4096 .f32 :=
  k0_pay1 (iblk (adm m hm) (V m) c 0 t) (iblk (adm m hm) (V m) c 1 t) (iblk (adm m hm) (V m) c 2 t)

/-- What a step computes at a row of its expert. -/
theorem newAt_apply (c : Dev nD) (t : Fin (cfg0 (adm m hm)).N) (r : Fin 256) (e : Fin 4096)
    (hu : Plan.seg (nf m) (nb m) t.val = Plan.expert (nf m) (pn m hm t r).val) :
    newAt m hm c t (ix2 r e)
      = val (nf m) (m ((c : Thread nD τ).loc main_arg1)) (m ((c : Thread nD τ).loc main_arg2)) (m ((c : Thread nD τ).loc main_arg3)) (pn m hm t r) e := by
  have hp : (⟨Plan.expert (nf m) (pn m hm t r).val, Plan.expert_lt _ _⟩ : Fin 32) = pe m hm t := Fin.ext hu.symm
  unfold val
  rw [hp]
  refine (new_apply (iblk (adm m hm) (V m) c 0 t) (iblk (adm m hm) (V m) c 1 t) (iblk (adm m hm) (V m) c 2 t) r e).trans ?_
  refine congrArg₂ (· + ·) (Finset.sum_congr rfl fun d _ => congrArg₂ (· * ·) (x_at m hm c t r d) (w_at m hm c t d e)) (b_at m hm c t e)

/-- Segment `u` holds row `g`, and is of the row's tile and expert. -/
def Own (u g : ℕ) : Prop :=
  u < 164 ∧ Plan.lo (nb m) u ≤ g ∧ g < nb m u ∧ Plan.tile (nb m) u = g / 256 ∧ Plan.seg (nf m) (nb m) u = Plan.expert (nf m) g

theorem off_le (t : ℕ) : 256 * Plan.tile (nb m) t ≤ Plan.lo (nb m) t := by
  unfold Plan.tile; omega

/-- The word of a step's first row … -/
theorem word_lo (t : Fin (cfg0 (adm m hm)).N) :
    wd ((adm m hm).1 2) (grid0.coords t) = BitVec.ofNat 32 (Plan.lo (nb m) t.val - 256 * Plan.tile (nb m) t.val) := by
  have h := w29_holds (cw m) hm ⟨(grid0.coords t 0).val, (grid0.coords t 0).isLt⟩
  have h0 : (adm m hm).1 2 = w29 (cw m) := tbl_2 m
  rw [h0]
  refine h.trans ?_
  show BitVec.ofNat 32 (Plan.lo (nb m) (grid0.coords t 0).val - 256 * Plan.tile (nb m) (grid0.coords t 0).val) = _
  rw [coord m hm t]
/-- … and of its flag. -/
theorem word_ok (t : Fin (cfg0 (adm m hm)).N) :
    wd ((adm m hm).1 3) (grid0.coords t) = BitVec.ofNat 32 (if Plan.lo (nb m) t.val < nb m t.val then 1 else 0) := by
  have h := w14_holds (cw m) hm ⟨(grid0.coords t 0).val, (grid0.coords t 0).isLt⟩
  have h0 : (adm m hm).1 3 = w14 (cw m) := tbl_3 m
  rw [h0]
  refine h.trans ?_
  show BitVec.ofNat 32 (if Plan.lo (nb m) (grid0.coords t 0).val < nb m (grid0.coords t 0).val then 1 else 0) = _
  rw [coord m hm t]

/-- The rows' buffer after a step, at an index. -/
theorem rows_next (c : Dev nD) (B : FVec Ideal S256x4096 .f32) (t : Fin (cfg0 (adm m hm)).N) (r : Fin 256) (e : Fin 4096) :
    rows (adm m hm) (V m) c B (t.val + 1) (ix2 r e)
      = if Plan.lo (nb m) t.val < nb m t.val ∧ Plan.lo (nb m) t.val - 256 * Plan.tile (nb m) t.val ≤ r.val
          then newAt m hm c t (ix2 r e) else rows (adm m hm) (V m) c B t.val (ix2 r e) := by
  have ht := lt_164 m hm t
  rw [rows_succ, word_lo, word_ok]
  refine step_apply _ ?_ _ _ _ _ _ r e
  have h : Plan.lo (nb m) t.val ≤ 1081344 := (sorted (cw m) hm).lo_le t.val ht
  omega

/-- A step is written back if its tile is not the next step's, or it is the last. -/
theorem flush_of (t : Fin (cfg0 (adm m hm)).N) (h : ∀ h : t.val + 1 < 164, Plan.tile (nb m) (t.val + 1) ≠ Plan.tile (nb m) t.val) :
    ((cfg0 (adm m hm)).win 3).flush t = true := by
  rw [Pipeline.Window.flush_out _ rfl]
  by_cases hl : t.val + 1 < 164
  · refine Or.inr ⟨hl, fun he => h hl ?_⟩
    have e1 := ix_3 m hm t
    have e2 := ix_3 m hm ⟨t.val + 1, hl⟩
    exact congrFun ((e2.symm.trans he).trans e1) (0 : Fin 3)
  · exact Or.inl (by show t.val + 1 = 164; have := lt_164 m hm t; omega)

theorem tile_of_flush (t : Fin (cfg0 (adm m hm)).N) (h : ((cfg0 (adm m hm)).win 3).flush t = true) (hl : t.val + 1 < 164) :
    Plan.tile (nb m) (t.val + 1) ≠ Plan.tile (nb m) t.val := by
  rw [Pipeline.Window.flush_out _ rfl] at h
  intro he
  rcases h with h | ⟨h, hfl⟩
  · have h164 : t.val + 1 = 164 := h
    omega
  · refine hfl ?_
    have e1 := ix_3 m hm t
    have e2 := ix_3 m hm ⟨t.val + 1, hl⟩
    refine (e2.trans ?_).trans e1.symm
    show ![Plan.tile (nb m) (t.val + 1), 0, 0] = ![Plan.tile (nb m) t.val, 0, 0]
    rw [he]

/-- What a step that continues its tile finds is what the step before left. -/
theorem finds_left (c : Dev nD) (t s : Fin (cfg0 (adm m hm)).N) (hs : s.val + 1 = t.val) (he : Plan.tile (nb m) t.val = Plan.tile (nb m) s.val)
    (Y : FVec Ideal S256x1x4096 .f32) (hY : (rdat (adm m hm) (V m) c).Finds 3 t Y) : (rdat (adm m hm) (V m) c).Leaves 3 s Y := by
  have hfe : ((cfg0 (adm m hm)).win 3).fetch t = false := rfl
  have hst : (⟨t.val - 1, Nat.lt_of_le_of_lt (Nat.sub_le _ _) t.isLt⟩ : Fin (cfg0 (adm m hm)).N) = s := Fin.ext (by show t.val - 1 = s.val; omega)
  have h := ((rdat (adm m hm) (V m) c).finds_of_pos hfe (by omega) Y).1 hY
  rw [hst] at h
  rcases h with h | h
  · exact absurd (by rw [hs]; exact he) (tile_of_flush m hm s h (by have := lt_164 m hm t; omega))
  · exact h

/-- After step `t` the rows' buffer holds the sums of every row of the step's tile that a segment up to `t` holds. -/
theorem rows_apply (c : Dev nD) (B : FVec Ideal S256x4096 .f32) (n : ℕ) : ∀ (t : Fin (cfg0 (adm m hm)).N) (ht : t.val = n)
    (r : Fin 256) (e : Fin 4096) (u : ℕ), u ≤ n → Own m u (pn m hm t r).val →
      rows (adm m hm) (V m) c B (t.val + 1) (ix2 r e) = val (nf m) (m ((c : Thread nD τ).loc main_arg1)) (m ((c : Thread nD τ).loc main_arg2)) (m ((c : Thread nD τ).loc main_arg3)) (pn m hm t r) e := by
  induction n with
  | zero =>
    intro t ht r e u hu hO
    obtain ⟨hu1, hu2, hu3, hu4, hu5⟩ := hO
    obtain rfl : u = t.val := by omega
    have hg : (pn m hm t r).val = 256 * Plan.tile (nb m) t.val + r.val := rfl
    rw [rows_next, if_pos ⟨by omega, by omega⟩]
    exact newAt_apply m hm c t r e hu5
  | succ n ih =>
    intro t ht r e u hu hO
    obtain ⟨hu1, hu2, hu3, hu4, hu5⟩ := hO
    have hg : (pn m hm t r).val = 256 * Plan.tile (nb m) t.val + r.val := rfl
    have ht164 := lt_164 m hm t
    have hr := r.isLt
    have hoff := off_le m t.val
    by_cases hut : u = t.val
    · subst hut
      rw [rows_next, if_pos ⟨by omega, by omega⟩]
      exact newAt_apply m hm c t r e hu5
    · have hS : Plan.Sorted (nf m) (nb m) := sorted (cw m) hm
      have hb : nb m u ≤ Plan.lo (nb m) t.val := hS.le_lo_of_lt u t.val (by omega) ht164
      rw [rows_next, if_neg (fun hh => by have h2 := hh.2; omega)]
      have htile : Plan.tile (nb m) u = Plan.tile (nb m) t.val := by omega
      have hn : n < (cfg0 (adm m hm)).N := by have := t.isLt; omega
      have h1 : Plan.tile (nb m) u ≤ Plan.tile (nb m) n := hS.tile_mono u n (by omega) (by omega)
      have h2 : Plan.tile (nb m) n ≤ Plan.tile (nb m) t.val := hS.tile_mono n t.val (by omega) (by omega)
      have hp : pn m hm ⟨n, hn⟩ r = pn m hm t r := Fin.ext (by
        rw [hg]; show 256 * Plan.tile (nb m) n + r.val = _; omega)
      have := ih ⟨n, hn⟩ rfl r e u (by omega) (by rw [hp]; exact ⟨hu1, hu2, hu3, hu4, hu5⟩)
      rw [hp] at this
      rw [ht]
      exact this

/-- What a step leaves, from what it finds. -/
theorem left_of (c : Dev nD) (t : Fin (cfg0 (adm m hm)).N) (X : FVec Ideal S256x1x4096 .f32) (hX : (rdat (adm m hm) (V m) c).Leaves 3 t X) :
    ∃ (Y : FVec Ideal S256x1x4096 .f32) (B : FVec Ideal S256x4096 .f32), (rdat (adm m hm) (V m) c).Finds 3 t Y ∧ ∀ (r : Fin 256) (e : Fin 4096), X (ix3 r (0 : Fin 1) e)
      = if Plan.lo (nb m) t.val < nb m t.val then rows (adm m hm) (V m) c B (t.val + 1) (ix2 r e) else Y (ix3 r (0 : Fin 1) e) := by
  obtain ⟨Y, hY, hXY⟩ := hX
  obtain ⟨B, h⟩ := (after_3 (adm m hm) (V m) c t Y X).1 hXY
  refine ⟨Y, B, hY, fun r e => (congrFun h _).trans ?_⟩
  rw [word_ok]
  exact out_apply _ _ _ r e

/-- After step `t` every row of its tile that a segment up to `t` holds has its sums in the result's block. -/
theorem leaves_apply (c : Dev nD) (n : ℕ) : ∀ (t : Fin (cfg0 (adm m hm)).N) (ht : t.val = n) (X : FVec Ideal S256x1x4096 .f32),
    (rdat (adm m hm) (V m) c).Leaves 3 t X → ∀ (r : Fin 256) (e : Fin 4096) (u : ℕ), u ≤ n → Own m u (pn m hm t r).val →
      X (ix3 r (0 : Fin 1) e) = val (nf m) (m ((c : Thread nD τ).loc main_arg1)) (m ((c : Thread nD τ).loc main_arg2)) (m ((c : Thread nD τ).loc main_arg3)) (pn m hm t r) e := by
  induction n with
  | zero =>
    intro t ht X hX r e u hu hO
    obtain ⟨Y, B, hY, hXY⟩ := left_of m hm c t X hX
    have hO' := hO
    obtain ⟨hu1, hu2, hu3, hu4, hu5⟩ := hO'
    obtain rfl : u = t.val := by omega
    rw [hXY, if_pos (by omega)]
    exact rows_apply m hm c B t.val t rfl r e t.val le_rfl hO
  | succ n ih =>
    intro t ht X hX r e u hu hO
    obtain ⟨Y, B, hY, hXY⟩ := left_of m hm c t X hX
    have hO' := hO
    obtain ⟨hu1, hu2, hu3, hu4, hu5⟩ := hO'
    have hg : (pn m hm t r).val = 256 * Plan.tile (nb m) t.val + r.val := rfl
    have ht164 := lt_164 m hm t
    have hr := r.isLt
    rw [hXY]
    by_cases hok : Plan.lo (nb m) t.val < nb m t.val
    · rw [if_pos hok]
      exact rows_apply m hm c B t.val t rfl r e u (by omega) hO
    · rw [if_neg hok]
      have hut : u ≠ t.val := fun h => by subst h; omega
      have hS : Plan.Sorted (nf m) (nb m) := sorted (cw m) hm
      have htile : Plan.tile (nb m) u = Plan.tile (nb m) t.val := by omega
      have hn : n < (cfg0 (adm m hm)).N := by have := t.isLt; omega
      have h1 : Plan.tile (nb m) u ≤ Plan.tile (nb m) n := hS.tile_mono u n (by omega) (by omega)
      have h2 : Plan.tile (nb m) n ≤ Plan.tile (nb m) t.val := hS.tile_mono n t.val (by omega) (by omega)
      have hL := finds_left m hm c t ⟨n, hn⟩ ht.symm (by show Plan.tile (nb m) t.val = Plan.tile (nb m) n; omega) Y hY
      have hp : pn m hm ⟨n, hn⟩ r = pn m hm t r := Fin.ext (by
        rw [hg]; show 256 * Plan.tile (nb m) n + r.val = _; omega)
      have := ih ⟨n, hn⟩ rfl Y hL r e u (by omega) (by rw [hp]; exact ⟨hu1, hu2, hu3, hu4, hu5⟩)
      rw [hp] at this
      exact this

/-- At a written-back step every row of the tile has its sums. -/
theorem flushed (c : Dev nD) (t : Fin (cfg0 (adm m hm)).N) (hf : ((cfg0 (adm m hm)).win 3).flush t = true) (X : FVec Ideal S256x1x4096 .f32)
    (hX : (rdat (adm m hm) (V m) c).Leaves 3 t X) (r : Fin 256) (e : Fin 4096) :
    X (ix3 r (0 : Fin 1) e) = val (nf m) (m ((c : Thread nD τ).loc main_arg1)) (m ((c : Thread nD τ).loc main_arg2)) (m ((c : Thread nD τ).loc main_arg3)) (pn m hm t r) e := by
  have hS : Plan.Sorted (nf m) (nb m) := sorted (cw m) hm
  obtain ⟨u, h1, h2, h3, h4, h5⟩ := hS.owner (pn m hm t r).val (pn m hm t r).isLt
  have ht := lt_164 m hm t
  have hr := r.isLt
  have hg : (pn m hm t r).val = 256 * Plan.tile (nb m) t.val + r.val := rfl
  refine leaves_apply m hm c t.val t rfl X hX r e u ?_ ⟨h1, h2, h3, h4, h5⟩
  by_contra hc
  have hne := tile_of_flush m hm t hf (by omega)
  have h6 : Plan.tile (nb m) t.val ≤ Plan.tile (nb m) (t.val + 1) := hS.tile_mono _ _ (by omega) (by omega)
  have h7 : Plan.tile (nb m) (t.val + 1) ≤ Plan.tile (nb m) u := hS.tile_mono _ _ (by omega) (by omega)
  omega

/-- Every tile has a written-back step. -/
theorem tile_flushed (k : ℕ) (hk : k < 132) : ∃ t : Fin (cfg0 (adm m hm)).N, ((cfg0 (adm m hm)).win 3).flush t = true ∧ Plan.tile (nb m) t.val = k := by
  classical
  have hS : Plan.Sorted (nf m) (nb m) := sorted (cw m) hm
  obtain ⟨u, h1, -, -, h4, -⟩ := hS.owner (256 * k) (by omega)
  have h4' : Plan.tile (nb m) u = k := by omega
  obtain ⟨v, ⟨hv, hvk⟩, hmax⟩ : ∃ v, (v < 164 ∧ Plan.tile (nb m) v = k) ∧ ∀ w, w < 164 → Plan.tile (nb m) w = k → w ≤ v := by
    refine ⟨Nat.findGreatest (fun v => v < 164 ∧ Plan.tile (nb m) v = k) 164, Nat.findGreatest_spec (P := fun v => v < 164 ∧ Plan.tile (nb m) v = k) (m := u) (by omega) ⟨h1, h4'⟩, fun w hw hwk => ?_⟩
    exact Nat.le_findGreatest (by omega) ⟨hw, hwk⟩
  refine ⟨⟨v, hv⟩, flush_of m hm ⟨v, hv⟩ fun hl he => ?_, hvk⟩
  have := hmax (v + 1) hl (he.trans hvk)
  omega

/-- The written-back blocks cover the result. -/
theorem covers : ((cfg0 (adm m hm)).win 3).Covers := by
  refine ⟨fun a => ?_, fun β => ?_⟩
  · exact (by decide : ∀ a : Fin 3, 0 < ![256, 1, 4096] a) a
  · have h0 : (β (0 : Fin 3)).val < 132 := lt_of_lt_of_eq (β (0 : Fin 3)).isLt (by unfold Pipeline.Window.nblk; exact (show (33792 + 256 - 1) / 256 = 132 by norm_num))
    have h1 : (β (1 : Fin 3)).val < 1 := lt_of_lt_of_eq (β (1 : Fin 3)).isLt (by unfold Pipeline.Window.nblk; exact (show (1 + 1 - 1) / 1 = 1 by norm_num))
    have h2 : (β (2 : Fin 3)).val < 1 := lt_of_lt_of_eq (β (2 : Fin 3)).isLt (by unfold Pipeline.Window.nblk; exact (show (4096 + 4096 - 1) / 4096 = 1 by norm_num))
    obtain ⟨t, hf, ht⟩ := tile_flushed m hm _ h0
    refine ⟨t, hf, fun a => ⟨?_, Or.inl ?_⟩⟩
    · match a with
      | ⟨0, _⟩ => exact (congrFun (ix_3 m hm t) (0 : Fin 3)).trans ht
      | ⟨1, _⟩ => exact (congrFun (ix_3 m hm t) (1 : Fin 3)).trans (show 0 = (β (1 : Fin 3)).val by omega)
      | ⟨2, _⟩ => exact (congrFun (ix_3 m hm t) (2 : Fin 3)).trans (show 0 = (β (2 : Fin 3)).val by omega)
    · match a with
      | ⟨0, _⟩ => rfl
      | ⟨1, _⟩ => rfl
      | ⟨2, _⟩ => rfl

/-- Where step `t` writes. -/
theorem emb_3 (t : Fin (cfg0 (adm m hm)).N) (y : S256x1x4096.Idx) :
    ((((cfg0 (adm m hm)).win 3).blk t).view.emb y : S33792x1x4096.Idx) = ix3 (pn m hm t (y 0)) (0 : Fin 1) (y 2) := by
  funext a
  match a with
  | ⟨0, _⟩ =>
    apply Fin.ext
    show _ = 256 * Plan.tile (nb m) t.val + (y 0).val
    blk_simp
    exact (congrArg (fun n : ℕ => n * 256 + (y 0).val) (congrFun (ix_3 m hm t) (0 : Fin 3))).trans (by show Plan.tile (nb m) t.val * 256 + (y 0).val = _; omega)
  | ⟨1, _⟩ => exact Subsingleton.elim (α := Fin 1) _ _
  | ⟨2, _⟩ =>
    apply Fin.ext
    show _ = (y 2).val
    blk_simp
    exact (congrArg (fun n : ℕ => n * 4096 + (y 2).val) (congrFun (ix_3 m hm t) (2 : Fin 3))).trans (by show 0 * 4096 + (y 2).val = _; omega)

/-- The result array after the run. -/
theorem result (c : Dev nD) (r : PUnit × MemSt nD τ sig (Elt Ideal)) (h : Pipeline.RDat.FramePost (cfg0 (adm m hm)) (rdat (adm m hm) (V m)) (V m) r) :
    r.2.mem ((c : Thread nD τ).loc main_v31)
      = G (nf m) (m ((c : Thread nD τ).loc main_arg1)) (m ((c : Thread nD τ).loc main_arg2)) (m ((c : Thread nD τ).loc main_arg3)) := by
  obtain ⟨after, hL, hA⟩ := h.exists_exact c
  refine (hA 3).trans ?_
  refine ((rdat (adm m hm) (V m) c).withAfter after).arrAt_eq_of_covers 3 _ (covers m hm) fun t hf y => ?_
  have key : ∀ y : S256x1x4096.Idx, after 3 t y
      = G (nf m) (m ((c : Thread nD τ).loc main_arg1)) (m ((c : Thread nD τ).loc main_arg2)) (m ((c : Thread nD τ).loc main_arg3))
          ((((cfg0 (adm m hm)).win 3).blk t).view.emb y) := fun y => by
    have hX := flushed m hm c t hf (after 3 t) (hL 3 t hf) (y 0) (y 2)
    have hy : y = ix3 (y 0) (0 : Fin 1) (y 2) := by
      funext a
      match a with
      | ⟨0, _⟩ => rfl
      | ⟨1, _⟩ => exact Subsingleton.elim (α := Fin 1) _ _
      | ⟨2, _⟩ => rfl
    refine (congrArg (after 3 t) hy).trans ?_
    exact hX.trans (congrArg (G (nf m) (m ((c : Thread nD τ).loc main_arg1)) (m ((c : Thread nD τ).loc main_arg2)) (m ((c : Thread nD τ).loc main_arg3))) (emb_3 m hm t y)).symm
  exact key y

end Cert.DownV

end
-- ==== Proof.DownRef.lean ====
/- The experts' reference, read at an index: the array the kernel of the second half leaves. -/
module

public import proofs.«01_k».proof.Proof.DownBlock
public import proofs.«01_k».proof.Proof.Gen.DownRefIdeal.Read

@[expose] public section

set_option maxRecDepth 16384

noncomputable section

namespace Cert.DownV

open Idealize.ShloMosaic Idealize.ShloMosaic.TcCoe Idealize.SL.Sem Cert.DownRefIdeal.Read
open Cert.DownIdeal.Hand (cnt w1 w1_holds)

variable (x : IVec Cert.DownRefIdeal.S8x128 32) (X : FVec Ideal Cert.DownRefIdeal.S33792x512 .bf16) (W : FVec Ideal Cert.DownRefIdeal.S2x32x512x4096 .f32)
  (B : FVec Ideal Cert.DownRefIdeal.S2x32x4096 .f32)

/-! ## Whose row a row is -/

section
variable (hx : ∀ i, cnt x i ≤ 33792)

theorem ends_at : Plan.Holds (n := 32) (val_main_v2 (F := Ideal) x) (Plan.ends (cnt x)) :=
  Plan.ends_holds _ (w1_holds x) _ rfl _ _

include hx in
/-- The expert of a row. -/
theorem owner_at (g : Fin 33792) : val_main_v12 (F := Ideal) x (ValueIdx.ix1 g) = BitVec.ofNat 32 (Plan.expert (cnt x) g.val) := by
  have hg := g.isLt
  have hc : val_main_v10 (F := Ideal) x (ValueIdx.ix1 g) = BitVec.ofNat 32 (Nat.count (fun j => Plan.ends (cnt x) j ≤ g.val) 32) := by
    unfold val_main_v10 val_main_v9
    refine Routing.reduce_count (n := 33792) (m := 32) (by norm_num) (val_main_v8 (F := Ideal) x) (by norm_num) _ _ g _ fun q => ?_
    have h3 := Plan.ends_le (cnt x) hx q.val q.isLt
    have e := ends_at x q
    have e7 : val_main_v6 (F := Ideal) x (ValueIdx.ix2 g q) = BitVec.ofNat 32 (Plan.ends (cnt x) q.val) := by
      rw [val_main_v6_apply, val_main_v4_apply]
      exact (congrArg (val_main_v2 (F := Ideal) x) (funext fun a => by match a with | ⟨0, _⟩ => rfl)).trans e
    have e8 : val_main_v7 (F := Ideal) (ValueIdx.ix2 g q) = BitVec.ofNat 32 g.val := by
      rw [val_main_v7_apply, val_main_v5_apply, val_main_v3_apply]
    rw [val_main_v8_apply, e7, e8]
    exact WordCmp.cmpi_sle_ofNat_eq_one_iff (by norm_num; omega) (by norm_num; omega)
  have h5 := Nat.count_le (p := fun j => Plan.ends (cnt x) j ≤ g.val) (n := 32)
  rw [val_main_v12_apply, val_main_v11_apply]
  refine (congrArg (fun w => IntOp.minsi w (BitVec.ofNat 32 31)) hc).trans ?_
  rw [PlanTiles.minsi_word (by norm_num; omega) (by norm_num)]
  show BitVec.ofNat 32 (min 31 (Nat.count _ 32)) = BitVec.ofNat 32 (min (Nat.count _ 32) 31)
  rw [min_comm]

include hx in
/-- The mask marks a row's own expert. -/
theorem mask_at (g : Fin 33792) (u : Fin 32) : val_main_v18 (F := Ideal) x (ix2 g u) = 1#1 ↔ Plan.expert (cnt x) g.val = u.val := by
  have he := Plan.expert_lt (cnt x) g.val
  have hu := u.isLt
  have e17 : val_main_v16 (F := Ideal) x (ix2 g u) = BitVec.ofNat 32 (Plan.expert (cnt x) g.val) := by
    rw [val_main_v16_apply, val_main_v13_apply, ← owner_at x hx g]
    exact congrArg (val_main_v12 (F := Ideal) x) (funext fun a => by match a with | ⟨0, _⟩ => rfl)
  have e18 : val_main_v17 (F := Ideal) (ix2 g u) = BitVec.ofNat 32 u.val := by
    rw [val_main_v17_apply, val_main_v15_apply, val_main_v14_apply]; rfl
  rw [val_main_v18_apply, e17, e18]
  exact WordCmp.cmpi_eq_ofNat_eq_one_iff (by norm_num; omega) (by norm_num; omega)
end

/-! ## Every expert's sums of a row -/

theorem weight_at (u : Fin 32) (k : Fin 512) (j : Fin 4096) : val_main_v21 (F := Ideal) W (ix3 u k j) = W (ix4 (0 : Fin 2) u k j) := by
  have hu := u.isLt
  have hk := k.isLt
  have hj := j.isLt
  rw [val_main_v21_apply, val_main_v20_apply]
  refine congrArg W (funext fun a => Fin.ext ?_)
  match a with
  | ⟨0, _⟩ => rfl
  | ⟨1, _⟩ => show ((u.val * 512 + k.val) * 4096 + j.val) / 2097152 % 32 = u.val; omega
  | ⟨2, _⟩ => show ((u.val * 512 + k.val) * 4096 + j.val) / 4096 % 512 = k.val; omega
  | ⟨3, _⟩ => show ((u.val * 512 + k.val) * 4096 + j.val) % 4096 = j.val; omega

theorem bias_at (g : Fin 33792) (u : Fin 32) (j : Fin 4096) : val_main_v26 (F := Ideal) B (ix3 g u j) = B (ix3 (0 : Fin 2) u j) := by
  have hu := u.isLt
  have hj := j.isLt
  rw [val_main_v26_apply, val_main_v25_apply, val_main_v24_apply, val_main_v23_apply]
  refine congrArg B (funext fun a => Fin.ext ?_)
  match a with
  | ⟨0, _⟩ => rfl
  | ⟨1, _⟩ => show (u.val * 4096 + j.val) / 4096 % 32 = u.val; omega
  | ⟨2, _⟩ => show (u.val * 4096 + j.val) % 4096 = j.val; omega

/-- Row `g` under expert `u`. -/
theorem sum_at (g : Fin 33792) (u : Fin 32) (j : Fin 4096) :
    val_main_v27 (F := Ideal) X W B (ix3 g u j) = (∑ d : Fin 512, X (ix2 g d) * W (ix4 (0 : Fin 2) u d j)) + B (ix3 (0 : Fin 2) u j) := by
  have hl : ∀ k : Fin 512, lidx_main_v22 (ix3 g u j) k = ix2 g k := fun k => funext fun a => by
    match a with
    | ⟨0, _⟩ => rfl
    | ⟨1, _⟩ => rfl
  have hr : ∀ k : Fin 512, ridx_main_v22 (ix3 g u j) k = ix3 u k j := fun k => funext fun a => by
    match a with
    | ⟨0, _⟩ => rfl
    | ⟨1, _⟩ => rfl
    | ⟨2, _⟩ => rfl
  rw [val_main_v27_apply, val_main_v22_apply, bias_at]
  simp only [hl, hr, weight_at]
  rfl

/-- THE REFERENCE'S RESULT is the array the kernel leaves. -/
theorem ref_eq (hx : ∀ i, cnt x i ≤ 33792) : val_main_v31 (F := Ideal) x X W B = G (cnt x) X W B := by
  suffices h : ∀ (g : Fin 33792) (e : Fin 4096), val_main_v30 (F := Ideal) x X W B (ix2 g e) = val (cnt x) X W B g e by
    funext j
    rw [val_main_v31_apply]
    have hj : idx_main_v31 j = ix2 (j 0) (j 2) := funext fun a => by
      match a with
      | ⟨0, _⟩ => rfl
      | ⟨1, _⟩ => rfl
    exact (congrArg _ hj).trans (h (j 0) (j 2))
  intro g e
  have he := Plan.expert_lt (cnt x) g.val
  have hs : ∀ k : Fin 32, val_main_v29 (F := Ideal) x X W B (idx_main_v30 (ix2 g e) k)
      = if k = ⟨Plan.expert (cnt x) g.val, he⟩ then val_main_v27 (F := Ideal) X W B (ix3 g k e) else 0 := fun k => by
    have hk : idx_main_v30 (ix2 g e) k = ix3 g k e := funext fun a => by
      match a with
      | ⟨0, _⟩ => rfl
      | ⟨1, _⟩ => rfl
      | ⟨2, _⟩ => rfl
    have hm : val_main_call1_v1 (F := Ideal) x (ix3 g k e) = val_main_v18 (F := Ideal) x (ix2 g k) := by
      rw [val_main_call1_v1_apply, val_main_v28_apply]
      refine congrArg _ (funext fun a => Fin.ext ?_)
      match a with
      | ⟨0, _⟩ => rfl
      | ⟨1, _⟩ => rfl
    have hz : val_main_call1_v2 (F := Ideal) (ix3 g k e) = (0 : EReal) := by
      rw [val_main_call1_v2_apply, val_main_call1_v0_apply, val_main_cst_apply]
      show Ideal.ofBits .f32 0x00000000#32 = 0
      norm_num
    rw [hk, val_main_v29_apply, hm, hz]
    unfold Scalar.select
    exact if_congr ((mask_at x hx g k).trans ⟨fun h => Fin.ext h.symm, fun h => (Fin.val_eq_of_eq h).symm⟩) rfl rfl
  have h0 : ∀ i, val_main_cst_1 (F := Ideal) i = (0 : EReal) := fun i => by
    show Ideal.ofBits .f32 0x00000000#32 = 0
    norm_num
  rw [val_main_v30_apply, h0]
  refine (zero_add _).trans ?_
  rw [Finset.sum_congr rfl fun k _ => hs k, Finset.sum_ite_eq' Finset.univ _ _, if_pos (Finset.mem_univ _), sum_at]
  rfl

end Cert.DownV

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.AttnArray
public import proofs.«01_k».proof.Proof.Gen.Outproj.Frame
public import proofs.«01_k».proof.Proof.Gen.OutprojIdeal.Frame
public import proofs.«01_k».proof.Proof.Gen.OutprojIdeal.Value
public import proofs.«01_k».proof.Proof.Gen.OutprojRefIdeal.Read
public import proofs.«01_k».proof.Proof.OutRef
public import proofs.«01_k».proof.Proof.InRef
public import proofs.«01_k».proof.Proof.GmRef
public import proofs.«01_k».proof.Proof.Gen.Up
public import proofs.«01_k».proof.Proof.Gen.Up.Skeleton
public import proofs.«01_k».proof.Proof.Gen.Up.Launch
public import proofs.«01_k».proof.Proof.Gen.UpIdeal
public import proofs.«01_k».proof.Proof.Gen.UpIdeal.Skeleton
public import proofs.«01_k».proof.Proof.Gen.UpIdeal.Launch
public import proofs.«01_k».proof.Proof.Gen.UpRefIdeal.Read
public import proofs.«01_k».proof.Proof.UpRun
public import proofs.«01_k».proof.Proof.UpPre
public import proofs.«01_k».proof.Proof.UpRef
public import proofs.«01_k».proof.Proof.Gen.Down
public import proofs.«01_k».proof.Proof.Gen.Down.Skeleton
public import proofs.«01_k».proof.Proof.Gen.Down.Launch
public import proofs.«01_k».proof.Proof.Gen.DownIdeal
public import proofs.«01_k».proof.Proof.Gen.DownIdeal.Skeleton
public import proofs.«01_k».proof.Proof.Gen.DownIdeal.Launch
public import proofs.«01_k».proof.Proof.Gen.DownRefIdeal.Read
public import proofs.«01_k».proof.Proof.DownRun
public import proofs.«01_k».proof.Proof.DownPre
public import proofs.«01_k».proof.Proof.DownRef
public import proofs.«01_k».proof.Proof.Gen.Inproj
public import proofs.«01_k».proof.Proof.Gen.Inproj.Skeleton
public import proofs.«01_k».proof.Proof.Gen.Inproj.Loops
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Loops
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojIdeal.Value
public import proofs.«01_k».proof.Proof.Gen.InprojRefIdeal.Read
public import proofs.«01_k».proof.Proof.Gen.Gmlp
public import proofs.«01_k».proof.Proof.Gen.Gmlp.Skeleton
public import proofs.«01_k».proof.Proof.Gen.Gmlp.Launch
public import proofs.«01_k».proof.Proof.Gen.Gmlp.Points
public import proofs.«01_k».proof.Proof.Gen.Gmlp.Frame
public import proofs.«01_k».proof.Proof.Gen.GmlpIdeal
public import proofs.«01_k».proof.Proof.Gen.GmlpIdeal.Skeleton
public import proofs.«01_k».proof.Proof.Gen.GmlpIdeal.Launch
public import proofs.«01_k».proof.Proof.Gen.GmlpIdeal.Points
public import proofs.«01_k».proof.Proof.Gen.GmlpIdeal.Frame
public import proofs.«01_k».proof.Proof.Gen.GmlpIdeal.Value
public import proofs.«01_k».proof.Proof.Gen.GmlpRefIdeal.Read
public import Idealize.ShloMosaic.Lib.Claim
public import Idealize.ShloMosaic.Adequacy
public import Idealize.ShloMosaic.Init

@[expose] public section

noncomputable section

namespace Cert.Proof

open Idealize.ShloMosaic Idealize.SL.Sem

/-- The attention kernel runs and leaves its arguments and its semaphores as they were. -/
theorem frame_P : Cert.quiescent_Kernel (hKernel := Cert.Kernel.Gen.facts) := fun m g _ => Cert.Kernel.Gen.frame m g

/-- … and so does its idealization, with the precondition or without. -/
theorem frame_PI : Cert.quiescent_KernelIdeal (hKernelIdeal := Cert.KernelIdeal.Gen.facts) := fun m g _ => Cert.KernelIdeal.Gen.frame m g

theorem frame_PI_pre : Cert.quiescent_KernelIdeal_pre_finite (hKernelIdeal := Cert.KernelIdeal.Gen.facts) (hPre_finite := Cert.Attn.preFacts) :=
  fun m g _ => Cert.KernelIdeal.Gen.frame m g

/-- The reference runs and leaves its arguments and its semaphores as they were. -/
theorem frame_RI : Cert.quiescent_ReferenceIdeal (hReferenceIdeal := Cert.ReferenceIdeal.Gen.facts) := by
  intro m g _
  exact (θ_run Cert.ReferenceIdeal.defs _ _).mono (fun r h => ⟨fun c => (h c).2, sem_eq_zero_of_no_sems (by decide) r.2⟩)
    (Cert.ReferenceIdeal.Value.run (F := Ideal) m g)

theorem frame_RI_pre : Cert.quiescent_ReferenceIdeal_pre_finite (hReferenceIdeal := Cert.ReferenceIdeal.Gen.facts) (hPre_finite := Cert.Attn.preFacts) :=
  fun m g _ => frame_RI m g trivial

/-- The attention kernel's result is the reference's, at finite queries and keys. -/
theorem algebraic : Cert.algebraic_KernelIdeal_ReferenceIdeal_pre_finite (hKernelIdeal := Cert.KernelIdeal.Gen.facts)
    (hReferenceIdeal := Cert.ReferenceIdeal.Gen.facts) (hPre_finite := Cert.Attn.preFacts) := by
  pair_intro
  · run_from Cert.KernelIdeal.Gen.run_main m g
  · run_from Cert.ReferenceIdeal.Value.run m' g'
    obtain ⟨h0, h1, h2⟩ := hagree c
    obtain ⟨hQ, hK⟩ := Cert.Attn.real_of_pre (hp := Cert.Attn.preFacts) _ _ _ ((congrFun (hpre c) ix0).trans rfl)
    have hs := Cert.Attn.score_real _ _ hQ hK
    rw [Cert.ReferenceIdeal.Read.val_main_v42_eq, h0, h1, h2]
    exact (Cert.Attn.ref_eq _ _ _ hs).trans (Cert.Attn.final m c hs).symm

/-- The output projection runs and leaves its arguments and its semaphores as they were. -/
theorem frame_OP : Cert.quiescent_Outproj (hOutproj := Cert.Outproj.Gen.facts) := fun m g _ => Cert.Outproj.Gen.frame m g

/-- … and so does its idealization. -/
theorem frame_OPI : Cert.quiescent_OutprojIdeal (hOutprojIdeal := Cert.OutprojIdeal.Gen.facts) := fun m g _ => Cert.OutprojIdeal.Gen.frame m g

/-- … and its reference. -/
theorem frame_ORI : Cert.quiescent_OutprojRefIdeal (hOutprojRefIdeal := Cert.OutprojRefIdeal.Gen.facts) := by
  intro m g _
  exact (θ_run Cert.OutprojRefIdeal.defs _ _).mono (fun r h => ⟨fun c => (h c).2, sem_eq_zero_of_no_sems (by decide) r.2⟩)
    (Cert.OutprojRefIdeal.Value.run (F := Ideal) m g)

/-- The output projection's result is its reference's. -/
theorem algebraic_O : Cert.algebraic_OutprojIdeal_OutprojRefIdeal (hOutprojIdeal := Cert.OutprojIdeal.Gen.facts)
    (hOutprojRefIdeal := Cert.OutprojRefIdeal.Gen.facts) := by
  pair_intro
  · run_from Cert.OutprojIdeal.Gen.run_main m g
  · run_from Cert.OutprojRefIdeal.Value.run m' g'
    obtain ⟨h0, h1, h2, h3, h4, h5, h6⟩ := hagree c
    rw [Cert.OutprojRefIdeal.Read.val_main_v18_eq, h4, h5, h6]
    exact (Cert.Out.ref_eq _ _ _ _ _ _ _).trans (Cert.Out.final m c).symm

/-- The experts' first product runs and leaves its arguments and its semaphores as they were, at counts in range. -/
theorem frame_UP : Cert.quiescent_Up (hUp := Cert.Up.Gen.facts) (hPre_counts := Cert.UpV.preFacts) := fun m g hpre =>
  Cert.Up.Hand.frame m g (Cert.UpV.up_le (hp := Cert.UpV.preFacts) _ _ _ _ (hpre 0))

/-- … and so does its idealization. -/
theorem frame_UPI : Cert.quiescent_UpIdeal (hUpIdeal := Cert.UpIdeal.Gen.facts) (hPre_counts := Cert.UpV.preFacts) := fun m g hpre =>
  Cert.UpIdeal.Hand.frame m g (Cert.UpV.upIdeal_le (hp := Cert.UpV.preFacts) _ _ _ _ (hpre 0))

/-- … and its reference, with the precondition or without. -/
theorem frame_URI : Cert.quiescent_UpRefIdeal (hUpRefIdeal := Cert.UpRefIdeal.Gen.facts) := by
  intro m g _
  exact (θ_run Cert.UpRefIdeal.defs _ _).mono (fun r h => ⟨fun c => (h c).2, sem_eq_zero_of_no_sems (by decide) r.2⟩)
    (Cert.UpRefIdeal.Value.run (F := Ideal) m g)

theorem frame_URI_pre : Cert.quiescent_UpRefIdeal_pre_counts (hUpRefIdeal := Cert.UpRefIdeal.Gen.facts) (hPre_counts := Cert.UpV.preFacts) :=
  fun m g _ => frame_URI m g trivial

/-- The experts' first product is its reference's, at counts in range. -/
theorem algebraic_U : Cert.algebraic_UpIdeal_UpRefIdeal (hUpIdeal := Cert.UpIdeal.Gen.facts)
    (hUpRefIdeal := Cert.UpRefIdeal.Gen.facts) (hPre_counts := Cert.UpV.preFacts) := by
  intro m g m' g' hpre hagree
  have hm := Cert.UpV.upIdeal_le (hp := Cert.UpV.preFacts) _ _ _ _ (hpre 0)
  refine ⟨fun c => Cert.UpV.G (Cert.UpV.nf m) (m (c.tc.loc Cert.UpIdeal.main_arg1)) (m (c.tc.loc Cert.UpIdeal.main_arg2)) (m (c.tc.loc Cert.UpIdeal.main_arg3)), ?_, ?_⟩
  · refine θ_run_mono (θ_run_and (Cert.UpIdeal.Hand.run_main_quiescent m g hm) (Cert.UpIdeal.Hand.frame m g hm)) ?_
    intro r hr c
    exact ⟨Cert.UpV.result m hm c r hr.1.1, hr.2.1 c⟩
  · refine θ_run_mono (Cert.UpRefIdeal.Value.run (F := Ideal) m' g') ?_
    intro r hr c
    refine ⟨(hr c).1.trans ?_, (hr c).2⟩
    obtain rfl : c = 0 := Subsingleton.elim _ _
    obtain ⟨h0, h1, h2, h3⟩ := hagree 0
    rw [Cert.UpRefIdeal.Read.val_main_v48_eq, h0, h1, h2, h3]
    exact Cert.UpV.ref_eq _ _ _ _ hm

/-- The experts' second product runs and leaves its arguments and its semaphores as they were, at counts in range. -/
theorem frame_DN : Cert.quiescent_Down (hDown := Cert.Down.Gen.facts) (hPre_counts_down := Cert.DownV.preFacts) := fun m g hpre =>
  Cert.Down.Hand.frame m g (Cert.DownV.down_le (hp := Cert.DownV.preFacts) _ _ _ _ (hpre 0))

/-- … and so does its idealization. -/
theorem frame_DNI : Cert.quiescent_DownIdeal (hDownIdeal := Cert.DownIdeal.Gen.facts) (hPre_counts_down := Cert.DownV.preFacts) := fun m g hpre =>
  Cert.DownIdeal.Hand.frame m g (Cert.DownV.downIdeal_le (hp := Cert.DownV.preFacts) _ _ _ _ (hpre 0))

/-- … and its reference, with the precondition or without. -/
theorem frame_DRI : Cert.quiescent_DownRefIdeal (hDownRefIdeal := Cert.DownRefIdeal.Gen.facts) := by
  intro m g _
  exact (θ_run Cert.DownRefIdeal.defs _ _).mono (fun r h => ⟨fun c => (h c).2, sem_eq_zero_of_no_sems (by decide) r.2⟩)
    (Cert.DownRefIdeal.Value.run (F := Ideal) m g)

theorem frame_DRI_pre : Cert.quiescent_DownRefIdeal_pre_counts_down (hDownRefIdeal := Cert.DownRefIdeal.Gen.facts) (hPre_counts_down := Cert.DownV.preFacts) :=
  fun m g _ => frame_DRI m g trivial

/-- The experts' second product is its reference's, at counts in range. -/
theorem algebraic_D : Cert.algebraic_DownIdeal_DownRefIdeal (hDownIdeal := Cert.DownIdeal.Gen.facts)
    (hDownRefIdeal := Cert.DownRefIdeal.Gen.facts) (hPre_counts_down := Cert.DownV.preFacts) := by
  intro m g m' g' hpre hagree
  have hm := Cert.DownV.downIdeal_le (hp := Cert.DownV.preFacts) _ _ _ _ (hpre 0)
  refine ⟨fun c => Cert.DownV.G (Cert.DownV.nf m) (m (c.tc.loc Cert.DownIdeal.main_arg1)) (m (c.tc.loc Cert.DownIdeal.main_arg2)) (m (c.tc.loc Cert.DownIdeal.main_arg3)), ?_, ?_⟩
  · refine θ_run_mono (θ_run_and (Cert.DownIdeal.Hand.run_main_quiescent m g hm) (Cert.DownIdeal.Hand.frame m g hm)) ?_
    intro r hr c
    exact ⟨Cert.DownV.result m hm c r hr.1.1, hr.2.1 c⟩
  · refine θ_run_mono (Cert.DownRefIdeal.Value.run (F := Ideal) m' g') ?_
    intro r hr c
    refine ⟨(hr c).1.trans ?_, (hr c).2⟩
    obtain rfl : c = 0 := Subsingleton.elim _ _
    obtain ⟨h0, h1, h2, h3⟩ := hagree 0
    rw [Cert.DownRefIdeal.Read.val_main_v31_eq, h0, h1, h2, h3]
    exact Cert.DownV.ref_eq _ _ _ _ hm

/-- The input projection is defined and leaves its arguments as they were … -/
theorem frame_IP : Cert.quiescent_Inproj (hInproj := Cert.Inproj.Gen.facts) := fun m g _ => Cert.Inproj.Gen.frame m g

/-- … and so does its idealization … -/
theorem frame_IPI : Cert.quiescent_InprojIdeal (hInprojIdeal := Cert.InprojIdeal.Gen.facts) := fun m g _ => Cert.InprojIdeal.Gen.frame m g

/-- … and its reference. -/
theorem frame_IRI : Cert.quiescent_InprojRefIdeal (hInprojRefIdeal := Cert.InprojRefIdeal.Gen.facts) := by
  intro m g _
  exact (θ_run Cert.InprojRefIdeal.defs _ _).mono (fun r h => ⟨fun c => (h c).2, sem_eq_zero_of_no_sems (by decide) r.2⟩)
    (Cert.InprojRefIdeal.Value.run (F := Ideal) m g)

/-- The input projection's result is its reference's. -/
theorem algebraic_I : Cert.algebraic_InprojIdeal_InprojRefIdeal (hInprojIdeal := Cert.InprojIdeal.Gen.facts)
    (hInprojRefIdeal := Cert.InprojRefIdeal.Gen.facts) := by
  pair_intro
  · run_from Cert.InprojIdeal.Gen.run_main m g
  · run_from Cert.InprojRefIdeal.Value.run m' g'
    obtain ⟨h0, h1, h2, h3⟩ := hagree c
    rw [Cert.InprojRefIdeal.Read.val_main_v41_eq, h0, h1, h2, h3]
    exact (Cert.In.ref_eq _ _ _ _).trans (Cert.In.final m c).symm

/-- The gated MLP is defined and leaves its arguments as they were … -/
theorem frame_GP : Cert.quiescent_Gmlp (hGmlp := Cert.Gmlp.Gen.facts) := fun m g _ => Cert.Gmlp.Gen.frame m g

/-- … and so does its idealization … -/
theorem frame_GPI : Cert.quiescent_GmlpIdeal (hGmlpIdeal := Cert.GmlpIdeal.Gen.facts) := fun m g _ => Cert.GmlpIdeal.Gen.frame m g

/-- … and its reference. -/
theorem frame_GRI : Cert.quiescent_GmlpRefIdeal (hGmlpRefIdeal := Cert.GmlpRefIdeal.Gen.facts) := by
  intro m g _
  exact (θ_run Cert.GmlpRefIdeal.defs _ _).mono (fun r h => ⟨fun c => (h c).2, sem_eq_zero_of_no_sems (by decide) r.2⟩)
    (Cert.GmlpRefIdeal.Value.run (F := Ideal) m g)

/-- The gated MLP's result is its reference's. -/
theorem algebraic_G : Cert.algebraic_GmlpIdeal_GmlpRefIdeal (hGmlpIdeal := Cert.GmlpIdeal.Gen.facts)
    (hGmlpRefIdeal := Cert.GmlpRefIdeal.Gen.facts) := by
  pair_intro
  · run_from Cert.GmlpIdeal.Gen.run_main m g
  · run_from Cert.GmlpRefIdeal.Value.run m' g'
    rw [Cert.GmlpRefIdeal.Read.val_main_v34_eq]
    exact (Cert.Gm.ref_eq _ _ _ _).trans (Cert.Gm.final m c).symm

theorem claim : Cert.Claim := ⟨Cert.Kernel.Gen.facts, Cert.KernelIdeal.Gen.facts, Cert.ReferenceIdeal.Gen.facts,
  Cert.Outproj.Gen.facts, Cert.OutprojIdeal.Gen.facts, Cert.OutprojRefIdeal.Gen.facts,
  Cert.Up.Gen.facts, Cert.UpIdeal.Gen.facts, Cert.UpRefIdeal.Gen.facts,
  Cert.Down.Gen.facts, Cert.DownIdeal.Gen.facts, Cert.DownRefIdeal.Gen.facts,
  Cert.Inproj.Gen.facts, Cert.InprojIdeal.Gen.facts, Cert.InprojRefIdeal.Gen.facts,
  Cert.Gmlp.Gen.facts, Cert.GmlpIdeal.Gen.facts, Cert.GmlpRefIdeal.Gen.facts, Cert.Attn.preFacts, Cert.UpV.preFacts, Cert.DownV.preFacts,
  frame_P, frame_PI, frame_PI_pre, frame_RI, frame_RI_pre, frame_OP, frame_OPI, frame_ORI, frame_UP, frame_UPI, frame_URI, frame_URI_pre,
  frame_DN, frame_DNI, frame_DRI, frame_DRI_pre, frame_IP, frame_IPI, frame_IRI, frame_GP, frame_GPI, frame_GRI, trivial, algebraic, trivial, algebraic_O, trivial, algebraic_U, trivial, algebraic_D, trivial, algebraic_I,
  trivial, algebraic_G⟩

end Cert.Proof

end
